-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S4096x2048 : Shape := ⟨2, ![4096, 2048]⟩
abbrev S4x2x64x2048 : Shape := ⟨4, ![4, 2, 64, 2048]⟩
abbrev S8x128 : Shape := ⟨2, ![8, 128]⟩
abbrev S4x8x128 : Shape := ⟨3, ![4, 8, 128]⟩
abbrev S4x2 : Shape := ⟨2, ![4, 2]⟩
abbrev S4 : Shape := ⟨1, ![4]⟩
abbrev S_ : Shape := ⟨0, ![]⟩
abbrev S256x256 : Shape := ⟨2, ![256, 256]⟩
abbrev S1x1 : Shape := ⟨2, ![1, 1]⟩
abbrev S1x1x64x2048 : Shape := ⟨4, ![1, 1, 64, 2048]⟩
abbrev S64x2048 : Shape := ⟨2, ![64, 2048]⟩
abbrev S1 : Shape := ⟨1, ![1]⟩
abbrev S128x2048 : Shape := ⟨2, ![128, 2048]⟩
abbrev S1x128x2048 : Shape := ⟨3, ![1, 128, 2048]⟩
abbrev S1x1x1 : Shape := ⟨3, ![1, 1, 1]⟩
abbrev S1x8x128 : Shape := ⟨3, ![1, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .local _ .vmem, ⟨0, _⟩ => ⟨S4096x256, .f32⟩
  | .local _ .vmem, ⟨1, _⟩ => ⟨S256x2048, .f32⟩
  | .local _ .vmem, ⟨2, _⟩ => ⟨S4096x2048, .f32⟩
  | .local _ .vmem, ⟨3, _⟩ => ⟨S4x2x64x2048, .f32⟩
  | .local _ .vmem, ⟨4, _⟩ => ⟨S4x2x64x2048, .i8⟩
  | .local _ .vmem, ⟨5, _⟩ => ⟨S4096x2048, .i8⟩
  | .local _ .vmem, ⟨6, _⟩ => ⟨S8x128, .f32⟩
  | .local _ .vmem, ⟨7, _⟩ => ⟨S4x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 5 27 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v30 : BitVec 32 := Scalar.muli v2 c256_i32
  let v31 : Index := Scalar.indexCast v30
  let c0 : Index := 0#32
  ![v31.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v30 : BitVec 32 := Scalar.muli v2 c256_i32
  let v37 : Index := Scalar.indexCast v30
  let c0_21 : Index := 0#32
  ![v37.toNat, 0]
def k0_off3 (d0 : Dev nD) (c0_i32_22 : BitVec 32) (c0_i32_30 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v39 : BitVec 32 := Scalar.subi v2 c0_i32_22
  let c16_i32_23 : BitVec 32 := 16#32
  let c0_i32_24 : BitVec 32 := 0#32
  let v40 : BitVec 1 := Scalar.cmpi .eq c16_i32_23 c0_i32_24
  let c1_i32_25 : BitVec 32 := 1#32
  let v41 : BitVec 32 := Scalar.select v40 c1_i32_25 c16_i32_23
  let v42 : BitVec 32 := Scalar.remsi v39 v41
  let c0_i32_27 : BitVec 32 := 0#32
  let v44 : BitVec 1 := Scalar.cmpi .slt v42 c0_i32_27
  let c0_i32_28 : BitVec 32 := 0#32
  let v45 : BitVec 1 := Scalar.cmpi .slt v41 c0_i32_28
  let v46 : BitVec 1 := Scalar.xori v44 v45
  let c0_i32_26 : BitVec 32 := 0#32
  let v43 : BitVec 1 := Scalar.cmpi .ne v42 c0_i32_26
  let v47 : BitVec 1 := Scalar.andi v46 v43
  let v48 : BitVec 32 := Scalar.addi v42 v41
  let v49 : BitVec 32 := Scalar.select v47 v48 v42
  let c256_i32_29 : BitVec 32 := 256#32
  let v50 : BitVec 32 := Scalar.muli v49 c256_i32_29
  let v51 : BitVec 32 := Scalar.addi v50 c0_i32_30
  let c0_i32_41 : BitVec 32 := 0#32
  ![v51.toNat, 0]
def k0_off3_at (r : Fin 8) : BitVec 32 × BitVec 32 :=
  if r.val < 4 then
    if r.val < 2 then
      if r.val < 1 then
        (0#32, 0#32)
      else
        (0#32, 64#32)
    else
      if r.val < 3 then
        (14#32, 0#32)
      else
        (14#32, 64#32)
  else
    if r.val < 6 then
      if r.val < 5 then
        (15#32, 0#32)
      else
        (15#32, 64#32)
    else
      if r.val < 7 then
        (29#32, 0#32)
      else
        (29#32, 64#32)
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_37 : BitVec 32 := 1#32
  let v52 : BitVec 32 := Scalar.muli v24 c1_i32_37
  let v53 : BitVec 32 := Scalar.addi c0_i32_38 v52
  v53.toNat
def k0_off4 (d0 : Dev nD) (c0_i32_42 : BitVec 32) (c128_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v61 : BitVec 32 := Scalar.addi v2 c0_i32_42
  let c16_i32_43 : BitVec 32 := 16#32
  let c0_i32_44 : BitVec 32 := 0#32
  let v62 : BitVec 1 := Scalar.cmpi .eq c16_i32_43 c0_i32_44
  let c1_i32_45 : BitVec 32 := 1#32
  let v63 : BitVec 32 := Scalar.select v62 c1_i32_45 c16_i32_43
  let v64 : BitVec 32 := Scalar.remsi v61 v63
  let c0_i32_47 : BitVec 32 := 0#32
  let v66 : BitVec 1 := Scalar.cmpi .slt v64 c0_i32_47
  let c0_i32_48 : BitVec 32 := 0#32
  let v67 : BitVec 1 := Scalar.cmpi .slt v63 c0_i32_48
  let v68 : BitVec 1 := Scalar.xori v66 v67
  let c0_i32_46 : BitVec 32 := 0#32
  let v65 : BitVec 1 := Scalar.cmpi .ne v64 c0_i32_46
  let v69 : BitVec 1 := Scalar.andi v68 v65
  let v70 : BitVec 32 := Scalar.addi v64 v63
  let v71 : BitVec 32 := Scalar.select v69 v70 v64
  let c256_i32_49 : BitVec 32 := 256#32
  let v72 : BitVec 32 := Scalar.muli v71 c256_i32_49
  let v73 : BitVec 32 := Scalar.addi v72 c128_i32
  let c0_i32_60 : BitVec 32 := 0#32
  ![v73.toNat, 0]
def k0_off4_at (r : Fin 8) : BitVec 32 × BitVec 32 :=
  if r.val < 4 then
    if r.val < 2 then
      if r.val < 1 then
        (0#32, 128#32)
      else
        (0#32, 192#32)
    else
      if r.val < 3 then
        (14#32, 128#32)
      else
        (14#32, 192#32)
  else
    if r.val < 6 then
      if r.val < 5 then
        (15#32, 128#32)
      else
        (15#32, 192#32)
    else
      if r.val < 7 then
        (29#32, 128#32)
      else
        (29#32, 192#32)
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_56 : BitVec 32 := 1#32
  let v74 : BitVec 32 := Scalar.muli v13 c1_i32_56
  let v75 : BitVec 32 := Scalar.addi c0_i32_57 v74
  v75.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_75 : BitVec 32 := 1#32
  let v96 : BitVec 32 := Scalar.muli v24 c1_i32_75
  let v97 : BitVec 32 := Scalar.addi c0_i32_76 v96
  v97.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_93 : BitVec 32 := 1#32
  let v118 : BitVec 32 := Scalar.muli v13 c1_i32_93
  let v119 : BitVec 32 := Scalar.addi c0_i32_94 v118
  v119.toNat
def k0_off5 (d0 : Dev nD) (c1_i32_98 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v127 : BitVec 32 := Scalar.addi v2 c1_i32_98
  let c16_i32_99 : BitVec 32 := 16#32
  let c0_i32_100 : BitVec 32 := 0#32
  let v128 : BitVec 1 := Scalar.cmpi .eq c16_i32_99 c0_i32_100
  let c1_i32_101 : BitVec 32 := 1#32
  let v129 : BitVec 32 := Scalar.select v128 c1_i32_101 c16_i32_99
  let v130 : BitVec 32 := Scalar.remsi v127 v129
  let c0_i32_103 : BitVec 32 := 0#32
  let v132 : BitVec 1 := Scalar.cmpi .slt v130 c0_i32_103
  let c0_i32_104 : BitVec 32 := 0#32
  let v133 : BitVec 1 := Scalar.cmpi .slt v129 c0_i32_104
  let v134 : BitVec 1 := Scalar.xori v132 v133
  let c0_i32_102 : BitVec 32 := 0#32
  let v131 : BitVec 1 := Scalar.cmpi .ne v130 c0_i32_102
  let v135 : BitVec 1 := Scalar.andi v134 v131
  let v136 : BitVec 32 := Scalar.addi v130 v129
  let v137 : BitVec 32 := Scalar.select v135 v136 v130
  let c256_i32_105 : BitVec 32 := 256#32
  let v138 : BitVec 32 := Scalar.muli v137 c256_i32_105
  let v139 : Index := Scalar.indexCast v138
  let c0_106 : Index := 0#32
  ![v139.toNat, 0]
def k0_off6 (d0 : Dev nD) (c1_i32_98 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v127 : BitVec 32 := Scalar.addi v2 c1_i32_98
  let c16_i32_99 : BitVec 32 := 16#32
  let c0_i32_100 : BitVec 32 := 0#32
  let v128 : BitVec 1 := Scalar.cmpi .eq c16_i32_99 c0_i32_100
  let c1_i32_101 : BitVec 32 := 1#32
  let v129 : BitVec 32 := Scalar.select v128 c1_i32_101 c16_i32_99
  let v130 : BitVec 32 := Scalar.remsi v127 v129
  let c0_i32_103 : BitVec 32 := 0#32
  let v132 : BitVec 1 := Scalar.cmpi .slt v130 c0_i32_103
  let c0_i32_104 : BitVec 32 := 0#32
  let v133 : BitVec 1 := Scalar.cmpi .slt v129 c0_i32_104
  let v134 : BitVec 1 := Scalar.xori v132 v133
  let c0_i32_102 : BitVec 32 := 0#32
  let v131 : BitVec 1 := Scalar.cmpi .ne v130 c0_i32_102
  let v135 : BitVec 1 := Scalar.andi v134 v131
  let v136 : BitVec 32 := Scalar.addi v130 v129
  let v137 : BitVec 32 := Scalar.select v135 v136 v130
  let c256_i32_105 : BitVec 32 := 256#32
  let v138 : BitVec 32 := Scalar.muli v137 c256_i32_105
  let v145 : Index := Scalar.indexCast v138
  let c0_110 : Index := 0#32
  ![v145.toNat, 0]
@[reducible] def k0_t1_loop : Scf.Loop 32 :=
  let c1_i32_281 : BitVec 32 := 1#32
  let c14_i32_282 : BitVec 32 := 14#32
  let v427 : BitVec 32 := Scalar.addi c1_i32_281 c14_i32_282
  let c1_i32_283 : BitVec 32 := 1#32
  ⟨c1_i32_281, v427, c1_i32_283⟩
def k0_off7 (k0_t1 : Fin k0_t1_loop.trips) : Fin 2 → Nat :=
  let c0_i32_952 : BitVec 32 := 0#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  ![0, v1189.toNat]
def k0_off8 (d0 : Dev nD) (k0_t1 : Fin k0_t1_loop.trips) (c0_i32_950 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_281 : BitVec 32 := 1#32
  let c1_i32_283 : BitVec 32 := 1#32
  let arg13 : BitVec 32 := Scf.iv c1_i32_281 c1_i32_283 k0_t1
  let c1_i32_942 : BitVec 32 := 1#32
  let v1191 : BitVec 32 := Scalar.subi arg13 c1_i32_942
  let v1192 : BitVec 32 := Scalar.subi v2 v1191
  let c16_i32_943 : BitVec 32 := 16#32
  let c0_i32_944 : BitVec 32 := 0#32
  let v1193 : BitVec 1 := Scalar.cmpi .eq c16_i32_943 c0_i32_944
  let c1_i32_945 : BitVec 32 := 1#32
  let v1194 : BitVec 32 := Scalar.select v1193 c1_i32_945 c16_i32_943
  let v1195 : BitVec 32 := Scalar.remsi v1192 v1194
  let c0_i32_947 : BitVec 32 := 0#32
  let v1197 : BitVec 1 := Scalar.cmpi .slt v1195 c0_i32_947
  let c0_i32_948 : BitVec 32 := 0#32
  let v1198 : BitVec 1 := Scalar.cmpi .slt v1194 c0_i32_948
  let v1199 : BitVec 1 := Scalar.xori v1197 v1198
  let c0_i32_946 : BitVec 32 := 0#32
  let v1196 : BitVec 1 := Scalar.cmpi .ne v1195 c0_i32_946
  let v1200 : BitVec 1 := Scalar.andi v1199 v1196
  let v1201 : BitVec 32 := Scalar.addi v1195 v1194
  let v1202 : BitVec 32 := Scalar.select v1200 v1201 v1195
  let c256_i32_949 : BitVec 32 := 256#32
  let v1203 : BitVec 32 := Scalar.muli v1202 c256_i32_949
  let v1204 : BitVec 32 := Scalar.addi v1203 c0_i32_950
  let c0_i32_955 : BitVec 32 := 0#32
  ![v1204.toNat, 0]
def k0_off9 (k0_t1 : Fin k0_t1_loop.trips) : Fin 4 → Nat :=
  let c0_i32_951 : BitVec 32 := 0#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  let c0_i32_956 : BitVec 32 := 0#32
  let c0_i32_957 : BitVec 32 := 0#32
  ![0, v1189.toNat, 0, 0]
def k0_off10 (d0 : Dev nD) (k0_t1 : Fin k0_t1_loop.trips) (c0_i32_975 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_281 : BitVec 32 := 1#32
  let c1_i32_283 : BitVec 32 := 1#32
  let arg13 : BitVec 32 := Scf.iv c1_i32_281 c1_i32_283 k0_t1
  let c1_i32_966 : BitVec 32 := 1#32
  let v1217 : BitVec 32 := Scalar.subi arg13 c1_i32_966
  let v1218 : BitVec 32 := Scalar.subi v2 v1217
  let c1_i32_967 : BitVec 32 := 1#32
  let v1219 : BitVec 32 := Scalar.subi v1218 c1_i32_967
  let c16_i32_968 : BitVec 32 := 16#32
  let c0_i32_969 : BitVec 32 := 0#32
  let v1220 : BitVec 1 := Scalar.cmpi .eq c16_i32_968 c0_i32_969
  let c1_i32_970 : BitVec 32 := 1#32
  let v1221 : BitVec 32 := Scalar.select v1220 c1_i32_970 c16_i32_968
  let v1222 : BitVec 32 := Scalar.remsi v1219 v1221
  let c0_i32_972 : BitVec 32 := 0#32
  let v1224 : BitVec 1 := Scalar.cmpi .slt v1222 c0_i32_972
  let c0_i32_973 : BitVec 32 := 0#32
  let v1225 : BitVec 1 := Scalar.cmpi .slt v1221 c0_i32_973
  let v1226 : BitVec 1 := Scalar.xori v1224 v1225
  let c0_i32_971 : BitVec 32 := 0#32
  let v1223 : BitVec 1 := Scalar.cmpi .ne v1222 c0_i32_971
  let v1227 : BitVec 1 := Scalar.andi v1226 v1223
  let v1228 : BitVec 32 := Scalar.addi v1222 v1221
  let v1229 : BitVec 32 := Scalar.select v1227 v1228 v1222
  let c256_i32_974 : BitVec 32 := 256#32
  let v1230 : BitVec 32 := Scalar.muli v1229 c256_i32_974
  let v1231 : BitVec 32 := Scalar.addi v1230 c0_i32_975
  let v1232 : Index := Scalar.indexCast v1231
  let c0_976 : Index := 0#32
  ![v1232.toNat, 0]
def k0_off11 (k0_t1 : Fin k0_t1_loop.trips) : Fin 4 → Nat :=
  let c0_977 : Index := 0#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  let v1235 : Index := Scalar.indexCast v1189
  let c0_978 : Index := 0#32
  let c0_979 : Index := 0#32
  ![0, v1235.toNat, 0, 0]
def k0_dev7 (d0 : Dev nD) : Nat :=
  let c0_i32_984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_983 : BitVec 32 := 1#32
  let v1243 : BitVec 32 := Scalar.muli v13 c1_i32_983
  let v1244 : BitVec 32 := Scalar.addi c0_i32_984 v1243
  v1244.toNat
def k0_off12 (k0_t1 : Fin k0_t1_loop.trips) : Fin 2 → Nat :=
  let c0_i32_997 : BitVec 32 := 0#32
  let c1_i32_281 : BitVec 32 := 1#32
  let c1_i32_283 : BitVec 32 := 1#32
  let arg13 : BitVec 32 := Scf.iv c1_i32_281 c1_i32_283 k0_t1
  let c2_i32_941 : BitVec 32 := 2#32
  let v1190 : BitVec 32 := Scalar.remsi arg13 c2_i32_941
  ![0, v1190.toNat]
def k0_off13 (k0_t1 : Fin k0_t1_loop.trips) : Fin 4 → Nat :=
  let c0_i32_995 : BitVec 32 := 0#32
  let c1_i32_281 : BitVec 32 := 1#32
  let c1_i32_283 : BitVec 32 := 1#32
  let arg13 : BitVec 32 := Scf.iv c1_i32_281 c1_i32_283 k0_t1
  let c2_i32_941 : BitVec 32 := 2#32
  let v1190 : BitVec 32 := Scalar.remsi arg13 c2_i32_941
  let c0_i32_1000 : BitVec 32 := 0#32
  let c0_i32_1001 : BitVec 32 := 0#32
  ![0, v1190.toNat, 0, 0]
def k0_off14 (d0 : Dev nD) (k0_t1 : Fin k0_t1_loop.trips) (c0_i32_994 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_281 : BitVec 32 := 1#32
  let c1_i32_283 : BitVec 32 := 1#32
  let arg13 : BitVec 32 := Scf.iv c1_i32_281 c1_i32_283 k0_t1
  let v1248 : BitVec 32 := Scalar.subi v2 arg13
  let c16_i32_987 : BitVec 32 := 16#32
  let c0_i32_988 : BitVec 32 := 0#32
  let v1249 : BitVec 1 := Scalar.cmpi .eq c16_i32_987 c0_i32_988
  let c1_i32_989 : BitVec 32 := 1#32
  let v1250 : BitVec 32 := Scalar.select v1249 c1_i32_989 c16_i32_987
  let v1251 : BitVec 32 := Scalar.remsi v1248 v1250
  let c0_i32_991 : BitVec 32 := 0#32
  let v1253 : BitVec 1 := Scalar.cmpi .slt v1251 c0_i32_991
  let c0_i32_992 : BitVec 32 := 0#32
  let v1254 : BitVec 1 := Scalar.cmpi .slt v1250 c0_i32_992
  let v1255 : BitVec 1 := Scalar.xori v1253 v1254
  let c0_i32_990 : BitVec 32 := 0#32
  let v1252 : BitVec 1 := Scalar.cmpi .ne v1251 c0_i32_990
  let v1256 : BitVec 1 := Scalar.andi v1255 v1252
  let v1257 : BitVec 32 := Scalar.addi v1251 v1250
  let v1258 : BitVec 32 := Scalar.select v1256 v1257 v1251
  let c256_i32_993 : BitVec 32 := 256#32
  let v1259 : BitVec 32 := Scalar.muli v1258 c256_i32_993
  let v1260 : BitVec 32 := Scalar.addi v1259 c0_i32_994
  let c0_i32_1002 : BitVec 32 := 0#32
  ![v1260.toNat, 0]
def k0_dev8 (d0 : Dev nD) : Nat :=
  let c0_i32_999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_998 : BitVec 32 := 1#32
  let v1261 : BitVec 32 := Scalar.muli v24 c1_i32_998
  let v1262 : BitVec 32 := Scalar.addi c0_i32_999 v1261
  v1262.toNat
def k0_off15 (k0_t1 : Fin k0_t1_loop.trips) : Fin 2 → Nat :=
  let c1_i32_1013 : BitVec 32 := 1#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  ![1, v1189.toNat]
def k0_off16 (d0 : Dev nD) (k0_t1 : Fin k0_t1_loop.trips) (c128_i32_1011 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_281 : BitVec 32 := 1#32
  let c1_i32_283 : BitVec 32 := 1#32
  let arg13 : BitVec 32 := Scf.iv c1_i32_281 c1_i32_283 k0_t1
  let c1_i32_1003 : BitVec 32 := 1#32
  let v1270 : BitVec 32 := Scalar.subi arg13 c1_i32_1003
  let v1271 : BitVec 32 := Scalar.addi v2 v1270
  let c16_i32_1004 : BitVec 32 := 16#32
  let c0_i32_1005 : BitVec 32 := 0#32
  let v1272 : BitVec 1 := Scalar.cmpi .eq c16_i32_1004 c0_i32_1005
  let c1_i32_1006 : BitVec 32 := 1#32
  let v1273 : BitVec 32 := Scalar.select v1272 c1_i32_1006 c16_i32_1004
  let v1274 : BitVec 32 := Scalar.remsi v1271 v1273
  let c0_i32_1008 : BitVec 32 := 0#32
  let v1276 : BitVec 1 := Scalar.cmpi .slt v1274 c0_i32_1008
  let c0_i32_1009 : BitVec 32 := 0#32
  let v1277 : BitVec 1 := Scalar.cmpi .slt v1273 c0_i32_1009
  let v1278 : BitVec 1 := Scalar.xori v1276 v1277
  let c0_i32_1007 : BitVec 32 := 0#32
  let v1275 : BitVec 1 := Scalar.cmpi .ne v1274 c0_i32_1007
  let v1279 : BitVec 1 := Scalar.andi v1278 v1275
  let v1280 : BitVec 32 := Scalar.addi v1274 v1273
  let v1281 : BitVec 32 := Scalar.select v1279 v1280 v1274
  let c256_i32_1010 : BitVec 32 := 256#32
  let v1282 : BitVec 32 := Scalar.muli v1281 c256_i32_1010
  let v1283 : BitVec 32 := Scalar.addi v1282 c128_i32_1011
  let c0_i32_1016 : BitVec 32 := 0#32
  ![v1283.toNat, 0]
def k0_off17 (k0_t1 : Fin k0_t1_loop.trips) : Fin 4 → Nat :=
  let c1_i32_1012 : BitVec 32 := 1#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  let c0_i32_1017 : BitVec 32 := 0#32
  let c0_i32_1018 : BitVec 32 := 0#32
  ![1, v1189.toNat, 0, 0]
def k0_off18 (d0 : Dev nD) (k0_t1 : Fin k0_t1_loop.trips) (c128_i32_1036 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_281 : BitVec 32 := 1#32
  let c1_i32_283 : BitVec 32 := 1#32
  let arg13 : BitVec 32 := Scf.iv c1_i32_281 c1_i32_283 k0_t1
  let c1_i32_1027 : BitVec 32 := 1#32
  let v1296 : BitVec 32 := Scalar.subi arg13 c1_i32_1027
  let v1297 : BitVec 32 := Scalar.addi v2 v1296
  let c1_i32_1028 : BitVec 32 := 1#32
  let v1298 : BitVec 32 := Scalar.addi v1297 c1_i32_1028
  let c16_i32_1029 : BitVec 32 := 16#32
  let c0_i32_1030 : BitVec 32 := 0#32
  let v1299 : BitVec 1 := Scalar.cmpi .eq c16_i32_1029 c0_i32_1030
  let c1_i32_1031 : BitVec 32 := 1#32
  let v1300 : BitVec 32 := Scalar.select v1299 c1_i32_1031 c16_i32_1029
  let v1301 : BitVec 32 := Scalar.remsi v1298 v1300
  let c0_i32_1033 : BitVec 32 := 0#32
  let v1303 : BitVec 1 := Scalar.cmpi .slt v1301 c0_i32_1033
  let c0_i32_1034 : BitVec 32 := 0#32
  let v1304 : BitVec 1 := Scalar.cmpi .slt v1300 c0_i32_1034
  let v1305 : BitVec 1 := Scalar.xori v1303 v1304
  let c0_i32_1032 : BitVec 32 := 0#32
  let v1302 : BitVec 1 := Scalar.cmpi .ne v1301 c0_i32_1032
  let v1306 : BitVec 1 := Scalar.andi v1305 v1302
  let v1307 : BitVec 32 := Scalar.addi v1301 v1300
  let v1308 : BitVec 32 := Scalar.select v1306 v1307 v1301
  let c256_i32_1035 : BitVec 32 := 256#32
  let v1309 : BitVec 32 := Scalar.muli v1308 c256_i32_1035
  let v1310 : BitVec 32 := Scalar.addi v1309 c128_i32_1036
  let v1311 : Index := Scalar.indexCast v1310
  let c0_1037 : Index := 0#32
  ![v1311.toNat, 0]
def k0_off19 (k0_t1 : Fin k0_t1_loop.trips) : Fin 4 → Nat :=
  let c1_1038 : Index := 1#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  let v1314 : Index := Scalar.indexCast v1189
  let c0_1039 : Index := 0#32
  let c0_1040 : Index := 0#32
  ![1, v1314.toNat, 0, 0]
def k0_dev9 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1044 : BitVec 32 := 1#32
  let v1322 : BitVec 32 := Scalar.muli v24 c1_i32_1044
  let v1323 : BitVec 32 := Scalar.addi c0_i32_1045 v1322
  v1323.toNat
def k0_off20 (k0_t1 : Fin k0_t1_loop.trips) : Fin 2 → Nat :=
  let c1_i32_1058 : BitVec 32 := 1#32
  let c1_i32_281 : BitVec 32 := 1#32
  let c1_i32_283 : BitVec 32 := 1#32
  let arg13 : BitVec 32 := Scf.iv c1_i32_281 c1_i32_283 k0_t1
  let c2_i32_941 : BitVec 32 := 2#32
  let v1190 : BitVec 32 := Scalar.remsi arg13 c2_i32_941
  ![1, v1190.toNat]
def k0_off21 (k0_t1 : Fin k0_t1_loop.trips) : Fin 4 → Nat :=
  let c1_i32_1056 : BitVec 32 := 1#32
  let c1_i32_281 : BitVec 32 := 1#32
  let c1_i32_283 : BitVec 32 := 1#32
  let arg13 : BitVec 32 := Scf.iv c1_i32_281 c1_i32_283 k0_t1
  let c2_i32_941 : BitVec 32 := 2#32
  let v1190 : BitVec 32 := Scalar.remsi arg13 c2_i32_941
  let c0_i32_1061 : BitVec 32 := 0#32
  let c0_i32_1062 : BitVec 32 := 0#32
  ![1, v1190.toNat, 0, 0]
def k0_off22 (d0 : Dev nD) (k0_t1 : Fin k0_t1_loop.trips) (c128_i32_1055 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_281 : BitVec 32 := 1#32
  let c1_i32_283 : BitVec 32 := 1#32
  let arg13 : BitVec 32 := Scf.iv c1_i32_281 c1_i32_283 k0_t1
  let v1327 : BitVec 32 := Scalar.addi v2 arg13
  let c16_i32_1048 : BitVec 32 := 16#32
  let c0_i32_1049 : BitVec 32 := 0#32
  let v1328 : BitVec 1 := Scalar.cmpi .eq c16_i32_1048 c0_i32_1049
  let c1_i32_1050 : BitVec 32 := 1#32
  let v1329 : BitVec 32 := Scalar.select v1328 c1_i32_1050 c16_i32_1048
  let v1330 : BitVec 32 := Scalar.remsi v1327 v1329
  let c0_i32_1052 : BitVec 32 := 0#32
  let v1332 : BitVec 1 := Scalar.cmpi .slt v1330 c0_i32_1052
  let c0_i32_1053 : BitVec 32 := 0#32
  let v1333 : BitVec 1 := Scalar.cmpi .slt v1329 c0_i32_1053
  let v1334 : BitVec 1 := Scalar.xori v1332 v1333
  let c0_i32_1051 : BitVec 32 := 0#32
  let v1331 : BitVec 1 := Scalar.cmpi .ne v1330 c0_i32_1051
  let v1335 : BitVec 1 := Scalar.andi v1334 v1331
  let v1336 : BitVec 32 := Scalar.addi v1330 v1329
  let v1337 : BitVec 32 := Scalar.select v1335 v1336 v1330
  let c256_i32_1054 : BitVec 32 := 256#32
  let v1338 : BitVec 32 := Scalar.muli v1337 c256_i32_1054
  let v1339 : BitVec 32 := Scalar.addi v1338 c128_i32_1055
  let c0_i32_1063 : BitVec 32 := 0#32
  ![v1339.toNat, 0]
def k0_dev10 (d0 : Dev nD) : Nat :=
  let c0_i32_1060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1059 : BitVec 32 := 1#32
  let v1340 : BitVec 32 := Scalar.muli v13 c1_i32_1059
  let v1341 : BitVec 32 := Scalar.addi c0_i32_1060 v1340
  v1341.toNat
def k0_off23 (k0_t1 : Fin k0_t1_loop.trips) : Fin 2 → Nat :=
  let c2_i32_1074 : BitVec 32 := 2#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  ![2, v1189.toNat]
def k0_off24 (k0_t1 : Fin k0_t1_loop.trips) : Fin 4 → Nat :=
  let c2_i32_1073 : BitVec 32 := 2#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  let c0_i32_1078 : BitVec 32 := 0#32
  let c0_i32_1079 : BitVec 32 := 0#32
  ![2, v1189.toNat, 0, 0]
def k0_off25 (k0_t1 : Fin k0_t1_loop.trips) : Fin 4 → Nat :=
  let c2_1099 : Index := 2#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  let v1393 : Index := Scalar.indexCast v1189
  let c0_1100 : Index := 0#32
  let c0_1101 : Index := 0#32
  ![2, v1393.toNat, 0, 0]
def k0_dev11 (d0 : Dev nD) : Nat :=
  let c0_i32_1106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1105 : BitVec 32 := 1#32
  let v1401 : BitVec 32 := Scalar.muli v13 c1_i32_1105
  let v1402 : BitVec 32 := Scalar.addi c0_i32_1106 v1401
  v1402.toNat
def k0_off26 (k0_t1 : Fin k0_t1_loop.trips) : Fin 2 → Nat :=
  let c2_i32_1119 : BitVec 32 := 2#32
  let c1_i32_281 : BitVec 32 := 1#32
  let c1_i32_283 : BitVec 32 := 1#32
  let arg13 : BitVec 32 := Scf.iv c1_i32_281 c1_i32_283 k0_t1
  let c2_i32_941 : BitVec 32 := 2#32
  let v1190 : BitVec 32 := Scalar.remsi arg13 c2_i32_941
  ![2, v1190.toNat]
def k0_off27 (k0_t1 : Fin k0_t1_loop.trips) : Fin 4 → Nat :=
  let c2_i32_1117 : BitVec 32 := 2#32
  let c1_i32_281 : BitVec 32 := 1#32
  let c1_i32_283 : BitVec 32 := 1#32
  let arg13 : BitVec 32 := Scf.iv c1_i32_281 c1_i32_283 k0_t1
  let c2_i32_941 : BitVec 32 := 2#32
  let v1190 : BitVec 32 := Scalar.remsi arg13 c2_i32_941
  let c0_i32_1122 : BitVec 32 := 0#32
  let c0_i32_1123 : BitVec 32 := 0#32
  ![2, v1190.toNat, 0, 0]
def k0_dev12 (d0 : Dev nD) : Nat :=
  let c0_i32_1121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1120 : BitVec 32 := 1#32
  let v1419 : BitVec 32 := Scalar.muli v24 c1_i32_1120
  let v1420 : BitVec 32 := Scalar.addi c0_i32_1121 v1419
  v1420.toNat
def k0_off28 (k0_t1 : Fin k0_t1_loop.trips) : Fin 2 → Nat :=
  let c3_i32_1135 : BitVec 32 := 3#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  ![3, v1189.toNat]
def k0_off29 (k0_t1 : Fin k0_t1_loop.trips) : Fin 4 → Nat :=
  let c3_i32_1134 : BitVec 32 := 3#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  let c0_i32_1139 : BitVec 32 := 0#32
  let c0_i32_1140 : BitVec 32 := 0#32
  ![3, v1189.toNat, 0, 0]
def k0_off30 (k0_t1 : Fin k0_t1_loop.trips) : Fin 4 → Nat :=
  let c3_1160 : Index := 3#32
  let c1_i32_281 : BitVec 32 := 1#32
  let c1_i32_283 : BitVec 32 := 1#32
  let arg13 : BitVec 32 := Scf.iv c1_i32_281 c1_i32_283 k0_t1
  let c1_i32_939 : BitVec 32 := 1#32
  let v1188 : BitVec 32 := Scalar.addi arg13 c1_i32_939
  let c2_i32_940 : BitVec 32 := 2#32
  let v1189 : BitVec 32 := Scalar.remsi v1188 c2_i32_940
  let v1472 : Index := Scalar.indexCast v1189
  let c0_1161 : Index := 0#32
  let c0_1162 : Index := 0#32
  ![3, v1472.toNat, 0, 0]
def k0_dev13 (d0 : Dev nD) : Nat :=
  let c0_i32_1167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1166 : BitVec 32 := 1#32
  let v1480 : BitVec 32 := Scalar.muli v24 c1_i32_1166
  let v1481 : BitVec 32 := Scalar.addi c0_i32_1167 v1480
  v1481.toNat
def k0_off31 (k0_t1 : Fin k0_t1_loop.trips) : Fin 2 → Nat :=
  let c3_i32_1180 : BitVec 32 := 3#32
  let c1_i32_281 : BitVec 32 := 1#32
  let c1_i32_283 : BitVec 32 := 1#32
  let arg13 : BitVec 32 := Scf.iv c1_i32_281 c1_i32_283 k0_t1
  let c2_i32_941 : BitVec 32 := 2#32
  let v1190 : BitVec 32 := Scalar.remsi arg13 c2_i32_941
  ![3, v1190.toNat]
def k0_off32 (k0_t1 : Fin k0_t1_loop.trips) : Fin 4 → Nat :=
  let c3_i32_1178 : BitVec 32 := 3#32
  let c1_i32_281 : BitVec 32 := 1#32
  let c1_i32_283 : BitVec 32 := 1#32
  let arg13 : BitVec 32 := Scf.iv c1_i32_281 c1_i32_283 k0_t1
  let c2_i32_941 : BitVec 32 := 2#32
  let v1190 : BitVec 32 := Scalar.remsi arg13 c2_i32_941
  let c0_i32_1183 : BitVec 32 := 0#32
  let c0_i32_1184 : BitVec 32 := 0#32
  ![3, v1190.toNat, 0, 0]
def k0_dev14 (d0 : Dev nD) : Nat :=
  let c0_i32_1182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1181 : BitVec 32 := 1#32
  let v1498 : BitVec 32 := Scalar.muli v13 c1_i32_1181
  let v1499 : BitVec 32 := Scalar.addi c0_i32_1182 v1498
  v1499.toNat
def k0_off33 (d0 : Dev nD) (c14_i32_315 : BitVec 32) (c0_i32_324 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v453 : BitVec 32 := Scalar.subi v2 c14_i32_315
  let c1_i32_316 : BitVec 32 := 1#32
  let v454 : BitVec 32 := Scalar.subi v453 c1_i32_316
  let c16_i32_317 : BitVec 32 := 16#32
  let c0_i32_318 : BitVec 32 := 0#32
  let v455 : BitVec 1 := Scalar.cmpi .eq c16_i32_317 c0_i32_318
  let c1_i32_319 : BitVec 32 := 1#32
  let v456 : BitVec 32 := Scalar.select v455 c1_i32_319 c16_i32_317
  let v457 : BitVec 32 := Scalar.remsi v454 v456
  let c0_i32_321 : BitVec 32 := 0#32
  let v459 : BitVec 1 := Scalar.cmpi .slt v457 c0_i32_321
  let c0_i32_322 : BitVec 32 := 0#32
  let v460 : BitVec 1 := Scalar.cmpi .slt v456 c0_i32_322
  let v461 : BitVec 1 := Scalar.xori v459 v460
  let c0_i32_320 : BitVec 32 := 0#32
  let v458 : BitVec 1 := Scalar.cmpi .ne v457 c0_i32_320
  let v462 : BitVec 1 := Scalar.andi v461 v458
  let v463 : BitVec 32 := Scalar.addi v457 v456
  let v464 : BitVec 32 := Scalar.select v462 v463 v457
  let c256_i32_323 : BitVec 32 := 256#32
  let v465 : BitVec 32 := Scalar.muli v464 c256_i32_323
  let v466 : BitVec 32 := Scalar.addi v465 c0_i32_324
  let v467 : Index := Scalar.indexCast v466
  let c0_325 : Index := 0#32
  ![v467.toNat, 0]
def k0_dev15 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_333 : BitVec 32 := 1#32
  let v477 : BitVec 32 := Scalar.muli v13 c1_i32_333
  let v478 : BitVec 32 := Scalar.addi c0_i32_334 v477
  v478.toNat
def k0_off34 (d0 : Dev nD) (c14_i32_365 : BitVec 32) (c128_i32_374 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v504 : BitVec 32 := Scalar.addi v2 c14_i32_365
  let c1_i32_366 : BitVec 32 := 1#32
  let v505 : BitVec 32 := Scalar.addi v504 c1_i32_366
  let c16_i32_367 : BitVec 32 := 16#32
  let c0_i32_368 : BitVec 32 := 0#32
  let v506 : BitVec 1 := Scalar.cmpi .eq c16_i32_367 c0_i32_368
  let c1_i32_369 : BitVec 32 := 1#32
  let v507 : BitVec 32 := Scalar.select v506 c1_i32_369 c16_i32_367
  let v508 : BitVec 32 := Scalar.remsi v505 v507
  let c0_i32_371 : BitVec 32 := 0#32
  let v510 : BitVec 1 := Scalar.cmpi .slt v508 c0_i32_371
  let c0_i32_372 : BitVec 32 := 0#32
  let v511 : BitVec 1 := Scalar.cmpi .slt v507 c0_i32_372
  let v512 : BitVec 1 := Scalar.xori v510 v511
  let c0_i32_370 : BitVec 32 := 0#32
  let v509 : BitVec 1 := Scalar.cmpi .ne v508 c0_i32_370
  let v513 : BitVec 1 := Scalar.andi v512 v509
  let v514 : BitVec 32 := Scalar.addi v508 v507
  let v515 : BitVec 32 := Scalar.select v513 v514 v508
  let c256_i32_373 : BitVec 32 := 256#32
  let v516 : BitVec 32 := Scalar.muli v515 c256_i32_373
  let v517 : BitVec 32 := Scalar.addi v516 c128_i32_374
  let v518 : Index := Scalar.indexCast v517
  let c0_375 : Index := 0#32
  ![v518.toNat, 0]
def k0_dev16 (d0 : Dev nD) : Nat :=
  let c0_i32_383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_382 : BitVec 32 := 1#32
  let v528 : BitVec 32 := Scalar.muli v24 c1_i32_382
  let v529 : BitVec 32 := Scalar.addi c0_i32_383 v528
  v529.toNat
def k0_dev17 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_431 : BitVec 32 := 1#32
  let v579 : BitVec 32 := Scalar.muli v13 c1_i32_431
  let v580 : BitVec 32 := Scalar.addi c0_i32_432 v579
  v580.toNat
def k0_dev18 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_480 : BitVec 32 := 1#32
  let v630 : BitVec 32 := Scalar.muli v24 c1_i32_480
  let v631 : BitVec 32 := Scalar.addi c0_i32_481 v630
  v631.toNat
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_482 : BitVec 32 := 1#32
  let v632 : BitVec 32 := Scalar.addi v2 c1_i32_482
  let c16_i32_483 : BitVec 32 := 16#32
  let c0_i32_484 : BitVec 32 := 0#32
  let v633 : BitVec 1 := Scalar.cmpi .eq c16_i32_483 c0_i32_484
  let c1_i32_485 : BitVec 32 := 1#32
  let v634 : BitVec 32 := Scalar.select v633 c1_i32_485 c16_i32_483
  let v635 : BitVec 32 := Scalar.remsi v632 v634
  let c0_i32_487 : BitVec 32 := 0#32
  let v637 : BitVec 1 := Scalar.cmpi .slt v635 c0_i32_487
  let c0_i32_488 : BitVec 32 := 0#32
  let v638 : BitVec 1 := Scalar.cmpi .slt v634 c0_i32_488
  let v639 : BitVec 1 := Scalar.xori v637 v638
  let c0_i32_486 : BitVec 32 := 0#32
  let v636 : BitVec 1 := Scalar.cmpi .ne v635 c0_i32_486
  let v640 : BitVec 1 := Scalar.andi v639 v636
  let v641 : BitVec 32 := Scalar.addi v635 v634
  let v642 : BitVec 32 := Scalar.select v640 v641 v635
  let c256_i32_489 : BitVec 32 := 256#32
  let v643 : BitVec 32 := Scalar.muli v642 c256_i32_489
  let v657 : Index := Scalar.indexCast v643
  let c0_499 : Index := 0#32
  ![v657.toNat, 0]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_490 : BitVec 32 := 1#32
  let v644 : BitVec 32 := Scalar.subi v2 c1_i32_490
  let c16_i32_491 : BitVec 32 := 16#32
  let c0_i32_492 : BitVec 32 := 0#32
  let v645 : BitVec 1 := Scalar.cmpi .eq c16_i32_491 c0_i32_492
  let c1_i32_493 : BitVec 32 := 1#32
  let v646 : BitVec 32 := Scalar.select v645 c1_i32_493 c16_i32_491
  let v647 : BitVec 32 := Scalar.remsi v644 v646
  let c0_i32_495 : BitVec 32 := 0#32
  let v649 : BitVec 1 := Scalar.cmpi .slt v647 c0_i32_495
  let c0_i32_496 : BitVec 32 := 0#32
  let v650 : BitVec 1 := Scalar.cmpi .slt v646 c0_i32_496
  let v651 : BitVec 1 := Scalar.xori v649 v650
  let c0_i32_494 : BitVec 32 := 0#32
  let v648 : BitVec 1 := Scalar.cmpi .ne v647 c0_i32_494
  let v652 : BitVec 1 := Scalar.andi v651 v648
  let v653 : BitVec 32 := Scalar.addi v647 v646
  let v654 : BitVec 32 := Scalar.select v652 v653 v647
  let c256_i32_497 : BitVec 32 := 256#32
  let v655 : BitVec 32 := Scalar.muli v654 c256_i32_497
  let c128_i32_498 : BitVec 32 := 128#32
  let v656 : BitVec 32 := Scalar.addi v655 c128_i32_498
  let v665 : Index := Scalar.indexCast v656
  let c0_501 : Index := 0#32
  ![v665.toNat, 0]
def k0_dev19 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_503 : BitVec 32 := 1#32
  let v674 : BitVec 32 := Scalar.xori v2 c1_i32_503
  let c1_i32_509 : BitVec 32 := 1#32
  let v679 : BitVec 32 := Scalar.muli v674 c1_i32_509
  let v680 : BitVec 32 := Scalar.addi c0_i32_510 v679
  v680.toNat
def k0_dev20 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_529 : BitVec 32 := 2#32
  let v700 : BitVec 32 := Scalar.xori v2 c2_i32_529
  let c1_i32_535 : BitVec 32 := 1#32
  let v705 : BitVec 32 := Scalar.muli v700 c1_i32_535
  let v706 : BitVec 32 := Scalar.addi c0_i32_536 v705
  v706.toNat
def k0_dev21 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_555 : BitVec 32 := 4#32
  let v726 : BitVec 32 := Scalar.xori v2 c4_i32_555
  let c1_i32_561 : BitVec 32 := 1#32
  let v731 : BitVec 32 := Scalar.muli v726 c1_i32_561
  let v732 : BitVec 32 := Scalar.addi c0_i32_562 v731
  v732.toNat
def k0_dev22 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_581 : BitVec 32 := 8#32
  let v752 : BitVec 32 := Scalar.xori v2 c8_i32_581
  let c1_i32_587 : BitVec 32 := 1#32
  let v757 : BitVec 32 := Scalar.muli v752 c1_i32_587
  let v758 : BitVec 32 := Scalar.addi c0_i32_588 v757
  v758.toNat
def k0_off37 (d0 : Dev nD) (c0_i32_616 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_608 : BitVec 32 := 1#32
  let v779 : BitVec 32 := Scalar.addi v2 c1_i32_608
  let c16_i32_609 : BitVec 32 := 16#32
  let c0_i32_610 : BitVec 32 := 0#32
  let v780 : BitVec 1 := Scalar.cmpi .eq c16_i32_609 c0_i32_610
  let c1_i32_611 : BitVec 32 := 1#32
  let v781 : BitVec 32 := Scalar.select v780 c1_i32_611 c16_i32_609
  let v782 : BitVec 32 := Scalar.remsi v779 v781
  let c0_i32_613 : BitVec 32 := 0#32
  let v784 : BitVec 1 := Scalar.cmpi .slt v782 c0_i32_613
  let c0_i32_614 : BitVec 32 := 0#32
  let v785 : BitVec 1 := Scalar.cmpi .slt v781 c0_i32_614
  let v786 : BitVec 1 := Scalar.xori v784 v785
  let c0_i32_612 : BitVec 32 := 0#32
  let v783 : BitVec 1 := Scalar.cmpi .ne v782 c0_i32_612
  let v787 : BitVec 1 := Scalar.andi v786 v783
  let v788 : BitVec 32 := Scalar.addi v782 v781
  let v789 : BitVec 32 := Scalar.select v787 v788 v782
  let c256_i32_615 : BitVec 32 := 256#32
  let v790 : BitVec 32 := Scalar.muli v789 c256_i32_615
  let v791 : BitVec 32 := Scalar.addi v790 c0_i32_616
  let v792 : Index := Scalar.indexCast v791
  let c0_617 : Index := 0#32
  ![v792.toNat, 0]
def k0_off38 (d0 : Dev nD) (c128_i32_630 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_622 : BitVec 32 := 1#32
  let v811 : BitVec 32 := Scalar.subi v2 c1_i32_622
  let c16_i32_623 : BitVec 32 := 16#32
  let c0_i32_624 : BitVec 32 := 0#32
  let v812 : BitVec 1 := Scalar.cmpi .eq c16_i32_623 c0_i32_624
  let c1_i32_625 : BitVec 32 := 1#32
  let v813 : BitVec 32 := Scalar.select v812 c1_i32_625 c16_i32_623
  let v814 : BitVec 32 := Scalar.remsi v811 v813
  let c0_i32_627 : BitVec 32 := 0#32
  let v816 : BitVec 1 := Scalar.cmpi .slt v814 c0_i32_627
  let c0_i32_628 : BitVec 32 := 0#32
  let v817 : BitVec 1 := Scalar.cmpi .slt v813 c0_i32_628
  let v818 : BitVec 1 := Scalar.xori v816 v817
  let c0_i32_626 : BitVec 32 := 0#32
  let v815 : BitVec 1 := Scalar.cmpi .ne v814 c0_i32_626
  let v819 : BitVec 1 := Scalar.andi v818 v815
  let v820 : BitVec 32 := Scalar.addi v814 v813
  let v821 : BitVec 32 := Scalar.select v819 v820 v814
  let c256_i32_629 : BitVec 32 := 256#32
  let v822 : BitVec 32 := Scalar.muli v821 c256_i32_629
  let v823 : BitVec 32 := Scalar.addi v822 c128_i32_630
  let v824 : Index := Scalar.indexCast v823
  let c0_631 : Index := 0#32
  ![v824.toNat, 0]
def k0_dev23 (d0 : Dev nD) : Nat :=
  let c0_i32_683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_682 : BitVec 32 := 1#32
  let v922 : BitVec 32 := Scalar.muli v24 c1_i32_682
  let v923 : BitVec 32 := Scalar.addi c0_i32_683 v922
  v923.toNat
def k0_dev24 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_705 : BitVec 32 := 1#32
  let v946 : BitVec 32 := Scalar.muli v13 c1_i32_705
  let v947 : BitVec 32 := Scalar.addi c0_i32_706 v946
  v947.toNat
def k0_dev25 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_728 : BitVec 32 := 1#32
  let v970 : BitVec 32 := Scalar.muli v24 c1_i32_728
  let v971 : BitVec 32 := Scalar.addi c0_i32_729 v970
  v971.toNat
def k0_dev26 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_751 : BitVec 32 := 1#32
  let v994 : BitVec 32 := Scalar.muli v13 c1_i32_751
  let v995 : BitVec 32 := Scalar.addi c0_i32_752 v994
  v995.toNat
@[reducible] def k0_t2_loop : Scf.Loop 32 :=
  let c16_i32_756 : BitVec 32 := 16#32
  let c14_i32_757 : BitVec 32 := 14#32
  let v1003 : BitVec 32 := Scalar.addi c16_i32_756 c14_i32_757
  let c1_i32_758 : BitVec 32 := 1#32
  ⟨c16_i32_756, v1003, c1_i32_758⟩
def k0_off39 (k0_t2 : Fin k0_t2_loop.trips) : Fin 2 → Nat :=
  let c0_i32_952 : BitVec 32 := 0#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  ![0, v1189.toNat]
def k0_off40 (d0 : Dev nD) (k0_t2 : Fin k0_t2_loop.trips) (c0_i32_950 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_756 : BitVec 32 := 16#32
  let c1_i32_758 : BitVec 32 := 1#32
  let arg13 : BitVec 32 := Scf.iv c16_i32_756 c1_i32_758 k0_t2
  let c1_i32_942 : BitVec 32 := 1#32
  let v1191 : BitVec 32 := Scalar.subi arg13 c1_i32_942
  let v1192 : BitVec 32 := Scalar.subi v2 v1191
  let c16_i32_943 : BitVec 32 := 16#32
  let c0_i32_944 : BitVec 32 := 0#32
  let v1193 : BitVec 1 := Scalar.cmpi .eq c16_i32_943 c0_i32_944
  let c1_i32_945 : BitVec 32 := 1#32
  let v1194 : BitVec 32 := Scalar.select v1193 c1_i32_945 c16_i32_943
  let v1195 : BitVec 32 := Scalar.remsi v1192 v1194
  let c0_i32_947 : BitVec 32 := 0#32
  let v1197 : BitVec 1 := Scalar.cmpi .slt v1195 c0_i32_947
  let c0_i32_948 : BitVec 32 := 0#32
  let v1198 : BitVec 1 := Scalar.cmpi .slt v1194 c0_i32_948
  let v1199 : BitVec 1 := Scalar.xori v1197 v1198
  let c0_i32_946 : BitVec 32 := 0#32
  let v1196 : BitVec 1 := Scalar.cmpi .ne v1195 c0_i32_946
  let v1200 : BitVec 1 := Scalar.andi v1199 v1196
  let v1201 : BitVec 32 := Scalar.addi v1195 v1194
  let v1202 : BitVec 32 := Scalar.select v1200 v1201 v1195
  let c256_i32_949 : BitVec 32 := 256#32
  let v1203 : BitVec 32 := Scalar.muli v1202 c256_i32_949
  let v1204 : BitVec 32 := Scalar.addi v1203 c0_i32_950
  let c0_i32_955 : BitVec 32 := 0#32
  ![v1204.toNat, 0]
def k0_off41 (k0_t2 : Fin k0_t2_loop.trips) : Fin 4 → Nat :=
  let c0_i32_951 : BitVec 32 := 0#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  let c0_i32_956 : BitVec 32 := 0#32
  let c0_i32_957 : BitVec 32 := 0#32
  ![0, v1189.toNat, 0, 0]
def k0_off42 (k0_t2 : Fin k0_t2_loop.trips) : Fin 4 → Nat :=
  let c0_976 : Index := 0#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  let v1232 : Index := Scalar.indexCast v1189
  let c0_977 : Index := 0#32
  let c0_978 : Index := 0#32
  ![0, v1232.toNat, 0, 0]
def k0_off43 (d0 : Dev nD) (k0_t2 : Fin k0_t2_loop.trips) (c0_i32_975 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_756 : BitVec 32 := 16#32
  let c1_i32_758 : BitVec 32 := 1#32
  let arg13 : BitVec 32 := Scf.iv c16_i32_756 c1_i32_758 k0_t2
  let c1_i32_966 : BitVec 32 := 1#32
  let v1217 : BitVec 32 := Scalar.subi arg13 c1_i32_966
  let v1218 : BitVec 32 := Scalar.subi v2 v1217
  let c1_i32_967 : BitVec 32 := 1#32
  let v1219 : BitVec 32 := Scalar.subi v1218 c1_i32_967
  let c16_i32_968 : BitVec 32 := 16#32
  let c0_i32_969 : BitVec 32 := 0#32
  let v1220 : BitVec 1 := Scalar.cmpi .eq c16_i32_968 c0_i32_969
  let c1_i32_970 : BitVec 32 := 1#32
  let v1221 : BitVec 32 := Scalar.select v1220 c1_i32_970 c16_i32_968
  let v1222 : BitVec 32 := Scalar.remsi v1219 v1221
  let c0_i32_972 : BitVec 32 := 0#32
  let v1224 : BitVec 1 := Scalar.cmpi .slt v1222 c0_i32_972
  let c0_i32_973 : BitVec 32 := 0#32
  let v1225 : BitVec 1 := Scalar.cmpi .slt v1221 c0_i32_973
  let v1226 : BitVec 1 := Scalar.xori v1224 v1225
  let c0_i32_971 : BitVec 32 := 0#32
  let v1223 : BitVec 1 := Scalar.cmpi .ne v1222 c0_i32_971
  let v1227 : BitVec 1 := Scalar.andi v1226 v1223
  let v1228 : BitVec 32 := Scalar.addi v1222 v1221
  let v1229 : BitVec 32 := Scalar.select v1227 v1228 v1222
  let c256_i32_974 : BitVec 32 := 256#32
  let v1230 : BitVec 32 := Scalar.muli v1229 c256_i32_974
  let v1231 : BitVec 32 := Scalar.addi v1230 c0_i32_975
  let v1235 : Index := Scalar.indexCast v1231
  let c0_979 : Index := 0#32
  ![v1235.toNat, 0]
def k0_cond5 (k0_t2 : Fin k0_t2_loop.trips) : BitVec 1 :=
  let c16_i32_756 : BitVec 32 := 16#32
  let c1_i32_758 : BitVec 32 := 1#32
  let arg13 : BitVec 32 := Scf.iv c16_i32_756 c1_i32_758 k0_t2
  let c1_i32_981 : BitVec 32 := 1#32
  let v1244 : BitVec 32 := Scalar.subi arg13 c1_i32_981
  let c27_i32 : BitVec 32 := 27#32
  let v1245 : BitVec 1 := Scalar.cmpi .sle v1244 c27_i32
  let v1246 : BitVec 32 := Scalar.extui v1245
  let c0_i32_982 : BitVec 32 := 0#32
  let v1247 : BitVec 1 := Scalar.cmpi .ne v1246 c0_i32_982
  v1247

def k0_dev27 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1187 : BitVec 32 := 1#32
  let v1517 : BitVec 32 := Scalar.muli v13 c1_i32_1187
  let v1518 : BitVec 32 := Scalar.addi c0_i32_1188 v1517
  v1518.toNat
def k0_off44 (k0_t2 : Fin k0_t2_loop.trips) : Fin 2 → Nat :=
  let c0_i32_996 : BitVec 32 := 0#32
  let c16_i32_756 : BitVec 32 := 16#32
  let c1_i32_758 : BitVec 32 := 1#32
  let arg13 : BitVec 32 := Scf.iv c16_i32_756 c1_i32_758 k0_t2
  let c2_i32_941 : BitVec 32 := 2#32
  let v1190 : BitVec 32 := Scalar.remsi arg13 c2_i32_941
  ![0, v1190.toNat]
def k0_off45 (k0_t2 : Fin k0_t2_loop.trips) : Fin 4 → Nat :=
  let c0_i32_994 : BitVec 32 := 0#32
  let c16_i32_756 : BitVec 32 := 16#32
  let c1_i32_758 : BitVec 32 := 1#32
  let arg13 : BitVec 32 := Scf.iv c16_i32_756 c1_i32_758 k0_t2
  let c2_i32_941 : BitVec 32 := 2#32
  let v1190 : BitVec 32 := Scalar.remsi arg13 c2_i32_941
  let c0_i32_999 : BitVec 32 := 0#32
  let c0_i32_1000 : BitVec 32 := 0#32
  ![0, v1190.toNat, 0, 0]
def k0_off46 (d0 : Dev nD) (k0_t2 : Fin k0_t2_loop.trips) (c0_i32_993 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_756 : BitVec 32 := 16#32
  let c1_i32_758 : BitVec 32 := 1#32
  let arg13 : BitVec 32 := Scf.iv c16_i32_756 c1_i32_758 k0_t2
  let v1250 : BitVec 32 := Scalar.subi v2 arg13
  let c16_i32_986 : BitVec 32 := 16#32
  let c0_i32_987 : BitVec 32 := 0#32
  let v1251 : BitVec 1 := Scalar.cmpi .eq c16_i32_986 c0_i32_987
  let c1_i32_988 : BitVec 32 := 1#32
  let v1252 : BitVec 32 := Scalar.select v1251 c1_i32_988 c16_i32_986
  let v1253 : BitVec 32 := Scalar.remsi v1250 v1252
  let c0_i32_990 : BitVec 32 := 0#32
  let v1255 : BitVec 1 := Scalar.cmpi .slt v1253 c0_i32_990
  let c0_i32_991 : BitVec 32 := 0#32
  let v1256 : BitVec 1 := Scalar.cmpi .slt v1252 c0_i32_991
  let v1257 : BitVec 1 := Scalar.xori v1255 v1256
  let c0_i32_989 : BitVec 32 := 0#32
  let v1254 : BitVec 1 := Scalar.cmpi .ne v1253 c0_i32_989
  let v1258 : BitVec 1 := Scalar.andi v1257 v1254
  let v1259 : BitVec 32 := Scalar.addi v1253 v1252
  let v1260 : BitVec 32 := Scalar.select v1258 v1259 v1253
  let c256_i32_992 : BitVec 32 := 256#32
  let v1261 : BitVec 32 := Scalar.muli v1260 c256_i32_992
  let v1262 : BitVec 32 := Scalar.addi v1261 c0_i32_993
  let c0_i32_1001 : BitVec 32 := 0#32
  ![v1262.toNat, 0]
def k0_dev28 (d0 : Dev nD) : Nat :=
  let c0_i32_998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_997 : BitVec 32 := 1#32
  let v1263 : BitVec 32 := Scalar.muli v24 c1_i32_997
  let v1264 : BitVec 32 := Scalar.addi c0_i32_998 v1263
  v1264.toNat
def k0_off47 (k0_t2 : Fin k0_t2_loop.trips) : Fin 2 → Nat :=
  let c1_i32_1012 : BitVec 32 := 1#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  ![1, v1189.toNat]
def k0_off48 (d0 : Dev nD) (k0_t2 : Fin k0_t2_loop.trips) (c128_i32_1010 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_756 : BitVec 32 := 16#32
  let c1_i32_758 : BitVec 32 := 1#32
  let arg13 : BitVec 32 := Scf.iv c16_i32_756 c1_i32_758 k0_t2
  let c1_i32_1002 : BitVec 32 := 1#32
  let v1272 : BitVec 32 := Scalar.subi arg13 c1_i32_1002
  let v1273 : BitVec 32 := Scalar.addi v2 v1272
  let c16_i32_1003 : BitVec 32 := 16#32
  let c0_i32_1004 : BitVec 32 := 0#32
  let v1274 : BitVec 1 := Scalar.cmpi .eq c16_i32_1003 c0_i32_1004
  let c1_i32_1005 : BitVec 32 := 1#32
  let v1275 : BitVec 32 := Scalar.select v1274 c1_i32_1005 c16_i32_1003
  let v1276 : BitVec 32 := Scalar.remsi v1273 v1275
  let c0_i32_1007 : BitVec 32 := 0#32
  let v1278 : BitVec 1 := Scalar.cmpi .slt v1276 c0_i32_1007
  let c0_i32_1008 : BitVec 32 := 0#32
  let v1279 : BitVec 1 := Scalar.cmpi .slt v1275 c0_i32_1008
  let v1280 : BitVec 1 := Scalar.xori v1278 v1279
  let c0_i32_1006 : BitVec 32 := 0#32
  let v1277 : BitVec 1 := Scalar.cmpi .ne v1276 c0_i32_1006
  let v1281 : BitVec 1 := Scalar.andi v1280 v1277
  let v1282 : BitVec 32 := Scalar.addi v1276 v1275
  let v1283 : BitVec 32 := Scalar.select v1281 v1282 v1276
  let c256_i32_1009 : BitVec 32 := 256#32
  let v1284 : BitVec 32 := Scalar.muli v1283 c256_i32_1009
  let v1285 : BitVec 32 := Scalar.addi v1284 c128_i32_1010
  let c0_i32_1015 : BitVec 32 := 0#32
  ![v1285.toNat, 0]
def k0_off49 (k0_t2 : Fin k0_t2_loop.trips) : Fin 4 → Nat :=
  let c1_i32_1011 : BitVec 32 := 1#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  let c0_i32_1016 : BitVec 32 := 0#32
  let c0_i32_1017 : BitVec 32 := 0#32
  ![1, v1189.toNat, 0, 0]
def k0_off50 (k0_t2 : Fin k0_t2_loop.trips) : Fin 4 → Nat :=
  let c1_1036 : Index := 1#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  let v1313 : Index := Scalar.indexCast v1189
  let c0_1037 : Index := 0#32
  let c0_1038 : Index := 0#32
  ![1, v1313.toNat, 0, 0]
def k0_off51 (d0 : Dev nD) (k0_t2 : Fin k0_t2_loop.trips) (c128_i32_1035 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_756 : BitVec 32 := 16#32
  let c1_i32_758 : BitVec 32 := 1#32
  let arg13 : BitVec 32 := Scf.iv c16_i32_756 c1_i32_758 k0_t2
  let c1_i32_1026 : BitVec 32 := 1#32
  let v1298 : BitVec 32 := Scalar.subi arg13 c1_i32_1026
  let v1299 : BitVec 32 := Scalar.addi v2 v1298
  let c1_i32_1027 : BitVec 32 := 1#32
  let v1300 : BitVec 32 := Scalar.addi v1299 c1_i32_1027
  let c16_i32_1028 : BitVec 32 := 16#32
  let c0_i32_1029 : BitVec 32 := 0#32
  let v1301 : BitVec 1 := Scalar.cmpi .eq c16_i32_1028 c0_i32_1029
  let c1_i32_1030 : BitVec 32 := 1#32
  let v1302 : BitVec 32 := Scalar.select v1301 c1_i32_1030 c16_i32_1028
  let v1303 : BitVec 32 := Scalar.remsi v1300 v1302
  let c0_i32_1032 : BitVec 32 := 0#32
  let v1305 : BitVec 1 := Scalar.cmpi .slt v1303 c0_i32_1032
  let c0_i32_1033 : BitVec 32 := 0#32
  let v1306 : BitVec 1 := Scalar.cmpi .slt v1302 c0_i32_1033
  let v1307 : BitVec 1 := Scalar.xori v1305 v1306
  let c0_i32_1031 : BitVec 32 := 0#32
  let v1304 : BitVec 1 := Scalar.cmpi .ne v1303 c0_i32_1031
  let v1308 : BitVec 1 := Scalar.andi v1307 v1304
  let v1309 : BitVec 32 := Scalar.addi v1303 v1302
  let v1310 : BitVec 32 := Scalar.select v1308 v1309 v1303
  let c256_i32_1034 : BitVec 32 := 256#32
  let v1311 : BitVec 32 := Scalar.muli v1310 c256_i32_1034
  let v1312 : BitVec 32 := Scalar.addi v1311 c128_i32_1035
  let v1316 : Index := Scalar.indexCast v1312
  let c0_1039 : Index := 0#32
  ![v1316.toNat, 0]
def k0_cond6 (k0_t2 : Fin k0_t2_loop.trips) : BitVec 1 :=
  let c16_i32_756 : BitVec 32 := 16#32
  let c1_i32_758 : BitVec 32 := 1#32
  let arg13 : BitVec 32 := Scf.iv c16_i32_756 c1_i32_758 k0_t2
  let c1_i32_1041 : BitVec 32 := 1#32
  let v1325 : BitVec 32 := Scalar.subi arg13 c1_i32_1041
  let c27_i32_1042 : BitVec 32 := 27#32
  let v1326 : BitVec 1 := Scalar.cmpi .sle v1325 c27_i32_1042
  let v1327 : BitVec 32 := Scalar.extui v1326
  let c0_i32_1043 : BitVec 32 := 0#32
  let v1328 : BitVec 1 := Scalar.cmpi .ne v1327 c0_i32_1043
  v1328

def k0_dev29 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1187 : BitVec 32 := 1#32
  let v1517 : BitVec 32 := Scalar.muli v24 c1_i32_1187
  let v1518 : BitVec 32 := Scalar.addi c0_i32_1188 v1517
  v1518.toNat
def k0_off52 (k0_t2 : Fin k0_t2_loop.trips) : Fin 2 → Nat :=
  let c1_i32_1057 : BitVec 32 := 1#32
  let c16_i32_756 : BitVec 32 := 16#32
  let c1_i32_758 : BitVec 32 := 1#32
  let arg13 : BitVec 32 := Scf.iv c16_i32_756 c1_i32_758 k0_t2
  let c2_i32_941 : BitVec 32 := 2#32
  let v1190 : BitVec 32 := Scalar.remsi arg13 c2_i32_941
  ![1, v1190.toNat]
def k0_off53 (k0_t2 : Fin k0_t2_loop.trips) : Fin 4 → Nat :=
  let c1_i32_1055 : BitVec 32 := 1#32
  let c16_i32_756 : BitVec 32 := 16#32
  let c1_i32_758 : BitVec 32 := 1#32
  let arg13 : BitVec 32 := Scf.iv c16_i32_756 c1_i32_758 k0_t2
  let c2_i32_941 : BitVec 32 := 2#32
  let v1190 : BitVec 32 := Scalar.remsi arg13 c2_i32_941
  let c0_i32_1060 : BitVec 32 := 0#32
  let c0_i32_1061 : BitVec 32 := 0#32
  ![1, v1190.toNat, 0, 0]
def k0_off54 (d0 : Dev nD) (k0_t2 : Fin k0_t2_loop.trips) (c128_i32_1054 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_756 : BitVec 32 := 16#32
  let c1_i32_758 : BitVec 32 := 1#32
  let arg13 : BitVec 32 := Scf.iv c16_i32_756 c1_i32_758 k0_t2
  let v1331 : BitVec 32 := Scalar.addi v2 arg13
  let c16_i32_1047 : BitVec 32 := 16#32
  let c0_i32_1048 : BitVec 32 := 0#32
  let v1332 : BitVec 1 := Scalar.cmpi .eq c16_i32_1047 c0_i32_1048
  let c1_i32_1049 : BitVec 32 := 1#32
  let v1333 : BitVec 32 := Scalar.select v1332 c1_i32_1049 c16_i32_1047
  let v1334 : BitVec 32 := Scalar.remsi v1331 v1333
  let c0_i32_1051 : BitVec 32 := 0#32
  let v1336 : BitVec 1 := Scalar.cmpi .slt v1334 c0_i32_1051
  let c0_i32_1052 : BitVec 32 := 0#32
  let v1337 : BitVec 1 := Scalar.cmpi .slt v1333 c0_i32_1052
  let v1338 : BitVec 1 := Scalar.xori v1336 v1337
  let c0_i32_1050 : BitVec 32 := 0#32
  let v1335 : BitVec 1 := Scalar.cmpi .ne v1334 c0_i32_1050
  let v1339 : BitVec 1 := Scalar.andi v1338 v1335
  let v1340 : BitVec 32 := Scalar.addi v1334 v1333
  let v1341 : BitVec 32 := Scalar.select v1339 v1340 v1334
  let c256_i32_1053 : BitVec 32 := 256#32
  let v1342 : BitVec 32 := Scalar.muli v1341 c256_i32_1053
  let v1343 : BitVec 32 := Scalar.addi v1342 c128_i32_1054
  let c0_i32_1062 : BitVec 32 := 0#32
  ![v1343.toNat, 0]
def k0_dev30 (d0 : Dev nD) : Nat :=
  let c0_i32_1059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1058 : BitVec 32 := 1#32
  let v1344 : BitVec 32 := Scalar.muli v13 c1_i32_1058
  let v1345 : BitVec 32 := Scalar.addi c0_i32_1059 v1344
  v1345.toNat
def k0_off55 (k0_t2 : Fin k0_t2_loop.trips) : Fin 2 → Nat :=
  let c2_i32_1073 : BitVec 32 := 2#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  ![2, v1189.toNat]
def k0_off56 (k0_t2 : Fin k0_t2_loop.trips) : Fin 4 → Nat :=
  let c2_i32_1072 : BitVec 32 := 2#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  let c0_i32_1077 : BitVec 32 := 0#32
  let c0_i32_1078 : BitVec 32 := 0#32
  ![2, v1189.toNat, 0, 0]
def k0_off57 (k0_t2 : Fin k0_t2_loop.trips) : Fin 4 → Nat :=
  let c2_1097 : Index := 2#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  let v1394 : Index := Scalar.indexCast v1189
  let c0_1098 : Index := 0#32
  let c0_1099 : Index := 0#32
  ![2, v1394.toNat, 0, 0]
def k0_cond7 (k0_t2 : Fin k0_t2_loop.trips) : BitVec 1 :=
  let c16_i32_756 : BitVec 32 := 16#32
  let c1_i32_758 : BitVec 32 := 1#32
  let arg13 : BitVec 32 := Scf.iv c16_i32_756 c1_i32_758 k0_t2
  let c1_i32_1102 : BitVec 32 := 1#32
  let v1406 : BitVec 32 := Scalar.subi arg13 c1_i32_1102
  let c27_i32_1103 : BitVec 32 := 27#32
  let v1407 : BitVec 1 := Scalar.cmpi .sle v1406 c27_i32_1103
  let v1408 : BitVec 32 := Scalar.extui v1407
  let c0_i32_1104 : BitVec 32 := 0#32
  let v1409 : BitVec 1 := Scalar.cmpi .ne v1408 c0_i32_1104
  v1409

def k0_dev31 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1187 : BitVec 32 := 1#32
  let v1517 : BitVec 32 := Scalar.muli v13 c1_i32_1187
  let v1518 : BitVec 32 := Scalar.addi c0_i32_1188 v1517
  v1518.toNat
def k0_off58 (k0_t2 : Fin k0_t2_loop.trips) : Fin 2 → Nat :=
  let c2_i32_1118 : BitVec 32 := 2#32
  let c16_i32_756 : BitVec 32 := 16#32
  let c1_i32_758 : BitVec 32 := 1#32
  let arg13 : BitVec 32 := Scf.iv c16_i32_756 c1_i32_758 k0_t2
  let c2_i32_941 : BitVec 32 := 2#32
  let v1190 : BitVec 32 := Scalar.remsi arg13 c2_i32_941
  ![2, v1190.toNat]
def k0_off59 (k0_t2 : Fin k0_t2_loop.trips) : Fin 4 → Nat :=
  let c2_i32_1116 : BitVec 32 := 2#32
  let c16_i32_756 : BitVec 32 := 16#32
  let c1_i32_758 : BitVec 32 := 1#32
  let arg13 : BitVec 32 := Scf.iv c16_i32_756 c1_i32_758 k0_t2
  let c2_i32_941 : BitVec 32 := 2#32
  let v1190 : BitVec 32 := Scalar.remsi arg13 c2_i32_941
  let c0_i32_1121 : BitVec 32 := 0#32
  let c0_i32_1122 : BitVec 32 := 0#32
  ![2, v1190.toNat, 0, 0]
def k0_dev32 (d0 : Dev nD) : Nat :=
  let c0_i32_1120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1119 : BitVec 32 := 1#32
  let v1425 : BitVec 32 := Scalar.muli v24 c1_i32_1119
  let v1426 : BitVec 32 := Scalar.addi c0_i32_1120 v1425
  v1426.toNat
def k0_off60 (k0_t2 : Fin k0_t2_loop.trips) : Fin 2 → Nat :=
  let c3_i32_1134 : BitVec 32 := 3#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  ![3, v1189.toNat]
def k0_off61 (k0_t2 : Fin k0_t2_loop.trips) : Fin 4 → Nat :=
  let c3_i32_1133 : BitVec 32 := 3#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  let c0_i32_1138 : BitVec 32 := 0#32
  let c0_i32_1139 : BitVec 32 := 0#32
  ![3, v1189.toNat, 0, 0]
def k0_off62 (k0_t2 : Fin k0_t2_loop.trips) : Fin 4 → Nat :=
  let c3_1158 : Index := 3#32
  let c16_i32_756 : BitVec 32 := 16#32
  let c1_i32_758 : BitVec 32 := 1#32
  let arg13 : BitVec 32 := Scf.iv c16_i32_756 c1_i32_758 k0_t2
  let c1_i32_939 : BitVec 32 := 1#32
  let v1188 : BitVec 32 := Scalar.addi arg13 c1_i32_939
  let c2_i32_940 : BitVec 32 := 2#32
  let v1189 : BitVec 32 := Scalar.remsi v1188 c2_i32_940
  let v1475 : Index := Scalar.indexCast v1189
  let c0_1159 : Index := 0#32
  let c0_1160 : Index := 0#32
  ![3, v1475.toNat, 0, 0]
def k0_cond8 (k0_t2 : Fin k0_t2_loop.trips) : BitVec 1 :=
  let c16_i32_756 : BitVec 32 := 16#32
  let c1_i32_758 : BitVec 32 := 1#32
  let arg13 : BitVec 32 := Scf.iv c16_i32_756 c1_i32_758 k0_t2
  let c1_i32_1163 : BitVec 32 := 1#32
  let v1487 : BitVec 32 := Scalar.subi arg13 c1_i32_1163
  let c27_i32_1164 : BitVec 32 := 27#32
  let v1488 : BitVec 1 := Scalar.cmpi .sle v1487 c27_i32_1164
  let v1489 : BitVec 32 := Scalar.extui v1488
  let c0_i32_1165 : BitVec 32 := 0#32
  let v1490 : BitVec 1 := Scalar.cmpi .ne v1489 c0_i32_1165
  v1490

def k0_dev33 (d0 : Dev nD) : Nat :=
  let c0_i32_1188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1187 : BitVec 32 := 1#32
  let v1517 : BitVec 32 := Scalar.muli v24 c1_i32_1187
  let v1518 : BitVec 32 := Scalar.addi c0_i32_1188 v1517
  v1518.toNat
def k0_off63 (k0_t2 : Fin k0_t2_loop.trips) : Fin 2 → Nat :=
  let c3_i32_1179 : BitVec 32 := 3#32
  let c16_i32_756 : BitVec 32 := 16#32
  let c1_i32_758 : BitVec 32 := 1#32
  let arg13 : BitVec 32 := Scf.iv c16_i32_756 c1_i32_758 k0_t2
  let c2_i32_941 : BitVec 32 := 2#32
  let v1190 : BitVec 32 := Scalar.remsi arg13 c2_i32_941
  ![3, v1190.toNat]
def k0_off64 (k0_t2 : Fin k0_t2_loop.trips) : Fin 4 → Nat :=
  let c3_i32_1177 : BitVec 32 := 3#32
  let c16_i32_756 : BitVec 32 := 16#32
  let c1_i32_758 : BitVec 32 := 1#32
  let arg13 : BitVec 32 := Scf.iv c16_i32_756 c1_i32_758 k0_t2
  let c2_i32_941 : BitVec 32 := 2#32
  let v1190 : BitVec 32 := Scalar.remsi arg13 c2_i32_941
  let c0_i32_1182 : BitVec 32 := 0#32
  let c0_i32_1183 : BitVec 32 := 0#32
  ![3, v1190.toNat, 0, 0]
def k0_dev34 (d0 : Dev nD) : Nat :=
  let c0_i32_1181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1180 : BitVec 32 := 1#32
  let v1506 : BitVec 32 := Scalar.muli v13 c1_i32_1180
  let v1507 : BitVec 32 := Scalar.addi c0_i32_1181 v1506
  v1507.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Arith.lean ====
/-
The mesh as four rings, and the kernel's computed offsets and devices in closed form.

Ring `r` moves data from a device to `dn r` of it: even rings to the right, odd rings to the left. At hop `h` of
ring `r` device `c` sends the strip of chunk `ch r h c`; what it receives then is the strip of chunk `ch r (h + 1) c`.
-/
module

public import proofs.«01_k».proof.Proof.Gen.KernelIdeal.Skeleton

@[expose] public section

set_option maxRecDepth 4000

namespace Cert.AR

open Idealize.ShloMosaic Idealize.ShloMosaic.TcCoe
open Cert.KernelIdeal Cert.KernelIdeal.Gen

/-- The next device along ring `r`. -/
def dn (r : ℕ) (c : Dev nD) : Dev nD := ⟨(if r % 2 = 0 then c.val + 1 else c.val + 15) % 16, Nat.mod_lt _ (by decide)⟩
/-- The device before along ring `r`. -/
def up (r : ℕ) (c : Dev nD) : Dev nD := ⟨(if r % 2 = 0 then c.val + 15 else c.val + 1) % 16, Nat.mod_lt _ (by decide)⟩
/-- The device at distance `2 ^ k` in the maximum exchange. -/
def px (k : ℕ) (c : Dev nD) : Dev nD := ⟨(c.val ^^^ (2 ^ k)) % 16, Nat.mod_lt _ (by decide)⟩

/-- The chunk device `c` sends on ring `r` at hop `j` (`j < 32`). -/
def ch (r j : ℕ) (c : Dev nD) : ℕ := (if r % 2 = 0 then c.val + 32 - j else c.val + j) % 16
/-- The row a ring's strip starts at inside its chunk. -/
def ofs (r : ℕ) : ℕ := if r = 0 then 0 else if r = 1 then 128 else if r = 2 then 64 else 192
/-- The first row of the strip of hop `j` on ring `r`. -/
def row (r j : ℕ) (c : Dev nD) : ℕ := 256 * ch r j c + ofs r

theorem ch_lt (r j : ℕ) (c : Dev nD) : ch r j c < 16 := Nat.mod_lt _ (by decide)
theorem ofs_le (r : ℕ) : ofs r ≤ 192 := by unfold ofs; split_ifs <;> decide
theorem dn_up (r : ℕ) (c : Dev nD) : dn r (up r c) = c := by
  apply Fin.ext; have := c.isLt; simp only [dn, up]; change c.val < 16 at this; split_ifs <;> omega
theorem up_dn (r : ℕ) (c : Dev nD) : up r (dn r c) = c := by
  apply Fin.ext; have := c.isLt; simp only [dn, up]; change c.val < 16 at this; split_ifs <;> omega
theorem px_px : ∀ (k : Fin 4) (c : Dev nD), px k.val (px k.val c) = c := by decide +kernel
theorem ch_up (r j : ℕ) (c : Dev nD) (h : j ≤ 30) : ch r j (up r c) = ch r (j + 1) c := by
  have := c.isLt; change c.val < 16 at this; simp only [ch, up]; split_ifs <;> omega
theorem ch_zero (r : ℕ) (c : Dev nD) : ch r 0 c = c.val := by
  have := c.isLt; change c.val < 16 at this; simp only [ch]; split_ifs <;> omega
theorem ch_add (r j : ℕ) (c : Dev nD) (h : j < 16) : ch r (j + 16) c = ch r j c := by
  have := c.isLt; change c.val < 16 at this; simp only [ch]; split_ifs <;> omega
theorem ch_inj (r : ℕ) (c : Dev nD) {i j : ℕ} (hi : i < 16) (hj : j < 16) (h : ch r i c = ch r j c) : i = j := by
  have := c.isLt; change c.val < 16 at this; simp only [ch] at h; split_ifs at h <;> omega

/-! ### Devices -/

theorem dev1_eq : ∀ c : Dev nD, k0_dev1 c = (up 0 c).val := by decide +kernel
theorem dev2_eq : ∀ c : Dev nD, k0_dev2 c = (dn 0 c).val := by decide +kernel
theorem devS0_eq : ∀ c : Dev nD, k0_dev3 c = (dn 0 c).val ∧ k0_dev4 c = (dn 1 c).val ∧ k0_dev5 c = (dn 2 c).val ∧ k0_dev6 c = (dn 3 c).val := by decide +kernel
theorem devS1_eq : ∀ c : Dev nD, k0_dev8 c = (dn 0 c).val ∧ k0_dev10 c = (dn 1 c).val ∧ k0_dev12 c = (dn 2 c).val ∧ k0_dev14 c = (dn 3 c).val := by decide +kernel
theorem devC1_eq : ∀ c : Dev nD, k0_dev7 c = (up 0 c).val ∧ k0_dev9 c = (up 1 c).val ∧ k0_dev11 c = (up 2 c).val ∧ k0_dev13 c = (up 3 c).val := by decide +kernel
theorem devC2_eq : ∀ c : Dev nD, k0_dev15 c = (up 0 c).val ∧ k0_dev16 c = (up 1 c).val ∧ k0_dev17 c = (up 2 c).val ∧ k0_dev18 c = (up 3 c).val := by decide +kernel
theorem devX_eq : ∀ c : Dev nD, k0_dev19 c = (px 0 c).val ∧ k0_dev20 c = (px 1 c).val ∧ k0_dev21 c = (px 2 c).val ∧ k0_dev22 c = (px 3 c).val := by decide +kernel
theorem devS2_eq : ∀ c : Dev nD, k0_dev23 c = (dn 0 c).val ∧ k0_dev24 c = (dn 1 c).val ∧ k0_dev25 c = (dn 2 c).val ∧ k0_dev26 c = (dn 3 c).val := by decide +kernel
theorem devC3_eq : ∀ c : Dev nD, k0_dev27 c = (up 0 c).val ∧ k0_dev29 c = (up 1 c).val ∧ k0_dev31 c = (up 2 c).val ∧ k0_dev33 c = (up 3 c).val := by decide +kernel
theorem devS3_eq : ∀ c : Dev nD, k0_dev28 c = (dn 0 c).val ∧ k0_dev30 c = (dn 1 c).val ∧ k0_dev32 c = (dn 2 c).val ∧ k0_dev34 c = (dn 3 c).val := by decide +kernel

/-! ### Strips -/

theorem off1_eq : ∀ c : Dev nD, k0_off1 c = ![256 * ch 0 0 c, 0] ∧ k0_off2 c = ![256 * ch 0 0 c, 0] := by decide +kernel
theorem off3_eq : ∀ c : Dev nD, ∀ j : Fin 30, k0_off3 c (BitVec.ofNat 32 j.val) 0#32 = ![row 0 j.val c, 0] ∧ k0_off3 c (BitVec.ofNat 32 j.val) 64#32 = ![row 2 j.val c, 0] := by decide +kernel
theorem off4_eq : ∀ c : Dev nD, ∀ j : Fin 30, k0_off4 c (BitVec.ofNat 32 j.val) 128#32 = ![row 1 j.val c, 0] ∧ k0_off4 c (BitVec.ofNat 32 j.val) 192#32 = ![row 3 j.val c, 0] := by decide +kernel
theorem off8_eq : ∀ (c : Dev nD) (t : Fin k0_t1_loop.trips), k0_off8 c t 0#32 = ![row 0 t.val c, 0] ∧ k0_off8 c t 64#32 = ![row 2 t.val c, 0] := by decide +kernel
theorem off16_eq : ∀ (c : Dev nD) (t : Fin k0_t1_loop.trips), k0_off16 c t 128#32 = ![row 1 t.val c, 0] ∧ k0_off16 c t 192#32 = ![row 3 t.val c, 0] := by decide +kernel
theorem off10_eq : ∀ (c : Dev nD) (t : Fin k0_t1_loop.trips), k0_off10 c t 0#32 = ![row 0 (t.val + 1) c, 0] ∧ k0_off10 c t 64#32 = ![row 2 (t.val + 1) c, 0] := by decide +kernel
theorem off18_eq : ∀ (c : Dev nD) (t : Fin k0_t1_loop.trips), k0_off18 c t 128#32 = ![row 1 (t.val + 1) c, 0] ∧ k0_off18 c t 192#32 = ![row 3 (t.val + 1) c, 0] := by decide +kernel
theorem off14_eq : ∀ (c : Dev nD) (t : Fin k0_t1_loop.trips), k0_off14 c t 0#32 = ![row 0 (t.val + 1) c, 0] ∧ k0_off14 c t 64#32 = ![row 2 (t.val + 1) c, 0] := by decide +kernel
theorem off22_eq : ∀ (c : Dev nD) (t : Fin k0_t1_loop.trips), k0_off22 c t 128#32 = ![row 1 (t.val + 1) c, 0] ∧ k0_off22 c t 192#32 = ![row 3 (t.val + 1) c, 0] := by decide +kernel
theorem off33_eq : ∀ (c : Dev nD) (j : Fin 30), k0_off33 c (BitVec.ofNat 32 j.val) 0#32 = ![row 0 (j.val + 1) c, 0] ∧ k0_off33 c (BitVec.ofNat 32 j.val) 64#32 = ![row 2 (j.val + 1) c, 0] := by decide +kernel
theorem off34_eq : ∀ (c : Dev nD) (j : Fin 30), k0_off34 c (BitVec.ofNat 32 j.val) 128#32 = ![row 1 (j.val + 1) c, 0] ∧ k0_off34 c (BitVec.ofNat 32 j.val) 192#32 = ![row 3 (j.val + 1) c, 0] := by decide +kernel
theorem off37_eq : ∀ (c : Dev nD), k0_off37 c 0#32 = ![row 0 15 c, 0] ∧ k0_off37 c 64#32 = ![row 2 15 c, 0] := by decide +kernel
theorem off38_eq : ∀ (c : Dev nD), k0_off38 c 128#32 = ![row 1 15 c, 0] ∧ k0_off38 c 192#32 = ![row 3 15 c, 0] := by decide +kernel
theorem off35_eq : ∀ (c : Dev nD), k0_off35 c = ![row 0 15 c, 0] ∧ k0_off36 c = ![row 1 15 c, 0] := by decide +kernel
theorem off40_eq : ∀ (c : Dev nD) (t : Fin k0_t2_loop.trips), k0_off40 c t 0#32 = ![row 0 (t.val + 15) c, 0] ∧ k0_off40 c t 64#32 = ![row 2 (t.val + 15) c, 0] := by decide +kernel
theorem off48_eq : ∀ (c : Dev nD) (t : Fin k0_t2_loop.trips), k0_off48 c t 128#32 = ![row 1 (t.val + 15) c, 0] ∧ k0_off48 c t 192#32 = ![row 3 (t.val + 15) c, 0] := by decide +kernel
theorem off43_eq : ∀ (c : Dev nD) (t : Fin k0_t2_loop.trips), k0_off43 c t 0#32 = ![row 0 (t.val + 16) c, 0] ∧ k0_off43 c t 64#32 = ![row 2 (t.val + 16) c, 0] := by decide +kernel
theorem off51_eq : ∀ (c : Dev nD) (t : Fin k0_t2_loop.trips), k0_off51 c t 128#32 = ![row 1 (t.val + 16) c, 0] ∧ k0_off51 c t 192#32 = ![row 3 (t.val + 16) c, 0] := by decide +kernel
theorem off46_eq : ∀ (c : Dev nD) (t : Fin k0_t2_loop.trips), k0_off46 c t 0#32 = ![row 0 (t.val + 16) c, 0] ∧ k0_off46 c t 64#32 = ![row 2 (t.val + 16) c, 0] := by decide +kernel
theorem off54_eq : ∀ (c : Dev nD) (t : Fin k0_t2_loop.trips), k0_off54 c t 128#32 = ![row 1 (t.val + 16) c, 0] ∧ k0_off54 c t 192#32 = ![row 3 (t.val + 16) c, 0] := by decide +kernel

/-! ### Semaphores and slots -/

theorem sem1_eq : ∀ t : Fin k0_t1_loop.trips, k0_off7 t = ![0, t.val % 2] ∧ k0_off15 t = ![1, t.val % 2] ∧ k0_off23 t = ![2, t.val % 2] ∧ k0_off28 t = ![3, t.val % 2] := by decide +kernel
theorem sem1'_eq : ∀ t : Fin k0_t1_loop.trips, k0_off12 t = ![0, (t.val + 1) % 2] ∧ k0_off20 t = ![1, (t.val + 1) % 2] ∧ k0_off26 t = ![2, (t.val + 1) % 2] ∧ k0_off31 t = ![3, (t.val + 1) % 2] := by decide +kernel
theorem slot1_eq : ∀ t : Fin k0_t1_loop.trips, (k0_off9 t = ![0, t.val % 2, 0, 0] ∧ k0_off11 t = ![0, t.val % 2, 0, 0]) ∧ (k0_off17 t = ![1, t.val % 2, 0, 0] ∧ k0_off19 t = ![1, t.val % 2, 0, 0])
    ∧ (k0_off24 t = ![2, t.val % 2, 0, 0] ∧ k0_off25 t = ![2, t.val % 2, 0, 0]) ∧ (k0_off29 t = ![3, t.val % 2, 0, 0] ∧ k0_off30 t = ![3, t.val % 2, 0, 0]) := by decide +kernel
theorem slot1'_eq : ∀ t : Fin k0_t1_loop.trips, k0_off13 t = ![0, (t.val + 1) % 2, 0, 0] ∧ k0_off21 t = ![1, (t.val + 1) % 2, 0, 0] ∧ k0_off27 t = ![2, (t.val + 1) % 2, 0, 0] ∧ k0_off32 t = ![3, (t.val + 1) % 2, 0, 0] := by decide +kernel
theorem sem2_eq : ∀ t : Fin k0_t2_loop.trips, k0_off39 t = ![0, (t.val + 15) % 2] ∧ k0_off47 t = ![1, (t.val + 15) % 2] ∧ k0_off55 t = ![2, (t.val + 15) % 2] ∧ k0_off60 t = ![3, (t.val + 15) % 2] := by decide +kernel
theorem sem2'_eq : ∀ t : Fin k0_t2_loop.trips, k0_off44 t = ![0, (t.val + 16) % 2] ∧ k0_off52 t = ![1, (t.val + 16) % 2] ∧ k0_off58 t = ![2, (t.val + 16) % 2] ∧ k0_off63 t = ![3, (t.val + 16) % 2] := by decide +kernel
theorem slot2_eq : ∀ t : Fin k0_t2_loop.trips, (k0_off41 t = ![0, (t.val + 15) % 2, 0, 0] ∧ k0_off42 t = ![0, (t.val + 15) % 2, 0, 0]) ∧ (k0_off49 t = ![1, (t.val + 15) % 2, 0, 0] ∧ k0_off50 t = ![1, (t.val + 15) % 2, 0, 0])
    ∧ (k0_off56 t = ![2, (t.val + 15) % 2, 0, 0] ∧ k0_off57 t = ![2, (t.val + 15) % 2, 0, 0]) ∧ (k0_off61 t = ![3, (t.val + 15) % 2, 0, 0] ∧ k0_off62 t = ![3, (t.val + 15) % 2, 0, 0]) := by decide +kernel
theorem slot2'_eq : ∀ t : Fin k0_t2_loop.trips, k0_off45 t = ![0, (t.val + 16) % 2, 0, 0] ∧ k0_off53 t = ![1, (t.val + 16) % 2, 0, 0] ∧ k0_off59 t = ![2, (t.val + 16) % 2, 0, 0] ∧ k0_off64 t = ![3, (t.val + 16) % 2, 0, 0] := by decide +kernel
theorem cond_eq : ∀ t : Fin k0_t2_loop.trips, (k0_cond5 t = 1#1 ↔ t.val ≤ 12) ∧ (k0_cond6 t = 1#1 ↔ t.val ≤ 12) ∧ (k0_cond7 t = 1#1 ↔ t.val ≤ 12) ∧ (k0_cond8 t = 1#1 ↔ t.val ≤ 12) := by decide +kernel

/-! ### The products, and the condition of a summing trip -/

theorem off5_eq : ∀ (c : Dev nD) (j : Fin 15), k0_off5 c (BitVec.ofNat 32 (1 + j.val)) = ![256 * ch 1 (1 + j.val) c, 0] ∧
    k0_off6 c (BitVec.ofNat 32 (1 + j.val)) = ![256 * ch 1 (1 + j.val) c, 0] := by decide +kernel

theorem cndR_eq : ∀ t : Fin k0_t1_loop.trips,
    (Scalar.cmpi .ne (Scalar.extui (Scalar.cmpi .sge (Scf.iv 1#32 1#32 t) 2#32) : BitVec 32) 0#32 = 1#1 ↔ 1 ≤ t.val) := by decide +kernel

end Cert.AR
-- ==== Proof.Pieces.lean ====
/-
The kernel's body as a sequence of pieces, each named by the rows, slots, semaphores and devices it uses.

A piece takes the rest of the program as its last argument. The body and the two loops' trips are these pieces one
after the other; what a piece does is proved once and used on every ring, at every hop.
-/
module

public import proofs.«01_k».proof.Proof.Arith

@[expose] public section

set_option maxRecDepth 4000

namespace Cert.AR

open Idealize.ShloMosaic Idealize.ShloMosaic.TcCoe Idealize.SL.Sem
open Cert.KernelIdeal Cert.KernelIdeal.Gen

variable {F : FTy → Type} [FloatOps F]

abbrev PrgT (F : FTy → Type) := Prog (TpuEff nD τ sig (Elt F) Λ₀ .tc) PUnit

universe v

noncomputable section

/-! ### The buffers -/

abbrev xM : Memref sig .tc .vmem S4096x256 .f32 := Memref.whole cc0_stg0_0
abbrev wM : Memref sig .tc .vmem S256x2048 .f32 := Memref.whole cc0_stg1_0
abbrev oM : Memref sig .tc .vmem S4096x2048 .f32 := Memref.whole cc0_stg2_0
abbrev cM : Memref sig .tc .vmem S4x2x64x2048 .f32 := Memref.whole cc0_scratch0
abbrev dM : Memref sig .tc .vmem S4x2x64x2048 .i8 := Memref.whole cc0_scratch1
abbrev qM : Memref sig .tc .vmem S4096x2048 .i8 := Memref.whole cc0_scratch2
abbrev bM : Memref sig .tc .vmem S8x128 .f32 := Memref.whole cc0_scratch3
abbrev gM : Memref sig .tc .vmem S4x8x128 .f32 := Memref.whole cc0_scratch4

/-! ### Rows, slots and semaphores at an offset -/

abbrev FS (o : Fin 2 → ℕ) : Prop := ∀ a : Fin 2, o a + S64x2048.size a ≤ S4096x2048.size a
abbrev FC (o : Fin 4 → ℕ) : Prop := ∀ a : Fin 4, o a + S1x1x64x2048.size a ≤ S4x2x64x2048.size a
abbrev F2 (o : Fin 2 → ℕ) : Prop := ∀ a : Fin 2, o a + S1x1.size a ≤ S4x2.size a
abbrev F1 (o : Fin 1 → ℕ) : Prop := ∀ a : Fin 1, o a + S1.size a ≤ S4.size a

/-- The rectangle of a strip of rows. -/
abbrev sR (o : Fin 2 → ℕ) (h : FS o) : Rect S4096x2048 := Rect.unit (s := S4096x2048) o S64x2048.size h
/-- The rectangle of a slot. -/
abbrev cR (o : Fin 4 → ℕ) (h : FC o) : Rect S4x2x64x2048 := Rect.unit (s := S4x2x64x2048) o S1x1x64x2048.size h

/-- A strip of a whole buffer. -/
abbrev strip {e : EltTy} (M : Memref sig .tc .vmem S4096x2048 e) (o : Fin 2 → ℕ) (h : FS o) : Memref sig .tc .vmem S64x2048 e :=
  M.slice (sR o h) (fun _ => rfl)
/-- A slot of a whole buffer, as a strip. -/
abbrev slotM {e : EltTy} (M : Memref sig .tc .vmem S4x2x64x2048 e) (o : Fin 4 → ℕ) (h : FC o) : Memref sig .tc .vmem S64x2048 e :=
  (M.slice (cR o h) (fun _ => rfl)).squeeze S64x2048 squeezes_S1x1x64x2048_S64x2048

abbrev sndS (o : Fin 2 → ℕ) (h : F2 o) : DmaSem sig := ((cc0_scratch5.slice (Rect.unit (s := S4x2) o S1x1.size h)).squeeze S_ squeezes_S1x1_S_).sem
abbrev rcvS (o : Fin 2 → ℕ) (h : F2 o) : DmaSem sig := ((cc0_scratch6.slice (Rect.unit (s := S4x2) o S1x1.size h)).squeeze S_ squeezes_S1x1_S_).sem
abbrev crdS (o : Fin 1 → ℕ) (h : F1 o) : Sem sig := ((cc0_scratch7.slice (Rect.unit (s := S4) o S1.size h)).squeeze S_ squeezes_S1_S_).sem
abbrev bfsS (o : Fin 1 → ℕ) (h : F1 o) : DmaSem sig := ((cc0_scratch8.slice (Rect.unit (s := S4) o S1.size h)).squeeze S_ squeezes_S1_S_).sem
abbrev bfrS (o : Fin 1 → ℕ) (h : F1 o) : DmaSem sig := ((cc0_scratch9.slice (Rect.unit (s := S4) o S1.size h)).squeeze S_ squeezes_S1_S_).sem
abbrev barS : Sem sig := (SemArray.scalar (sig.barrier 0 rfl) : Sems sig S_).sem

/-! ### The pieces -/

variable {e : EltTy} {s : Shape}

/-- Wait for the strip sent from `a` to have left, and for the one coming into slot `b` to have landed. -/
def pWaits (s1 s2 : DmaSem sig) (a b : Memref sig .tc .vmem s e) (ha : a.view.WordExact) (hb : b.view.WordExact) (K : PrgT F) : PrgT F :=
  .op (.waitDma2 s1 b a hb ha) fun _ => .op (.waitDma2 s2 a b ha hb) fun _ => K

/-- Send the strip `a` into slot `b` of device `d`. -/
def pSend (s1 s2 : DmaSem sig) (a b : Memref sig .tc .vmem s e) (d : Dev nD) (ha : a.view.WordExact) (hb : b.view.WordExact) (K : PrgT F) : PrgT F :=
  .op (.enqueueDma a (.remote (Dev.tc d) b (.dma s1)) (.dma s2) ha hb ⟨⟨rfl, Or.inl rfl⟩, trivial⟩) fun _ => K

/-- Give one unit to a semaphore of device `d`. -/
def pSig (d : Dev nD) (s : Sem sig) (K : PrgT F) : PrgT F := .op (.semSignal (d, .tc) s ((1 : ℕ) : ℤ)) fun _ => K

/-- Take one unit off a semaphore. -/
def pCrd (s : Sem sig) (K : PrgT F) : PrgT F := .op (.semWait s ((1 : ℕ) : ℤ)) fun _ => K

/-- Add slot `b` to the strip at `o`. -/
def pAdd (o : Fin 2 → ℕ) (h : FS o) (b : Fin 4 → ℕ) (hb : FC b) (K : PrgT F) : PrgT F :=
  .op (.load oM (sR o h).toLoadRect (View.loadsAt_vmem h_S64x2048)) fun v =>
  .op (.load cM (cR b hb).toLoadRect (View.loadsAt_vmem h_S1x1x64x2048)) fun w =>
  .op (.load oM (sR o h).toLoadRect (View.loadsAt_vmem h_S64x2048)) fun _ =>
  .op (.store oM (sR o h) (k0_pay2 v w) Finset.univ (View.stores_vmem_bits_univ h_S64x2048 rfl) (.inl rfl)) fun _ => K

/-- Take one unit off a semaphore under a condition. -/
def pCrdIf (b : BitVec 1) (s : Sem sig) (K : PrgT F) : PrgT F :=
  if _h : b = 1#1 then .op (.semWait s ((1 : ℕ) : ℤ)) (fun _ => K) else K

/-- Give one unit to a semaphore under a condition. -/
def pSigIf (b : BitVec 1) (d : b = 1#1 → Dev nD) (s : Sem sig) (K : PrgT F) : PrgT F :=
  if h : b = 1#1 then .op (.semSignal (d h, .tc) s ((1 : ℕ) : ℤ)) (fun _ => K) else K

/-- One chunk of the product. -/
def pGemm (p : Fin 2 → ℕ) (hp : ∀ a : Fin 2, p a + S256x256.size a ≤ S4096x256.size a) (o : Fin 2 → ℕ)
    (ho : ∀ a : Fin 2, o a + S256x2048.size a ≤ S4096x2048.size a) (K : PrgT F) : PrgT F :=
  .op (.load xM (Rect.unit (s := S4096x256) p S256x256.size hp).toLoadRect (View.loadsAt_vmem h_S256x256)) fun v =>
  .op (.load wM (Rect.unit (s := S256x2048) ![0, 0] S256x2048.size inb_S256x2048_S256x2048_0_0).toLoadRect (View.loadsAt_vmem h_S256x2048)) fun w =>
  .op (.load oM (Rect.unit (s := S4096x2048) o S256x2048.size ho).toLoadRect (View.loadsAt_vmem h_S256x2048)) fun _ =>
  .op (.store oM (Rect.unit (s := S4096x2048) o S256x2048.size ho) (k0_pay20 v w) Finset.univ (View.stores_vmem_bits_univ h_S256x2048 rfl) (.inl rfl)) fun _ => K

/-- Quantise the strip at `o` by the scale `a`, keeping the integers in one buffer and their product with the scale in the other. -/
def pQuant (a : F .f32) (o : Fin 2 → ℕ) (h : FS o) (hx : (qM.view.slice (sR o h)).StoreExact Finset.univ) (K : PrgT F) : PrgT F :=
  .op (.load oM (sR o h).toLoadRect (View.loadsAt_vmem h_S64x2048)) fun v =>
  .op (.load qM (sR o h).toLoadRect (View.loadsAt_vmem h_S64x2048)) fun _ =>
  .op (.store qM (sR o h) (k0_pay57 a v) Finset.univ (View.stores_vmem h_S64x2048 hx (fun _ => rfl)) (.inl rfl)) fun _ =>
  .op (.load oM (sR o h).toLoadRect (View.loadsAt_vmem h_S64x2048)) fun _ =>
  .op (.store oM (sR o h) (k0_pay58 a v) Finset.univ (View.stores_vmem_bits_univ h_S64x2048 rfl) (.inl rfl)) fun _ => K

/-- Keep the integers that arrived in slot `b` at the strip `o`, and their product with the scale. -/
def pTake (a : F .f32) (b : Fin 4 → ℕ) (hb : FC b) (o : Fin 2 → ℕ) (h : FS o) (hx : (qM.view.slice (sR o h)).StoreExact Finset.univ) (K : PrgT F) : PrgT F :=
  .op (.load dM (cR b hb).toLoadRect (View.loadsAt_vmem h_S1x1x64x2048)) fun v =>
  .op (.load qM (sR o h).toLoadRect (View.loadsAt_vmem h_S64x2048)) fun _ =>
  .op (.store qM (sR o h) (k0_pay9 v) Finset.univ (View.stores_vmem h_S64x2048 hx (fun _ => rfl)) (.inl rfl)) fun _ =>
  .op (.load oM (sR o h).toLoadRect (View.loadsAt_vmem h_S64x2048)) fun _ =>
  .op (.store oM (sR o h) (k0_pay10 a v) Finset.univ (View.stores_vmem_bits_univ h_S64x2048 rfl) (.inl rfl)) fun _ => K

/-- Keep the product with the scale of the integers that arrived in slot `b`. -/
def pLast (a : F .f32) (b : Fin 4 → ℕ) (hb : FC b) (o : Fin 2 → ℕ) (h : FS o) (K : PrgT F) : PrgT F :=
  .op (.load dM (cR b hb).toLoadRect (View.loadsAt_vmem h_S1x1x64x2048)) fun v =>
  .op (.load oM (sR o h).toLoadRect (View.loadsAt_vmem h_S64x2048)) fun _ =>
  .op (.store oM (sR o h) (k0_pay10 a v) Finset.univ (View.stores_vmem_bits_univ h_S64x2048 rfl) (.inl rfl)) fun _ => K

/-- Put a value all over the buffer the maximum exchange sends from. -/
def pPut (v : Vec F S8x128 .f32) (K : PrgT F) : PrgT F :=
  .op (.load bM (Rect.unit (s := S8x128) ![0, 0] S8x128.size inb_S8x128_S8x128_0_0).toLoadRect (View.loadsAt_vmem h_S8x128)) fun _ =>
  .op (.store bM (Rect.unit (s := S8x128) ![0, 0] S8x128.size inb_S8x128_S8x128_0_0) v Finset.univ (View.stores_vmem_bits_univ h_S8x128 rfl) (.inl rfl)) fun _ => K

abbrev FG (o : Fin 3 → ℕ) : Prop := ∀ a : Fin 3, o a + S1x8x128.size a ≤ S4x8x128.size a
abbrev FE (o : Fin 3 → ℕ) : Prop := ∀ a : Fin 3, o a + S1x1x1.size a ≤ S4x8x128.size a
/-- A slot of the buffer the maximum exchange receives in. -/
abbrev bslotM (o : Fin 3 → ℕ) (h : FG o) : Memref sig .tc .vmem S8x128 .f32 :=
  (gM.slice (Rect.unit (s := S4x8x128) o S1x8x128.size h) (fun _ => rfl)).squeeze S8x128 squeezes_S1x8x128_S8x128

/-- One exchange of maxima with device `d`. -/
def pBf (k : Fin 1 → ℕ) (hk : F1 k) (o : Fin 3 → ℕ) (h : FG o) (h' : FE o) (d : Dev nD) (K : Vec F S1x1x1 .f32 → PrgT F) : PrgT F :=
  pSend (bfsS k hk) (bfrS k hk) bM (bslotM o h) d (Memref.isWhole_whole _).wordExact ((View.wordExact_bits rfl).reshape _ _) <|
  pWaits (bfsS k hk) (bfrS k hk) bM (bslotM o h) (Memref.isWhole_whole _).wordExact ((View.wordExact_bits rfl).reshape _ _) <|
  .op (.load gM (Rect.unit (s := S4x8x128) o S1x1x1.size h').toLoadRect (View.loadsAt_vmem h_S1x1x1)) K

/-- The two halves of the owned chunk, for the largest magnitude in them. -/
def pMax (o : Fin 2 → ℕ) (h : ∀ a : Fin 2, o a + S128x2048.size a ≤ S4096x2048.size a) (o' : Fin 2 → ℕ)
    (h' : ∀ a : Fin 2, o' a + S128x2048.size a ≤ S4096x2048.size a) (K : Vec F S128x2048 .f32 → Vec F S128x2048 .f32 → PrgT F) : PrgT F :=
  .op (.load oM (Rect.unit (s := S4096x2048) o S128x2048.size h).toLoadRect (View.loadsAt_vmem h_S128x2048)) fun v =>
  .op (.load oM (Rect.unit (s := S4096x2048) o' S128x2048.size h').toLoadRect (View.loadsAt_vmem h_S128x2048)) fun w => K v w

/-- The end of the summing on one ring: take the strip that arrived last and give the credit. -/
def pRT (s1 s2 : DmaSem sig) (p : Fin 2 → ℕ) (hp : FS p) (b : Fin 4 → ℕ) (hb : FC b) (n : Fin 2 → ℕ) (hn : FS n) (du : Dev nD) (cr : Sem sig)
    (K : PrgT F) : PrgT F :=
  pWaits s1 s2 (strip oM p hp) (slotM cM b hb) (View.wordExact_bits rfl) ((View.wordExact_bits rfl).reshape _ _) <|
  pAdd n hn b hb <| pSig du cr K

/-- One ring's share of a summing trip: take the strip that arrived, give the credit, take one, send on. -/
def pRS (s1 s2 : DmaSem sig) (p : Fin 2 → ℕ) (hp : FS p) (b : Fin 4 → ℕ) (hb : FC b) (n : Fin 2 → ℕ) (hn : FS n) (b' : Fin 4 → ℕ) (hb' : FC b') (du : Dev nD) (cr : Sem sig) (g : BitVec 1)
    (t1 t2 : DmaSem sig) (n' : Fin 2 → ℕ) (hn' : FS n') (b2 : Fin 4 → ℕ) (hb2 : FC b2) (dd : Dev nD) (K : PrgT F) : PrgT F :=
  pWaits s1 s2 (strip oM p hp) (slotM cM b hb) (View.wordExact_bits rfl) ((View.wordExact_bits rfl).reshape _ _) <|
  pAdd n hn b' hb' <| pSig du cr <| pCrdIf g cr <|
  pSend t1 t2 (strip oM n' hn') (slotM cM b2 hb2) dd (View.wordExact_bits rfl) ((View.wordExact_bits rfl).reshape _ _) K

/-- The condition a summing trip takes a credit under. -/
abbrev cndR (t : Fin k0_t1_loop.trips) : BitVec 1 :=
  Scalar.cmpi .ne (Scalar.extui (Scalar.cmpi .sge (Scf.iv 1#32 1#32 t) 2#32) : BitVec 32) 0#32

/-- A summing trip. -/
def trip1 (c : Dev nD) (t : Fin k0_t1_loop.trips) : PrgT F :=
  pRS (sndS _ (k0_off7_inb t)) (rcvS _ (k0_off7_inb t)) _ (k0_off8_inb c t 0) _ (k0_off9_inb t) _ (k0_off10_inb c t 0) _ (k0_off11_inb t)
    ⟨k0_dev7 c, k0_dev7_lt c⟩ (crdS _ inb_S4_S1_0) (cndR t) (sndS _ (k0_off12_inb t)) (rcvS _ (k0_off12_inb t))
    _ (k0_off14_inb c t 0) _ (k0_off13_inb t) ⟨k0_dev8 c, k0_dev8_lt c⟩ <|
  pRS (sndS _ (k0_off15_inb t)) (rcvS _ (k0_off15_inb t)) _ (k0_off16_inb c t 0) _ (k0_off17_inb t) _ (k0_off18_inb c t 0) _ (k0_off19_inb t)
    ⟨k0_dev9 c, k0_dev9_lt c⟩ (crdS _ inb_S4_S1_1) (cndR t) (sndS _ (k0_off20_inb t)) (rcvS _ (k0_off20_inb t))
    _ (k0_off22_inb c t 0) _ (k0_off21_inb t) ⟨k0_dev10 c, k0_dev10_lt c⟩ <|
  pRS (sndS _ (k0_off23_inb t)) (rcvS _ (k0_off23_inb t)) _ (k0_off8_inb c t 1) _ (k0_off24_inb t) _ (k0_off10_inb c t 1) _ (k0_off25_inb t)
    ⟨k0_dev11 c, k0_dev11_lt c⟩ (crdS _ inb_S4_S1_2) (cndR t) (sndS _ (k0_off26_inb t)) (rcvS _ (k0_off26_inb t))
    _ (k0_off14_inb c t 1) _ (k0_off27_inb t) ⟨k0_dev12 c, k0_dev12_lt c⟩ <|
  pRS (sndS _ (k0_off28_inb t)) (rcvS _ (k0_off28_inb t)) _ (k0_off16_inb c t 1) _ (k0_off29_inb t) _ (k0_off18_inb c t 1) _ (k0_off30_inb t)
    ⟨k0_dev13 c, k0_dev13_lt c⟩ (crdS _ inb_S4_S1_3) (cndR t) (sndS _ (k0_off31_inb t)) (rcvS _ (k0_off31_inb t))
    _ (k0_off22_inb c t 1) _ (k0_off32_inb t) ⟨k0_dev14 c, k0_dev14_lt c⟩ <| .ret ⟨⟩

/-- The first loop's body at the kernel's buffers. -/
abbrev body1 (c : Dev nD) (v2 v13 v24 : BitVec 32) (v : FVec F S256x2048 .f32) : Fin k0_t1_loop.trips → Unit → PrgT F :=
  k0_t1_body xM (Memref.isWhole_whole _) wM (Memref.isWhole_whole _) oM (Memref.isWhole_whole _) cM (Memref.isWhole_whole _) dM (Memref.isWhole_whole _)
    qM (Memref.isWhole_whole _) bM (Memref.isWhole_whole _) gM (Memref.isWhole_whole _) cc0_scratch5 cc0_scratch6 cc0_scratch7 cc0_scratch8 cc0_scratch9 c v2 v13 v24 v

/-- One ring's share of a gathering trip. -/
def pAG (a : F .f32) (s1 s2 : DmaSem sig) (p : Fin 2 → ℕ) (hp : FS p) (hp' : (strip qM p hp).view.WordExact) (b : Fin 4 → ℕ) (hb : FC b)
    (hbw : (slotM dM b hb).view.WordExact) (b' : Fin 4 → ℕ) (hb' : FC b') (n : Fin 2 → ℕ) (hn : FS n) (hx : (qM.view.slice (sR n hn)).StoreExact Finset.univ)
    (g : BitVec 1) (du : g = 1#1 → Dev nD) (cr : Sem sig) (t1 t2 : DmaSem sig) (n' : Fin 2 → ℕ) (hn' : FS n') (hnw : (strip qM n' hn').view.WordExact)
    (b2 : Fin 4 → ℕ) (hb2 : FC b2) (hbw2 : (slotM dM b2 hb2).view.WordExact) (dd : Dev nD) (K : PrgT F) : PrgT F :=
  pWaits s1 s2 (strip qM p hp) (slotM dM b hb) hp' hbw <|
  pTake a b' hb' n hn hx <| pSigIf g du cr <| pCrd cr <|
  pSend t1 t2 (strip qM n' hn') (slotM dM b2 hb2) dd hnw hbw2 K

abbrev dW (b : Fin 4 → ℕ) (hb : FC b) (h : (cR b hb).WholeWords (EltTy.packing .i8)) : (slotM dM b hb).view.WordExact :=
  ((Memref.isWhole_whole cc0_scratch1).wordExact_slice rfl _ h).reshape _ _
abbrev qW (b : Fin 2 → ℕ) (hb : FS b) (h : (sR b hb).WholeWords (EltTy.packing .i8)) : (strip qM b hb).view.WordExact :=
  (Memref.isWhole_whole cc0_scratch2).wordExact_slice rfl _ h

/-- A gathering trip. -/
def trip2 (a : F .f32) (c : Dev nD) (t : Fin k0_t2_loop.trips) : PrgT F :=
  pAG a (sndS _ (k0_off39_inb t)) (rcvS _ (k0_off39_inb t)) _ (k0_off40_inb c t 0) (qW _ _ (k0_off40_wordsi8 c t 0)) _ (k0_off41_inb t) (dW _ _ (k0_off41_wordsi8 t))
    _ (k0_off42_inb t) _ (k0_off43_inb c t 0) ((Memref.isWhole_whole cc0_scratch2).storeExact_slice rfl _ (k0_off43_packedi8 c t 0))
    (k0_cond5 t) (fun h => ⟨k0_dev27 c, k0_dev27_lt c t h⟩) (crdS _ inb_S4_S1_0) (sndS _ (k0_off44_inb t)) (rcvS _ (k0_off44_inb t))
    _ (k0_off46_inb c t 0) (qW _ _ (k0_off46_wordsi8 c t 0)) _ (k0_off45_inb t) (dW _ _ (k0_off45_wordsi8 t)) ⟨k0_dev28 c, k0_dev28_lt c⟩ <|
  pAG a (sndS _ (k0_off47_inb t)) (rcvS _ (k0_off47_inb t)) _ (k0_off48_inb c t 0) (qW _ _ (k0_off48_wordsi8 c t 0)) _ (k0_off49_inb t) (dW _ _ (k0_off49_wordsi8 t))
    _ (k0_off50_inb t) _ (k0_off51_inb c t 0) ((Memref.isWhole_whole cc0_scratch2).storeExact_slice rfl _ (k0_off51_packedi8 c t 0))
    (k0_cond6 t) (fun h => ⟨k0_dev29 c, k0_dev29_lt c t h⟩) (crdS _ inb_S4_S1_1) (sndS _ (k0_off52_inb t)) (rcvS _ (k0_off52_inb t))
    _ (k0_off54_inb c t 0) (qW _ _ (k0_off54_wordsi8 c t 0)) _ (k0_off53_inb t) (dW _ _ (k0_off53_wordsi8 t)) ⟨k0_dev30 c, k0_dev30_lt c⟩ <|
  pAG a (sndS _ (k0_off55_inb t)) (rcvS _ (k0_off55_inb t)) _ (k0_off40_inb c t 1) (qW _ _ (k0_off40_wordsi8 c t 1)) _ (k0_off56_inb t) (dW _ _ (k0_off56_wordsi8 t))
    _ (k0_off57_inb t) _ (k0_off43_inb c t 1) ((Memref.isWhole_whole cc0_scratch2).storeExact_slice rfl _ (k0_off43_packedi8 c t 1))
    (k0_cond7 t) (fun h => ⟨k0_dev31 c, k0_dev31_lt c t h⟩) (crdS _ inb_S4_S1_2) (sndS _ (k0_off58_inb t)) (rcvS _ (k0_off58_inb t))
    _ (k0_off46_inb c t 1) (qW _ _ (k0_off46_wordsi8 c t 1)) _ (k0_off59_inb t) (dW _ _ (k0_off59_wordsi8 t)) ⟨k0_dev32 c, k0_dev32_lt c⟩ <|
  pAG a (sndS _ (k0_off60_inb t)) (rcvS _ (k0_off60_inb t)) _ (k0_off48_inb c t 1) (qW _ _ (k0_off48_wordsi8 c t 1)) _ (k0_off61_inb t) (dW _ _ (k0_off61_wordsi8 t))
    _ (k0_off62_inb t) _ (k0_off51_inb c t 1) ((Memref.isWhole_whole cc0_scratch2).storeExact_slice rfl _ (k0_off51_packedi8 c t 1))
    (k0_cond8 t) (fun h => ⟨k0_dev33 c, k0_dev33_lt c t h⟩) (crdS _ inb_S4_S1_3) (sndS _ (k0_off63_inb t)) (rcvS _ (k0_off63_inb t))
    _ (k0_off54_inb c t 1) (qW _ _ (k0_off54_wordsi8 c t 1)) _ (k0_off64_inb t) (dW _ _ (k0_off64_wordsi8 t)) ⟨k0_dev34 c, k0_dev34_lt c⟩ <| .ret ⟨⟩

/-- The second loop's body at the kernel's buffers. -/
abbrev body2 (c : Dev nD) (v2 v13 v24 : BitVec 32) (a : F .f32) (k : BitVec 32) : Fin k0_t2_loop.trips → Unit → PrgT F :=
  k0_t2_body xM (Memref.isWhole_whole _) wM (Memref.isWhole_whole _) oM (Memref.isWhole_whole _) cM (Memref.isWhole_whole _) dM (Memref.isWhole_whole _)
    qM (Memref.isWhole_whole _) bM (Memref.isWhole_whole _) gM (Memref.isWhole_whole _) cc0_scratch5 cc0_scratch6 cc0_scratch7 cc0_scratch8 cc0_scratch9 c v2 v13 v24 a k

/-- The end of the gathering on one ring. -/
def pAT (a : F .f32) (s1 s2 : DmaSem sig) (p : Fin 2 → ℕ) (hp : FS p) (hp' : (strip qM p hp).view.WordExact) (b : Fin 4 → ℕ) (hb : FC b)
    (hbw : (slotM dM b hb).view.WordExact) (n : Fin 2 → ℕ) (hn : FS n) (K : PrgT F) : PrgT F :=
  pWaits s1 s2 (strip qM p hp) (slotM dM b hb) hp' hbw <| pLast a b hb n hn K

/-- The first send on one ring. -/
def pS0 (s1 s2 : DmaSem sig) (p : Fin 2 → ℕ) (hp : FS p) (b : Fin 4 → ℕ) (hb : FC b) (d : Dev nD) (K : PrgT F) : PrgT F :=
  pSend s1 s2 (strip oM p hp) (slotM cM b hb) d (View.wordExact_bits rfl) ((View.wordExact_bits rfl).reshape _ _) K

/-- The first gathering send on one ring. -/
def pS15 (cr : Sem sig) (s1 s2 : DmaSem sig) (p : Fin 2 → ℕ) (hp : FS p) (hp' : (strip qM p hp).view.WordExact) (b : Fin 4 → ℕ) (hb : FC b)
    (hbw : (slotM dM b hb).view.WordExact) (d : Dev nD) (K : PrgT F) : PrgT F :=
  pCrd cr <| pSend s1 s2 (strip qM p hp) (slotM dM b hb) d hp' hbw K

/-- The products but the first, `j` from one. -/
def pG (c : Dev nD) (j : Fin 15) (K : PrgT F) : PrgT F :=
  pGemm (k0_off5 c (BitVec.ofNat 32 (1 + j.val))) (k0_off5_inb c j) (k0_off6 c (BitVec.ofNat 32 (1 + j.val))) (k0_off6_inb c j) K

/-- The sums: from the barrier to the last strip. -/
def seg1 (c : Dev nD) (K : PrgT F) : PrgT F :=
  pSig ⟨k0_dev1 c, k0_dev1_lt c⟩ barS <| pSig ⟨k0_dev2 c, k0_dev2_lt c⟩ barS <| .op (.semWait barS ((2 : ℕ) : ℤ)) fun _ =>
  pGemm (k0_off1 c) (k0_off1_inb c) (k0_off2 c) (k0_off2_inb c) <|
  pS0 (sndS _ inb_S4x2_S1x1_0_0) (rcvS _ inb_S4x2_S1x1_0_0) (k0_off3 c 0#32 0#32) (k0_off3_inb c 0) _ inb_S4x2x64x2048_S1x1x64x2048_0_0_0_0 ⟨k0_dev3 c, k0_dev3_lt c⟩ <|
  pS0 (sndS _ inb_S4x2_S1x1_1_0) (rcvS _ inb_S4x2_S1x1_1_0) (k0_off4 c 0#32 128#32) (k0_off4_inb c 0) _ inb_S4x2x64x2048_S1x1x64x2048_1_0_0_0 ⟨k0_dev4 c, k0_dev4_lt c⟩ <|
  pS0 (sndS _ inb_S4x2_S1x1_2_0) (rcvS _ inb_S4x2_S1x1_2_0) (k0_off3 c 0#32 64#32) (k0_off3_inb c 1) _ inb_S4x2x64x2048_S1x1x64x2048_2_0_0_0 ⟨k0_dev5 c, k0_dev5_lt c⟩ <|
  pS0 (sndS _ inb_S4x2_S1x1_3_0) (rcvS _ inb_S4x2_S1x1_3_0) (k0_off4 c 0#32 192#32) (k0_off4_inb c 1) _ inb_S4x2x64x2048_S1x1x64x2048_3_0_0_0 ⟨k0_dev6 c, k0_dev6_lt c⟩ <|
  pG c 0 <| pG c 1 <| pG c 2 <| pG c 3 <| pG c 4 <| pG c 5 <| pG c 6 <| pG c 7 <| pG c 8 <| pG c 9 <| pG c 10 <| pG c 11 <| pG c 12 <| pG c 13 <| pG c 14 K

/-- The last sums on the four rings. -/
def seg2 (c : Dev nD) (K : PrgT F) : PrgT F :=
  pRT (sndS _ inb_S4x2_S1x1_0_0) (rcvS _ inb_S4x2_S1x1_0_0) (k0_off3 c 14#32 0#32) (k0_off3_inb c 2) _ inb_S4x2x64x2048_S1x1x64x2048_0_0_0_0
    (k0_off33 c 14#32 0#32) (k0_off33_inb c 0 0) ⟨k0_dev15 c, k0_dev15_lt c⟩ (crdS _ inb_S4_S1_0) <|
  pRT (sndS _ inb_S4x2_S1x1_1_0) (rcvS _ inb_S4x2_S1x1_1_0) (k0_off4 c 14#32 128#32) (k0_off4_inb c 2) _ inb_S4x2x64x2048_S1x1x64x2048_1_0_0_0
    (k0_off34 c 14#32 128#32) (k0_off34_inb c 0 0) ⟨k0_dev16 c, k0_dev16_lt c⟩ (crdS _ inb_S4_S1_1) <|
  pRT (sndS _ inb_S4x2_S1x1_2_0) (rcvS _ inb_S4x2_S1x1_2_0) (k0_off3 c 14#32 64#32) (k0_off3_inb c 3) _ inb_S4x2x64x2048_S1x1x64x2048_2_0_0_0
    (k0_off33 c 14#32 64#32) (k0_off33_inb c 0 1) ⟨k0_dev17 c, k0_dev17_lt c⟩ (crdS _ inb_S4_S1_2) <|
  pRT (sndS _ inb_S4x2_S1x1_3_0) (rcvS _ inb_S4x2_S1x1_3_0) (k0_off4 c 14#32 192#32) (k0_off4_inb c 3) _ inb_S4x2x64x2048_S1x1x64x2048_3_0_0_0
    (k0_off34 c 14#32 192#32) (k0_off34_inb c 0 1) ⟨k0_dev18 c, k0_dev18_lt c⟩ (crdS _ inb_S4_S1_3) K

/-- The largest magnitude, and from it the scale. -/
def seg3 (c : Dev nD) (K : F .f32 → PrgT F) : PrgT F :=
  pMax (k0_off35 c) (k0_off35_inb c) (k0_off36 c) (k0_off36_inb c) fun v w => pPut (k0_pay41 v w) <|
  pBf ![0] inb_S4_S1_0 ![0, 0, 0] inb_S4x8x128_S1x8x128_0_0_0 inb_S4x8x128_S1x1x1_0_0_0 ⟨k0_dev19 c, k0_dev19_lt c⟩ fun g0 =>
  pPut (k0_pay43 (k0_pay40 v w) g0) <|
  pBf ![1] inb_S4_S1_1 ![1, 0, 0] inb_S4x8x128_S1x8x128_1_0_0 inb_S4x8x128_S1x1x1_1_0_0 ⟨k0_dev20 c, k0_dev20_lt c⟩ fun g1 =>
  pPut (k0_pay43 (k0_pay42 (k0_pay40 v w) g0) g1) <|
  pBf ![2] inb_S4_S1_2 ![2, 0, 0] inb_S4x8x128_S1x8x128_2_0_0 inb_S4x8x128_S1x1x1_2_0_0 ⟨k0_dev21 c, k0_dev21_lt c⟩ fun g2 =>
  pPut (k0_pay43 (k0_pay42 (k0_pay42 (k0_pay40 v w) g0) g1) g2) <|
  pBf ![3] inb_S4_S1_3 ![3, 0, 0] inb_S4x8x128_S1x8x128_3_0_0 inb_S4x8x128_S1x1x1_3_0_0 ⟨k0_dev22 c, k0_dev22_lt c⟩ fun g3 =>
  K (k0_pay48 (k0_pay42 (k0_pay42 (k0_pay42 (k0_pay40 v w) g0) g1) g2) g3)

/-- The owned strips quantised, and the first gathering sends. -/
def seg4 (a : F .f32) (c : Dev nD) (K : PrgT F) : PrgT F :=
  pQuant a (k0_off37 c 0#32) (k0_off37_inb c 0) ((Memref.isWhole_whole cc0_scratch2).storeExact_slice rfl _ (k0_off37_packedi8 c 0)) <|
  pQuant a (k0_off38 c 128#32) (k0_off38_inb c 0) ((Memref.isWhole_whole cc0_scratch2).storeExact_slice rfl _ (k0_off38_packedi8 c 0)) <|
  pQuant a (k0_off37 c 64#32) (k0_off37_inb c 1) ((Memref.isWhole_whole cc0_scratch2).storeExact_slice rfl _ (k0_off37_packedi8 c 1)) <|
  pQuant a (k0_off38 c 192#32) (k0_off38_inb c 1) ((Memref.isWhole_whole cc0_scratch2).storeExact_slice rfl _ (k0_off38_packedi8 c 1)) <|
  pS15 (crdS _ inb_S4_S1_0) (sndS _ inb_S4x2_S1x1_0_1) (rcvS _ inb_S4x2_S1x1_0_1) (k0_off3 c 15#32 0#32) (k0_off3_inb c 4) (qW _ _ (k0_off3_wordsi8 c 4))
    _ inb_S4x2x64x2048_S1x1x64x2048_0_1_0_0 (dW _ _ wordsi8_S4x2x64x2048_S1x1x64x2048_0_1_0_0) ⟨k0_dev23 c, k0_dev23_lt c⟩ <|
  pS15 (crdS _ inb_S4_S1_1) (sndS _ inb_S4x2_S1x1_1_1) (rcvS _ inb_S4x2_S1x1_1_1) (k0_off4 c 15#32 128#32) (k0_off4_inb c 4) (qW _ _ (k0_off4_wordsi8 c 4))
    _ inb_S4x2x64x2048_S1x1x64x2048_1_1_0_0 (dW _ _ wordsi8_S4x2x64x2048_S1x1x64x2048_1_1_0_0) ⟨k0_dev24 c, k0_dev24_lt c⟩ <|
  pS15 (crdS _ inb_S4_S1_2) (sndS _ inb_S4x2_S1x1_2_1) (rcvS _ inb_S4x2_S1x1_2_1) (k0_off3 c 15#32 64#32) (k0_off3_inb c 5) (qW _ _ (k0_off3_wordsi8 c 5))
    _ inb_S4x2x64x2048_S1x1x64x2048_2_1_0_0 (dW _ _ wordsi8_S4x2x64x2048_S1x1x64x2048_2_1_0_0) ⟨k0_dev25 c, k0_dev25_lt c⟩ <|
  pS15 (crdS _ inb_S4_S1_3) (sndS _ inb_S4x2_S1x1_3_1) (rcvS _ inb_S4x2_S1x1_3_1) (k0_off4 c 15#32 192#32) (k0_off4_inb c 5) (qW _ _ (k0_off4_wordsi8 c 5))
    _ inb_S4x2x64x2048_S1x1x64x2048_3_1_0_0 (dW _ _ wordsi8_S4x2x64x2048_S1x1x64x2048_3_1_0_0) ⟨k0_dev26 c, k0_dev26_lt c⟩ K

/-- The last strips gathered. -/
def seg5 (a : F .f32) (c : Dev nD) (K : PrgT F) : PrgT F :=
  pAT a (sndS _ inb_S4x2_S1x1_0_1) (rcvS _ inb_S4x2_S1x1_0_1) (k0_off3 c 29#32 0#32) (k0_off3_inb c 6) (qW _ _ (k0_off3_wordsi8 c 6))
    _ inb_S4x2x64x2048_S1x1x64x2048_0_1_0_0 (dW _ _ wordsi8_S4x2x64x2048_S1x1x64x2048_0_1_0_0) (k0_off33 c 29#32 0#32) (k0_off33_inb c 1 0) <|
  pAT a (sndS _ inb_S4x2_S1x1_1_1) (rcvS _ inb_S4x2_S1x1_1_1) (k0_off4 c 29#32 128#32) (k0_off4_inb c 6) (qW _ _ (k0_off4_wordsi8 c 6))
    _ inb_S4x2x64x2048_S1x1x64x2048_1_1_0_0 (dW _ _ wordsi8_S4x2x64x2048_S1x1x64x2048_1_1_0_0) (k0_off34 c 29#32 128#32) (k0_off34_inb c 1 0) <|
  pAT a (sndS _ inb_S4x2_S1x1_2_1) (rcvS _ inb_S4x2_S1x1_2_1) (k0_off3 c 29#32 64#32) (k0_off3_inb c 7) (qW _ _ (k0_off3_wordsi8 c 7))
    _ inb_S4x2x64x2048_S1x1x64x2048_2_1_0_0 (dW _ _ wordsi8_S4x2x64x2048_S1x1x64x2048_2_1_0_0) (k0_off33 c 29#32 64#32) (k0_off33_inb c 1 1) <|
  pAT a (sndS _ inb_S4x2_S1x1_3_1) (rcvS _ inb_S4x2_S1x1_3_1) (k0_off4 c 29#32 192#32) (k0_off4_inb c 7) (qW _ _ (k0_off4_wordsi8 c 7))
    _ inb_S4x2x64x2048_S1x1x64x2048_3_1_0_0 (dW _ _ wordsi8_S4x2x64x2048_S1x1x64x2048_3_1_0_0) (k0_off34 c 29#32 192#32) (k0_off34_inb c 1 1) K

/-- The kernel's body at its buffers. -/
abbrev theBody : PrgT F :=
  cc0_body xM (Memref.isWhole_whole _) wM (Memref.isWhole_whole _) oM (Memref.isWhole_whole _) cM (Memref.isWhole_whole _) dM (Memref.isWhole_whole _)
    qM (Memref.isWhole_whole _) bM (Memref.isWhole_whole _) gM (Memref.isWhole_whole _) cc0_scratch5 cc0_scratch6 cc0_scratch7 cc0_scratch8 cc0_scratch9

/-- A bind over a choice is the choice of the binds. -/
theorem bind_choice {E : Type → Type v} {α β : Type} {p : Prop} [Decidable p] (a : p → Prog E α) (b : ¬ p → Prog E α) (f : α → Prog E β) :
    (dite p a b >>= f) = dite p (fun h => a h >>= f) (fun h => b h >>= f) := by
  by_cases h : p <;> simp only [h, dite_true, dite_false]

theorem body1_eq (c : Dev nD) (v2 v13 v24 : BitVec 32) (v : FVec F S256x2048 .f32) (t : Fin k0_t1_loop.trips) (u : Unit) :
    body1 c v2 v13 v24 v t u = trip1 c t := by
  simp only [body1, k0_t1_body, k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton,
    k0_part10_skel, k0_part1_skel, k0_part2_skel, k0_part3_skel, k0_part4_skel, k0_part5_skel, k0_part6_skel, k0_part7_skel, k0_part8_skel, k0_part9_skel,
    semSignalWord, semWaitWord, Prog.lift, Prog.bind_op, Prog.bind_ret, Prog.pure_eq_ret, bind_choice]
  rfl

theorem body2_eq (c : Dev nD) (v2 v13 v24 : BitVec 32) (a : F .f32) (k : BitVec 32) (t : Fin k0_t2_loop.trips) (u : Unit) :
    body2 c v2 v13 v24 a k t u = trip2 a c t := by
  simp only [body2, k0_t2_body, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton,
    k0_part11_skel, k0_part12_skel, k0_part13_skel, k0_part14_skel, k0_part15_skel, k0_part16_skel, k0_part17_skel, k0_part18_skel, k0_part19_skel, k0_part20_skel,
    semSignalWord, semWaitWord, Prog.lift, Prog.bind_op, Prog.bind_ret, Prog.pure_eq_ret, bind_choice]
  rfl

theorem body1_fun (c : Dev nD) (v2 v13 v24 : BitVec 32) (v : FVec F S256x2048 .f32) : body1 c v2 v13 v24 v = fun t _ => trip1 c t :=
  funext fun t => funext fun u => body1_eq c v2 v13 v24 v t u

theorem body2_fun (c : Dev nD) (v2 v13 v24 : BitVec 32) (a : F .f32) (k : BitVec 32) : body2 c v2 v13 v24 a k = fun t _ => trip2 a c t :=
  funext fun t => funext fun u => body2_eq c v2 v13 v24 a k t u

set_option maxHeartbeats 1600000 in
/-- The body is its pieces one after the other. -/
theorem body_eq : theBody (F := F) =
    .op .deviceId fun c => seg1 c (Scf.Loop.for k0_t1_loop k0_t1_ok ⟨⟩ (fun t _ => trip1 c t) >>= fun _ => seg2 c <| seg3 c fun a => seg4 a c <|
      (Scf.Loop.for k0_t2_loop k0_t2_ok ⟨⟩ (fun t _ => trip2 a c t) >>= fun _ => seg5 a c (.ret ⟨⟩))) := by
  simp only [theBody, cc0_body_eq_skeleton, cc0_body_skel, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton,
    k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part46_skel, k0_part47_skel, k0_part48_skel, k0_part49_skel, k0_part50_skel, k0_part51_skel, k0_part52_skel, k0_part53_skel, k0_part54_skel, k0_part55_skel, k0_part56_skel, k0_part57_skel,
      semSignalWord, semWaitWord, Prog.lift, Prog.bind_op, Prog.bind_ret, Prog.pure_eq_ret, bind_assoc, body1_fun, body2_fun]
  rfl

end

end Cert.AR
-- ==== Proof.Mem.lean ====
/-
What a core holds of its buffers, strip by strip, and the loads and stores in those terms.
-/
module

public import proofs.«01_k».proof.Proof.Pieces
public import Idealize.ShloMosaic.Lib.Pipeline.Launch
public import Idealize.ShloMosaic.Lib.Pipeline.Kit
public import Idealize.ShloMosaic.Lib.Release
public import Idealize.ShloMosaic.Lib.Memref
public import Idealize.ShloMosaic.Lib.Exec.Geometry
public import Idealize.ShloMosaic.Lib.Tactic

@[expose] public section

set_option maxRecDepth 4000

namespace Cert.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

noncomputable section

/-! ### The ghost state -/

/-- The names of a core's semaphores: the barrier, the eight of the sends, the eight of the receives, the four credits, and
the exchange's four sends and four receives. -/
abbrev Cell := Unit ⊕ (Fin 4 × Fin 2) ⊕ (Fin 4 × Fin 2) ⊕ Fin 4 ⊕ Fin 4 ⊕ Fin 4
/-- The names of a core's slots: by kind (`true` the integers), ring and parity; and the exchange's four. -/
abbrev Slot := (Bool × Fin 4 × Fin 2) ⊕ Fin 4
abbrev KS := Dev nD × Slot
instance cellDec : DecidableEq (Dev nD × Cell) := instDecidableEqProd

/-- The proof uses no loop variants. -/
abbrev 𝒱₀ : Variants := Variants.none

abbrev UB : Type := URounds (GSem nD τ sig) ℕ
abbrev UU : Type := UR sig nD τ × (UB × Release.USlots KS)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Release.USlots KS)).trans embR
abbrev ES : Emb (Release.USlots KS) (MT nD τ sig ℕ (Elt F) ℕ UU ℕ) := (Emb.inr : Emb (Release.USlots KS) (UB × Release.USlots KS)).trans embR

/-! ### Loads and stores -/

variable {defs : Defs nD τ sig (Elt F) Λ₀} (𝒱 : Variants) (c : Dev nD) (bd : Option 𝒱.V)
variable {α : Type} {Q : α → sProp (MT nD τ sig ℕ (Elt F) ℕ UU ℕ)} {s : Shape} {e : EltTy}

/-- A load from a rectangle that is held whole. -/
theorem wp_loadO (M : Memref sig .tc .vmem s e) (r : Rect s) (hr : ∀ a, r.stride a = 1) (q : PosShare TreeShare) (X : r.shape.Idx → Elt F e)
    {hl : M.view.LoadsAt r.toLoadRect} {k : (r.toLoadRect.shape.Idx → Elt F e) → Prog (TpuEff nD τ sig (Elt F) Λ₀ .tc) α} :
    (owns c.tc (M.slice r hr) q X : sProp 𝕄)
      ⊢ iprop((owns c.tc (M.slice r hr) q X -∗ wp frame (wpE defs 𝒱 c.tc bd) Set.univ (k X) Q)
        -∗ wp frame (wpE defs 𝒱 c.tc bd) Set.univ (.op (.load M r.toLoadRect hl) k) Q) := by
  unfold owns
  iintro ⟨%f, %hf, H⟩ HK
  iapply (wp_load_rect (defs := defs) 𝒱 c.tc bd Set.univ (m := M) (r := r) (hl := hl) (k := k) (S := (M.access r).set) subset_rfl) $$ H
  iintro H
  have hf' : (M.access r).read (Elt F) f = X := hf
  rw [hf']
  iapply HK
  iexists f
  isplitr; · ipureintro; exact hf
  iexact H

/-- A store over a rectangle that is held whole. -/
theorem wp_storeO (M : Memref sig .tc .vmem s e) (r : Rect s) (hr : ∀ a, r.stride a = 1) (X w : r.shape.Idx → Elt F e)
    {hx : (M.access r).Stores Finset.univ} {hm : Finset.univ = Finset.univ ∨ ∀ a, r.stride a = 1} {k : PUnit → Prog (TpuEff nD τ sig (Elt F) Λ₀ .tc) α} :
    (owns c.tc (M.slice r hr) fullShare X : sProp 𝕄)
      ⊢ iprop((owns c.tc (M.slice r hr) fullShare w -∗ wp frame (wpE defs 𝒱 c.tc bd) Set.univ (k ⟨⟩) Q)
        -∗ wp frame (wpE defs 𝒱 c.tc bd) Set.univ (.op (.store M r w Finset.univ hx hm) k) Q) := by
  unfold owns
  iintro ⟨%f, %hf, H⟩ HK
  iapply (wp_store (defs := defs) 𝒱 c.tc bd Set.univ (m := M) (r := r) (w := w) (Mk := Finset.univ) (hx := hx) (hm := hm) (k := k) (S := (M.access r).set) subset_rfl) $$ H
  iintro H
  iapply HK
  iexists ((M.access r).write (Elt F) f w Finset.univ)
  isplitr
  · ipureintro
    exact View.read_write_univ _ _
  iexact H

/-! ### Strips of strips, and slots as strips -/

theorem own_within (M : Memref sig .tc .vmem s e) (R : Rect s) (hR : ∀ a, R.stride a = 1) (q : PosShare TreeShare)
    (r : Rect R.shape) (hr : ∀ a, r.stride a = 1) (X : r.shape.Idx → Elt F e) :
    (owns c.tc ((M.slice R hR).slice r hr) q X : sProp 𝕄) = owns c.tc (M.slice (R.within r hR) hr) q X := by
  have he : ((M.slice R hR).slice r hr).view.emb = (M.slice (R.within r hR) hr).view.emb := View.emb_slice_slice M.view R r hR
  have hs : ((M.slice R hR).slice r hr).view.set = (M.slice (R.within r hR) hr).view.set := by
    unfold View.set; rw [he]; rfl
  have hd : ∀ f, ((M.slice R hR).slice r hr).view.read (Elt F) f = (M.slice (R.within r hR) hr).view.read (Elt F) f := fun f => by
    unfold View.read; funext x; rw [he]; rfl
  unfold owns
  congr 1; funext f
  rw [hd f]
  exact congrArg (fun S => iprop(⌜(M.slice (R.within r hR) hr).view.read (Elt F) f = X⌝ ∗ ((M.view.loc c.tc) ↦[S]{q} f))) hs

/-- A rectangle held is its parts held, for parts given as rectangles of the buffer. -/
theorem own_sub {T : Type} [Fintype T] [DecidableEq T] (M : Memref sig .tc .vmem s e) (R : Rect s) (hR : ∀ a, R.stride a = 1) (q : PosShare TreeShare)
    (r : T → Rect R.shape) (hr : ∀ t a, (r t).stride a = 1) (hd : ∀ t t', t ≠ t' → Disjoint (r t).set (r t').set)
    (hcov : (Finset.univ : Finset T).biUnion (fun t => (r t).set) = Finset.univ) (X : R.shape.Idx → Elt F e) :
    (owns c.tc (M.slice R hR) q X : sProp 𝕄) ⊣⊢ bigSep Finset.univ fun t =>
      owns c.tc (M.slice (R.within (r t) hR) (hr t)) q (fun j => X ((r t).emb j)) := by
  haveI : ∀ e, Nonempty (Elt F e) := fun e => inferInstance
  have h : (bigSep Finset.univ fun t => (owns c.tc (M.slice (R.within (r t) hR) (hr t)) q (fun j => X ((r t).emb j)) : sProp 𝕄))
      = bigSep Finset.univ fun t => owns c.tc ((M.slice R hR).slice (r t) (hr t)) q (fun j => X ((r t).emb j)) :=
    congrArg _ (funext fun t => (own_within c M R hR q (r t) (hr t) _).symm)
  rw [h]
  exact ⟨owns_rects c.tc _ q r hr hd hcov X, owns_of_rects c.tc _ q r hr hd hcov X⟩

theorem read_emb {κ : Kind} {sp : Space} (v : View sig κ sp s e) (r : Rect s) (f : v.ty.Contents (Elt F)) (i : r.shape.Idx) :
    (v.slice r).read (Elt F) f i = v.read (Elt F) f (r.emb i) := rfl

theorem emb_mem (r : Rect s) (i : r.shape.Idx) : r.emb i ∈ r.set := by
  rw [← r.map_emb_univ]; exact Finset.mem_map_of_mem _ (Finset.mem_univ i)

/-- A load from a rectangle inside one that is held. -/
theorem wp_loadS (M : Memref sig .tc .vmem s e) (R : Rect s) (hR : ∀ a, R.stride a = 1) (r : Rect R.shape) (q : PosShare TreeShare) (X : R.shape.Idx → Elt F e)
    {r' : Rect s} (hr' : r' = R.within r hR) {hl : M.view.LoadsAt r'.toLoadRect} {k : (r'.toLoadRect.shape.Idx → Elt F e) → Prog (TpuEff nD τ sig (Elt F) Λ₀ .tc) α} :
    (owns c.tc (M.slice R hR) q X : sProp 𝕄)
      ⊢ iprop((owns c.tc (M.slice R hR) q X -∗ wp frame (wpE defs 𝒱 c.tc bd) Set.univ (k (hr' ▸ fun i => X (r.emb i))) Q)
        -∗ wp frame (wpE defs 𝒱 c.tc bd) Set.univ (.op (.load M r'.toLoadRect hl) k) Q) := by
  subst hr'
  unfold owns
  iintro ⟨%f, %hf, H⟩ HK
  have hsub : (M.access (R.within r hR)).set ⊆ (M.slice R hR).view.set := by
    unfold View.set
    intro x hx
    obtain ⟨j, -, rfl⟩ := Finset.mem_map.mp hx
    refine Finset.mem_map.mpr ⟨r.emb j, Finset.mem_univ _, ?_⟩
    exact congrArg M.view.emb (Rect.emb_within R r hR j).symm
  iapply (wp_load_rect (defs := defs) 𝒱 c.tc bd Set.univ (m := M) (r := R.within r hR) (hl := hl) (k := k) hsub) $$ H
  iintro H
  have hf' : (M.access (R.within r hR)).read (Elt F) f = fun i => X (r.emb i) := by
    subst hf
    funext i
    show (M.view.slice (R.within r hR)).read (Elt F) f i = (M.view.slice R).read (Elt F) f (r.emb i)
    exact congrArg (M.view.read (Elt F) f) (Rect.emb_within R r hR i)
  rw [hf']
  iapply HK
  iexists f
  isplitr; · ipureintro; exact hf
  iexact H

/-- A load from a rectangle of a buffer that is held whole. -/
theorem wp_loadW (M : Memref sig .tc .vmem s e) (r : Rect s) (q : PosShare TreeShare) (X : s.Idx → Elt F e)
    {hl : M.view.LoadsAt r.toLoadRect} {k : (r.toLoadRect.shape.Idx → Elt F e) → Prog (TpuEff nD τ sig (Elt F) Λ₀ .tc) α} :
    (owns c.tc M q X : sProp 𝕄)
      ⊢ iprop((owns c.tc M q X -∗ wp frame (wpE defs 𝒱 c.tc bd) Set.univ (k fun i => X (r.emb i)) Q)
        -∗ wp frame (wpE defs 𝒱 c.tc bd) Set.univ (.op (.load M r.toLoadRect hl) k) Q) := by
  unfold owns
  iintro ⟨%f, %hf, H⟩ HK
  iapply (wp_load_rect (defs := defs) 𝒱 c.tc bd Set.univ (m := M) (r := r) (hl := hl) (k := k) (M.view.set_slice_subset r)) $$ H
  iintro H
  have hf' : (M.access r).read (Elt F) f = fun i => X (r.emb i) := by
    subst hf
    funext i
    exact (read_emb M.view r f i)
  rw [hf']
  iapply HK
  iexists f
  isplitr; · ipureintro; exact hf
  iexact H

/-- A buffer seen in another shape is held alike. -/
theorem own_squeeze {s' : Shape} (M : Memref sig .tc .vmem s e) (h : s.Squeezes s') (q : PosShare TreeShare) (X : s'.Idx → Elt F e) :
    (owns c.tc (M.squeeze s' h) q X : sProp 𝕄) = owns c.tc M q (fun j => X ((Shape.reshapeEquiv h.numel_eq).symm j)) := by
  unfold owns
  congr 1; funext f
  have hs : (M.squeeze s' h).view.set = M.view.set := View.set_reshape _ _
  have hp : ((M.squeeze s' h).view.read (Elt F) f = X) = (M.view.read (Elt F) f = fun j => X ((Shape.reshapeEquiv h.numel_eq).symm j)) := by
    apply propext
    constructor
    · rintro rfl
      funext j
      show _ = M.view.read (Elt F) f (Shape.reshapeEquiv h.numel_eq ((Shape.reshapeEquiv h.numel_eq).symm j))
      rw [Equiv.apply_symm_apply]
    · intro hf
      funext i
      show M.view.read (Elt F) f (Shape.reshapeEquiv h.numel_eq i) = _
      rw [hf]; exact congrArg X (Equiv.symm_apply_apply _ _)
  rw [hp]
  exact congrArg (fun S => iprop(⌜M.view.read (Elt F) f = fun j => X ((Shape.reshapeEquiv h.numel_eq).symm j)⌝ ∗ ((M.view.loc c.tc) ↦[S]{q} f))) hs

/-- A buffer seen through the rectangle that is all of it. -/
theorem own_full (M : Memref sig .tc .vmem s e) (o : Fin s.rank → ℕ) (ho : ∀ a, o a = 0) (h : ∀ a, o a + s.size a ≤ s.size a)
    (q : PosShare TreeShare) (X : s.Idx → Elt F e) :
    (owns c.tc (M.slice (Rect.unit (s := s) o s.size h) (fun _ => rfl)) q X : sProp 𝕄) = owns c.tc M q X := by
  have hid : ∀ i : s.Idx, (Rect.unit (s := s) o s.size h).emb i = i := fun i => funext fun a => Fin.ext (by
    rw [Rect.emb_apply]; show o a + 1 * (i a).val = (i a).val; rw [ho a]; omega)
  have he : ∀ i : s.Idx, (M.slice (Rect.unit (s := s) o s.size h) (fun _ => rfl)).view.emb i = M.view.emb i := fun i => congrArg M.view.emb (hid i)
  have hs : (M.slice (Rect.unit (s := s) o s.size h) (fun _ => rfl)).view.set = M.view.set := by
    unfold View.set
    exact congrArg (Finset.map · Finset.univ) (Function.Embedding.ext he)
  have hd : ∀ f, (M.slice (Rect.unit (s := s) o s.size h) (fun _ => rfl)).view.read (Elt F) f = M.view.read (Elt F) f := fun f => by
    funext i
    show (M.view.slice (Rect.unit (s := s) o s.size h)).read (Elt F) f i = _
    rw [read_emb, hid i]
  unfold owns
  congr 1; funext f
  rw [hd f]
  exact congrArg (fun S => iprop(⌜M.view.read (Elt F) f = X⌝ ∗ ((M.view.loc c.tc) ↦[S]{q} f))) hs

/-! ### Contents put together from parts -/

/-- Contents with the given parts, for parts that do not overlap and cover. -/
theorem glue_exists {T β : Type} [Fintype T] [DecidableEq T] (r : T → Rect s) (hd : ∀ t t', t ≠ t' → Disjoint (r t).set (r t').set)
    (hcov : (Finset.univ : Finset T).biUnion (fun t => (r t).set) = Finset.univ) (Y : (t : T) → (r t).shape.Idx → β) :
    ∃ X : s.Idx → β, ∀ t i, X ((r t).emb i) = Y t i := by
  have hc : ∀ j : s.Idx, ∃ p : (t : T) × (r t).shape.Idx, (r p.1).emb p.2 = j := fun j => by
    have hj : j ∈ (Finset.univ : Finset T).biUnion (fun t => (r t).set) := hcov ▸ Finset.mem_univ j
    obtain ⟨t, -, ht⟩ := Finset.mem_biUnion.mp hj
    obtain ⟨i, hi⟩ := (r t).exists_idx_of_mem ht
    exact ⟨⟨t, i⟩, hi⟩
  choose p hp using hc
  refine ⟨fun j => Y (p j).1 (p j).2, fun t i => ?_⟩
  have key : ∀ (w : (t : T) × (r t).shape.Idx), (r w.1).emb w.2 = (r t).emb i → Y w.1 w.2 = Y t i := by
    rintro ⟨t', i'⟩ hw
    by_cases ht : t' = t
    · subst ht
      rw [(r t').emb.injective hw]
    · have h1 : (r t').emb i' ∈ (r t').set := emb_mem _ _
      have h2 : (r t').emb i' ∈ (r t).set := by rw [show (r t').emb i' = (r t).emb i from hw]; exact emb_mem _ _
      exact absurd h2 (Finset.disjoint_left.mp (hd t' t ht) h1)
  exact key _ (hp _)

def glue {T β : Type} [Fintype T] [DecidableEq T] (r : T → Rect s) (hd : ∀ t t', t ≠ t' → Disjoint (r t).set (r t').set)
    (hcov : (Finset.univ : Finset T).biUnion (fun t => (r t).set) = Finset.univ) (Y : (t : T) → (r t).shape.Idx → β) : s.Idx → β :=
  (glue_exists r hd hcov Y).choose

theorem glue_emb {T β : Type} [Fintype T] [DecidableEq T] (r : T → Rect s) (hd : ∀ t t', t ≠ t' → Disjoint (r t).set (r t').set)
    (hcov : (Finset.univ : Finset T).biUnion (fun t => (r t).set) = Finset.univ) (Y : (t : T) → (r t).shape.Idx → β) (t : T) (i : (r t).shape.Idx) :
    glue r hd hcov Y ((r t).emb i) = Y t i := (glue_exists r hd hcov Y).choose_spec t i

theorem cover_of {T : Type} [Fintype T] [DecidableEq T] (r : T → Rect s) (h : ∀ i : s.Idx, ∃ t, i ∈ (r t).set) :
    (Finset.univ : Finset T).biUnion (fun t => (r t).set) = Finset.univ :=
  Finset.eq_univ_iff_forall.mpr fun i => by obtain ⟨t, ht⟩ := h i; exact Finset.mem_biUnion.mpr ⟨t, Finset.mem_univ t, ht⟩

/-- Parts held are the whole held. -/
theorem own_glue {T : Type} [Fintype T] [DecidableEq T] (M : Memref sig .tc .vmem s e) (q : PosShare TreeShare) (r : T → Rect s) (hr : ∀ t a, (r t).stride a = 1)
    (hd : ∀ t t', t ≠ t' → Disjoint (r t).set (r t').set) (hcov : (Finset.univ : Finset T).biUnion (fun t => (r t).set) = Finset.univ)
    (Y : (t : T) → (r t).shape.Idx → Elt F e) :
    (bigSep Finset.univ fun t => (owns c.tc (M.slice (r t) (hr t)) q (Y t) : sProp 𝕄)) ⊢ owns c.tc M q (glue r hd hcov Y) := by
  haveI : ∀ e, Nonempty (Elt F e) := fun e => inferInstance
  refine Entails.trans (Entails.of_eq ?_) (owns_of_rects c.tc M q r hr hd hcov (glue r hd hcov Y))
  exact congrArg _ (funext fun t => congrArg _ (funext fun i => (glue_emb r hd hcov Y t i).symm))

/-- Held with whatever contents. -/
abbrev any {sp : Space} (m : Memref sig .tc sp s e) : sProp (MT nD τ sig ℕ (Elt F) ℕ UU ℕ) := iprop(∃ X, owns (c.tc : Thread nD τ) m fullShare X)

theorem any_glue {T : Type} [Fintype T] [DecidableEq T] (M : Memref sig .tc .vmem s e) (r : T → Rect s) (hr : ∀ t a, (r t).stride a = 1)
    (hd : ∀ t t', t ≠ t' → Disjoint (r t).set (r t').set) (hcov : (Finset.univ : Finset T).biUnion (fun t => (r t).set) = Finset.univ) :
    (bigSep Finset.univ fun t => (any c (M.slice (r t) (hr t)) : sProp 𝕄)) ⊢ any c M := by
  iintro H
  ihave H := (bigSep_exists_pi (Finset.univ : Finset T) (fun t X => (owns c.tc (M.slice (r t) (hr t)) fullShare X : sProp 𝕄))) $$ H
  icases H with ⟨%Y, H⟩
  iexists (glue r hd hcov Y)
  iapply (own_glue c M fullShare r hr hd hcov Y)
  iexact H

theorem any_rects {T : Type} [Fintype T] [DecidableEq T] (M : Memref sig .tc .vmem s e) (r : T → Rect s) (hr : ∀ t a, (r t).stride a = 1)
    (hd : ∀ t t', t ≠ t' → Disjoint (r t).set (r t').set) (hcov : (Finset.univ : Finset T).biUnion (fun t => (r t).set) = Finset.univ) :
    (any c M : sProp 𝕄) ⊢ bigSep Finset.univ fun t => any c (M.slice (r t) (hr t)) := by
  iintro ⟨%X, H⟩
  ihave H := (owns_rects c.tc M fullShare r hr hd hcov X) $$ H
  iapply (show _ ⊢ (bigSep Finset.univ fun t => any c (M.slice (r t) (hr t)) : sProp (MT nD τ sig ℕ (Elt F) ℕ UU ℕ)) from bigSep_mono (s := (Finset.univ : Finset T)) fun t _ => BIClass.exists_intro (Φ := fun Y => (owns c.tc (M.slice (r t) (hr t)) fullShare Y : sProp (MT nD τ sig ℕ (Elt F) ℕ UU ℕ))) (fun j => X ((r t).emb j))) $$ H

end

end Cert.AR
-- ==== Proof.Contents.lean ====
/-
What every strip, slot and scalar of the kernel holds, as functions of the two inputs.
-/
module

public import proofs.«01_k».proof.Proof.Mem

@[expose] public section

set_option maxRecDepth 4000

namespace Cert.AR

open Cert.KernelIdeal Cert.KernelIdeal.Gen
open Idealize.ShloMosaic Idealize.ShloMosaic.TcCoe

variable {F : FTy → Type} [FloatOps F]

noncomputable section

/-! ### Rectangles -/

/-- The chunk of hop `j` on ring `r`, as an index. -/
def chF (r j : ℕ) (c : Dev nD) : Fin 16 := ⟨ch r j c, ch_lt r j c⟩

theorem fk (k : ℕ) (hk : k < 16) : ∀ a : Fin 2, (![256 * k, 0] : Fin 2 → ℕ) a + S256x2048.size a ≤ S4096x2048.size a := by
  intro a; fin_cases a
  · show 256 * k + 256 ≤ 4096; omega
  · show 0 + 2048 ≤ 2048; omega
theorem fs (r k : ℕ) (hk : k < 16) : FS ![256 * k + ofs r, 0] := by
  intro a; have := ofs_le r; fin_cases a
  · show 256 * k + ofs r + 64 ≤ 4096; omega
  · show 0 + 2048 ≤ 2048; omega
theorem fr (r j : ℕ) (c : Dev nD) : FS ![row r j c, 0] := fs r (ch r j c) (ch_lt r j c)
theorem fx (k : ℕ) (hk : k < 16) : ∀ a : Fin 2, (![256 * k, 0] : Fin 2 → ℕ) a + S256x256.size a ≤ S4096x256.size a := by
  intro a; fin_cases a
  · show 256 * k + 256 ≤ 4096; omega
  · show 0 + 256 ≤ 256; omega
theorem fu (r : ℕ) : ∀ a : Fin 2, (![ofs r, 0] : Fin 2 → ℕ) a + S64x2048.size a ≤ S256x2048.size a := by
  intro a; have := ofs_le r; fin_cases a
  · show ofs r + 64 ≤ 256; omega
  · show 0 + 2048 ≤ 2048; omega
theorem fc (r s : ℕ) (hr : r < 4) (hs : s < 2) : FC ![r, s, 0, 0] := by
  intro a; fin_cases a
  · show r + 1 ≤ 4; omega
  · show s + 1 ≤ 2; omega
  · show 0 + 64 ≤ 64; omega
  · show 0 + 2048 ≤ 2048; omega
theorem fg (k : ℕ) (hk : k < 4) : FG ![k, 0, 0] := by
  intro a; fin_cases a
  · show k + 1 ≤ 4; omega
  · show 0 + 8 ≤ 8; omega
  · show 0 + 128 ≤ 128; omega
theorem f2 (r s : ℕ) (hr : r < 4) (hs : s < 2) : F2 ![r, s] := by
  intro a; fin_cases a
  · show r + 1 ≤ 4; omega
  · show s + 1 ≤ 2; omega
theorem f1 (r : ℕ) (hr : r < 4) : F1 ![r] := by
  intro a; fin_cases a
  show r + 1 ≤ 4; omega

/-- A chunk. -/
abbrev kR (k : Fin 16) : Rect S4096x2048 := Rect.unit (s := S4096x2048) ![256 * k.val, 0] S256x2048.size (fk k.val k.isLt)
/-- A ring's strip of a chunk, in the buffer. -/
abbrev tR (r : Fin 4) (k : Fin 16) : Rect S4096x2048 := sR ![256 * k.val + ofs r.val, 0] (fs r.val k.val k.isLt)
/-- A ring's strip of a chunk, in the chunk. -/
abbrev uR (r : Fin 4) : Rect S256x2048 := Rect.unit (s := S256x2048) ![ofs r.val, 0] S64x2048.size (fu r.val)
/-- A chunk of the first input. -/
abbrev xR (k : Fin 16) : Rect S4096x256 := Rect.unit (s := S4096x256) ![256 * k.val, 0] S256x256.size (fx k.val k.isLt)
/-- A slot. -/
abbrev lR (r : Fin 4) (s : Fin 2) : Rect S4x2x64x2048 := cR ![r.val, s.val, 0, 0] (fc r.val s.val r.isLt s.isLt)
/-- A slot of the exchange. -/
abbrev gR (k : Fin 4) : Rect S4x8x128 := Rect.unit (s := S4x8x128) ![k.val, 0, 0] S1x8x128.size (fg k.val k.isLt)

theorem kR_disj (k k' : Fin 16) (h : k ≠ k') : Disjoint (kR k).set (kR k').set := by
  refine Rect.unit_disjoint (0 : Fin 2) ?_
  have : k.val ≠ k'.val := fun e => h (Fin.ext e)
  show 256 * k.val + 256 ≤ 256 * k'.val ∨ 256 * k'.val + 256 ≤ 256 * k.val
  omega
theorem kR_cov : (Finset.univ : Finset (Fin 16)).biUnion (fun k => (kR k).set) = Finset.univ :=
  cover_of kR fun i => by
    have h0 := (i (0 : Fin 2)).isLt
    have h1 := (i (1 : Fin 2)).isLt
    change (i (0 : Fin 2)).val < 4096 at h0
    change (i (1 : Fin 2)).val < 2048 at h1
    refine ⟨⟨(i (0 : Fin 2)).val / 256, by omega⟩, Rect.mem_set_unit.mpr fun a => ?_⟩
    fin_cases a
    · show 256 * ((i (0 : Fin 2)).val / 256) ≤ (i (0 : Fin 2)).val ∧ (i (0 : Fin 2)).val < 256 * ((i (0 : Fin 2)).val / 256) + 256
      omega
    · show 0 ≤ (i (1 : Fin 2)).val ∧ (i (1 : Fin 2)).val < 0 + 2048
      omega

theorem ofs_sep : ∀ r r' : Fin 4, r ≠ r' → ofs r.val + 64 ≤ ofs r'.val ∨ ofs r'.val + 64 ≤ ofs r.val := by decide
theorem ofs_cov (n : ℕ) (h : n < 256) : ∃ r : Fin 4, ofs r.val ≤ n ∧ n < ofs r.val + 64 := by
  by_cases h1 : n < 64
  · exact ⟨0, by show 0 ≤ n; omega, by show n < 0 + 64; omega⟩
  by_cases h2 : n < 128
  · exact ⟨2, by show 64 ≤ n; omega, by show n < 64 + 64; omega⟩
  by_cases h3 : n < 192
  · exact ⟨1, by show 128 ≤ n; omega, by show n < 128 + 64; omega⟩
  · exact ⟨3, by show 192 ≤ n; omega, by show n < 192 + 64; omega⟩

theorem uR_disj (r r' : Fin 4) (h : r ≠ r') : Disjoint (uR r).set (uR r').set :=
  Rect.unit_disjoint (0 : Fin 2) (ofs_sep r r' h)
theorem uR_cov : (Finset.univ : Finset (Fin 4)).biUnion (fun k => (uR k).set) = Finset.univ :=
  cover_of uR fun i => by
    have h0 := (i (0 : Fin 2)).isLt
    have h1 := (i (1 : Fin 2)).isLt
    change (i (0 : Fin 2)).val < 256 at h0
    change (i (1 : Fin 2)).val < 2048 at h1
    obtain ⟨r, hr⟩ := ofs_cov _ h0
    refine ⟨r, Rect.mem_set_unit.mpr fun a => ?_⟩
    fin_cases a
    · exact hr
    · show 0 ≤ (i (1 : Fin 2)).val ∧ (i (1 : Fin 2)).val < 0 + 2048
      omega

theorem tR_disj (t t' : Fin 4 × Fin 16) (h : t ≠ t') : Disjoint (tR t.1 t.2).set (tR t'.1 t'.2).set := by
  refine Rect.unit_disjoint (0 : Fin 2) ?_
  show 256 * t.2.val + ofs t.1.val + 64 ≤ 256 * t'.2.val + ofs t'.1.val ∨ 256 * t'.2.val + ofs t'.1.val + 64 ≤ 256 * t.2.val + ofs t.1.val
  have h1 := ofs_le t.1.val
  have h2 := ofs_le t'.1.val
  by_cases hk : t.2.val = t'.2.val
  · have hr : t.1 ≠ t'.1 := fun e => h (Prod.ext e (Fin.ext hk))
    rcases ofs_sep _ _ hr with h | h <;> omega
  · omega
theorem tR_cov : (Finset.univ : Finset (Fin 4 × Fin 16)).biUnion (fun t => (tR t.1 t.2).set) = Finset.univ :=
  cover_of (fun t : Fin 4 × Fin 16 => tR t.1 t.2) fun i => by
    have h0 := (i (0 : Fin 2)).isLt
    have h1 := (i (1 : Fin 2)).isLt
    change (i (0 : Fin 2)).val < 4096 at h0
    change (i (1 : Fin 2)).val < 2048 at h1
    obtain ⟨r, hr⟩ := ofs_cov ((i (0 : Fin 2)).val % 256) (Nat.mod_lt _ (by decide))
    refine ⟨(r, ⟨(i (0 : Fin 2)).val / 256, by omega⟩), Rect.mem_set_unit.mpr fun a => ?_⟩
    fin_cases a
    · show 256 * ((i (0 : Fin 2)).val / 256) + ofs r.val ≤ (i (0 : Fin 2)).val ∧ (i (0 : Fin 2)).val < 256 * ((i (0 : Fin 2)).val / 256) + ofs r.val + 64
      omega
    · show 0 ≤ (i (1 : Fin 2)).val ∧ (i (1 : Fin 2)).val < 0 + 2048
      omega

theorem lR_disj (t t' : Fin 4 × Fin 2) (h : t ≠ t') : Disjoint (lR t.1 t.2).set (lR t'.1 t'.2).set := by
  by_cases hk : t.1.val = t'.1.val
  · have : t.2.val ≠ t'.2.val := fun e => h (Prod.ext (Fin.ext hk) (Fin.ext e))
    refine Rect.unit_disjoint (1 : Fin 4) ?_
    show t.2.val + 1 ≤ t'.2.val ∨ t'.2.val + 1 ≤ t.2.val
    omega
  · refine Rect.unit_disjoint (0 : Fin 4) ?_
    show t.1.val + 1 ≤ t'.1.val ∨ t'.1.val + 1 ≤ t.1.val
    omega
theorem lR_cov : (Finset.univ : Finset (Fin 4 × Fin 2)).biUnion (fun t => (lR t.1 t.2).set) = Finset.univ :=
  cover_of (fun t : Fin 4 × Fin 2 => lR t.1 t.2) fun i => by
    have h2 := (i (2 : Fin 4)).isLt
    have h3 := (i (3 : Fin 4)).isLt
    change (i (2 : Fin 4)).val < 64 at h2
    change (i (3 : Fin 4)).val < 2048 at h3
    refine ⟨(i (0 : Fin 4), i (1 : Fin 4)), Rect.mem_set_unit.mpr fun a => ?_⟩
    fin_cases a
    · show (i (0 : Fin 4)).val ≤ (i (0 : Fin 4)).val ∧ (i (0 : Fin 4)).val < (i (0 : Fin 4)).val + 1
      omega
    · show (i (1 : Fin 4)).val ≤ (i (1 : Fin 4)).val ∧ (i (1 : Fin 4)).val < (i (1 : Fin 4)).val + 1
      omega
    · show 0 ≤ (i (2 : Fin 4)).val ∧ (i (2 : Fin 4)).val < 0 + 64
      omega
    · show 0 ≤ (i (3 : Fin 4)).val ∧ (i (3 : Fin 4)).val < 0 + 2048
      omega

theorem gR_disj (t t' : Fin 4) (h : t ≠ t') : Disjoint (gR t).set (gR t').set := by
  have : t.val ≠ t'.val := fun e => h (Fin.ext e)
  refine Rect.unit_disjoint (0 : Fin 3) ?_
  show t.val + 1 ≤ t'.val ∨ t'.val + 1 ≤ t.val
  omega
theorem gR_cov : (Finset.univ : Finset (Fin 4)).biUnion (fun t => (gR t).set) = Finset.univ :=
  cover_of gR fun i => by
    have h1 := (i (1 : Fin 3)).isLt
    have h2 := (i (2 : Fin 3)).isLt
    change (i (1 : Fin 3)).val < 8 at h1
    change (i (2 : Fin 3)).val < 128 at h2
    refine ⟨i (0 : Fin 3), Rect.mem_set_unit.mpr fun a => ?_⟩
    fin_cases a
    · show (i (0 : Fin 3)).val ≤ (i (0 : Fin 3)).val ∧ (i (0 : Fin 3)).val < (i (0 : Fin 3)).val + 1
      omega
    · show 0 ≤ (i (1 : Fin 3)).val ∧ (i (1 : Fin 3)).val < 0 + 8
      omega
    · show 0 ≤ (i (2 : Fin 3)).val ∧ (i (2 : Fin 3)).val < 0 + 128
      omega

/-! ### Contents -/

/-- A strip's contents at a slot's indices. -/
abbrev uns {e : EltTy} (X : Vec F S64x2048 e) : Vec F S1x1x64x2048 e :=
  fun j => X ((Shape.reshapeEquiv squeezes_S1x1x64x2048_S64x2048.numel_eq).symm j)

variable (X : Dev nD → Vec F S4096x256 .f32) (W : Dev nD → Vec F S256x2048 .f32)

/-- A chunk of a device's product. -/
def gch (c : Dev nD) (k : Fin 16) : Vec F S256x2048 .f32 := k0_pay20 (fun i => X c ((xR k).emb i)) (W c)
/-- A ring's strip of a chunk of a device's product. -/
def gsk (r : Fin 4) (k : Fin 16) (c : Dev nD) : Vec F S64x2048 .f32 := fun i => gch X W c k ((uR r).emb i)
/-- The strip of a device's product that hop `j` on ring `r` sends. -/
def gst (r : Fin 4) (j : ℕ) (c : Dev nD) : Vec F S64x2048 .f32 := gsk X W r (chF r.val j c) c

/-- The partial sum hop `j` on ring `r` sends. -/
def psum (r : Fin 4) : ℕ → Dev nD → Vec F S64x2048 .f32
  | 0, c => gst X W r 0 c
  | h + 1, c => k0_pay2 (gst X W r (h + 1) c) (uns (psum r h (up r.val c)))

/-- Two strips, one above the other. -/
def half (Y Z : Vec F S64x2048 .f32) : Vec F S128x2048 .f32 := fun i =>
  if h : (i (0 : Fin 2)).val < 64 then Y (fun a => ⟨(i a).val, by
      have := (i a).isLt
      fin_cases a
      · exact h
      · exact this⟩)
  else Z (fun a => ⟨if a = (0 : Fin 2) then (i (0 : Fin 2)).val - 64 else (i (1 : Fin 2)).val, by
      have h0 := (i (0 : Fin 2)).isLt
      have h1 := (i (1 : Fin 2)).isLt
      change (i (0 : Fin 2)).val < 128 at h0
      change (i (1 : Fin 2)).val < 2048 at h1
      fin_cases a
      · show (i (0 : Fin 2)).val - 64 < 64; omega
      · exact h1⟩)

/-- The first owned half, rings 0 and 2, and the second, rings 1 and 3. -/
abbrev half0 (c : Dev nD) : Vec F S128x2048 .f32 := half (psum X W 0 15 c) (psum X W 2 15 c)
abbrev half1 (c : Dev nD) : Vec F S128x2048 .f32 := half (psum X W 1 15 c) (psum X W 3 15 c)

/-- The largest magnitude known after `k` exchanges. -/
def amx : ℕ → Dev nD → F .f32
  | 0, c => k0_pay40 (half0 X W c) (half1 X W c)
  | k + 1, c => k0_pay42 (amx k c) (fun _ => amx k (px k c))

/-- The scale. -/
def scl (c : Dev nD) : F .f32 := k0_pay48 (amx X W 3 c) (fun _ => amx X W 3 (px 3 c))

/-- The integers hop `15 + n` on ring `r` sends. -/
def qnt (r : Fin 4) : ℕ → Dev nD → Vec F S64x2048 .i8
  | 0, c => k0_pay57 (scl X W c) (psum X W r 15 c)
  | n + 1, c => k0_pay9 (uns (qnt r n (up r.val c)))

/-- The strip of the result that hop `j` on ring `r` fills. -/
def outS (r : Fin 4) (j : ℕ) (c : Dev nD) : Vec F S64x2048 .f32 :=
  if j = 15 then k0_pay58 (scl X W c) (psum X W r 15 c) else k0_pay10 (scl X W c) (uns (qnt X W r j (up r.val c)))

/-- The hop that a device fills a chunk at. -/
def hopOf (r : ℕ) (k : Fin 16) (c : Dev nD) : ℕ := (if r % 2 = 0 then c.val + 32 - k.val else k.val + 32 - c.val) % 16

theorem hopOf_lt (r : ℕ) (k : Fin 16) (c : Dev nD) : hopOf r k c < 16 := Nat.mod_lt _ (by decide)
theorem ch_hopOf (r : ℕ) (k : Fin 16) (c : Dev nD) : chF r (hopOf r k c) c = k := by
  apply Fin.ext; have := c.isLt; change c.val < 16 at this; simp only [hopOf, chF, ch]; split_ifs <;> omega
theorem hopOf_ch (r j : ℕ) (hj : j < 16) (c : Dev nD) : hopOf r (chF r j c) c = j :=
  ch_inj r c (hopOf_lt _ _ _) hj (congrArg Fin.val (ch_hopOf r (chF r j c) c))

/-- The result on a device. -/
def outV (c : Dev nD) : Vec F S4096x2048 .f32 :=
  glue (fun t : Fin 4 × Fin 16 => tR t.1 t.2) tR_disj tR_cov fun t => outS X W t.1 (hopOf t.1.val t.2 c) c

end

end Cert.AR
-- ==== Proof.Proto.lean ====
/-
The agreement the devices keep: which semaphore pays what to whom, in what order, and at what level.
-/
module

public import proofs.«01_k».proof.Proof.Contents
public import Idealize.ShloMosaic.Lib.Rounds

@[expose] public section

set_option maxRecDepth 4000

namespace Cert.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (readerAt released writeTok slotInv)

variable {F : FTy → Type} [FloatOps F]

noncomputable section

local notation "𝕄" => MT nD τ sig ℕ (Elt F) ℕ UU ℕ

/-! ### Semaphores by name -/

abbrev cBar : Cell := .inl ()
abbrev cSnd (r : Fin 4) (s : Fin 2) : Cell := .inr (.inl (r, s))
abbrev cRcv (r : Fin 4) (s : Fin 2) : Cell := .inr (.inr (.inl (r, s)))
abbrev cCrd (r : Fin 4) : Cell := .inr (.inr (.inr (.inl r)))
abbrev cBfs (k : Fin 4) : Cell := .inr (.inr (.inr (.inr (.inl k))))
abbrev cBfr (k : Fin 4) : Cell := .inr (.inr (.inr (.inr (.inr k))))

abbrev sndQ (r : Fin 4) (s : Fin 2) : DmaSem sig := sndS ![r.val, s.val] (f2 _ _ r.isLt s.isLt)
abbrev rcvQ (r : Fin 4) (s : Fin 2) : DmaSem sig := rcvS ![r.val, s.val] (f2 _ _ r.isLt s.isLt)
abbrev crdQ (r : Fin 4) : Sem sig := crdS ![r.val] (f1 _ r.isLt)
abbrev bfsQ (k : Fin 4) : DmaSem sig := bfsS ![k.val] (f1 _ k.isLt)
abbrev bfrQ (k : Fin 4) : DmaSem sig := bfrS ![k.val] (f1 _ k.isLt)

/-- A core's semaphore of the given name. -/
abbrev csem : Cell → SemLoc sig
  | .inl _ => .reg barS
  | .inr (.inl p) => .dma (sndQ p.1 p.2)
  | .inr (.inr (.inl p)) => .dma (rcvQ p.1 p.2)
  | .inr (.inr (.inr (.inl r))) => .reg (crdQ r)
  | .inr (.inr (.inr (.inr (.inl k)))) => .dma (bfsQ k)
  | .inr (.inr (.inr (.inr (.inr k)))) => .dma (bfrQ k)

theorem csem_inj : Function.Injective csem := by decide +kernel

/-- The name of a semaphore, if it has one. -/
def dec (s : SemLoc sig) : Option Cell := if h : ∃ x, csem x = s then some h.choose else none

theorem dec_csem (x : Cell) : dec (csem x) = some x := by
  have h : ∃ y, csem y = csem x := ⟨x, rfl⟩
  unfold dec; rw [dif_pos h]; exact congrArg some (csem_inj h.choose_spec)
theorem dec_none {s : SemLoc sig} (h : ∀ x, csem x ≠ s) : dec s = none := dif_neg fun ⟨x, hx⟩ => h x hx

/-- The cell of a device. -/
abbrev gcell (d : Dev nD) (x : Cell) : GSem nD τ sig := ((d.tc : Thread nD τ), csem x)

/-! ### Slots by name -/

/-- The parity of a hop. -/
def par (h : ℕ) : Fin 2 := ⟨h % 2, Nat.mod_lt _ (by decide)⟩
theorem par_add (h : ℕ) : par (h + 2) = par h := Fin.ext (show (h + 2) % 2 = h % 2 by omega)

abbrev slot32 (r : Fin 4) (s : Fin 2) : Memref sig .tc .vmem S64x2048 .f32 := slotM cM ![r.val, s.val, 0, 0] (fc _ _ r.isLt s.isLt)
abbrev slot8 (r : Fin 4) (s : Fin 2) : Memref sig .tc .vmem S64x2048 .i8 := slotM dM ![r.val, s.val, 0, 0] (fc _ _ r.isLt s.isLt)
abbrev slotB (k : Fin 4) : Memref sig .tc .vmem S8x128 .f32 := bslotM ![k.val, 0, 0] (fg _ k.isLt)
/-- The strip of hop `j` on ring `r`. -/
abbrev sO (r : Fin 4) (j : ℕ) (c : Dev nD) : Memref sig .tc .vmem S64x2048 .f32 := strip oM ![row r.val j c, 0] (fr r.val j c)
abbrev sQ (r : Fin 4) (j : ℕ) (c : Dev nD) : Memref sig .tc .vmem S64x2048 .i8 := strip qM ![row r.val j c, 0] (fr r.val j c)

/-- The slot of a name, held with whatever contents. -/
def slotP (d : Dev nD) : Slot → sProp (MT nD τ sig ℕ (Elt F) ℕ UU ℕ)
  | .inl (false, r, s) => any d (slot32 r s)
  | .inl (true, r, s) => any d (slot8 r s)
  | .inr k => any d (slotB k)

instance slotP_storable (d : Dev nD) (k : Slot) : Storable (upEmb : UEmb _ (MT nD τ sig ℕ (Elt F) ℕ UU ℕ)) (slotP d k) := by
  rcases k with ⟨b, r, s⟩ | k
  · cases b <;> (unfold slotP; infer_instance)
  · unfold slotP; infer_instance

/-- The slot that hop `h` on ring `r` fills. -/
def key (r : Fin 4) (h : ℕ) : Slot := .inl (decide (15 ≤ h), r, par h)
/-- Which of the writes to its slot hop `h` is, from one. -/
def wno (h : ℕ) : ℕ := if h ≤ 14 then h / 2 + 1 else (h - 15) / 2 + 1

/-! ### What is known of other devices -/

/-- Every slot of the device may be written once. -/
def facts (d : Dev nD) : sProp (MT nD τ sig ℕ (Elt F) ℕ UU ℕ) := bigSep Finset.univ fun k : Slot => released ES (d, k) 1

/-- Device `d` is ready for hop `h` on ring `r`. -/
def hopOK (d : Dev nD) (r : Fin 4) (h : ℕ) : sProp (MT nD τ sig ℕ (Elt F) ℕ UU ℕ) :=
  iprop(released ES (d, key r h) (wno h) ∗ reached ER (gcell d (cRcv r (par h))) (h / 2))

/-- Device `d` is ready for the hops below `m` on ring `r`. -/
def okUp (d : Dev nD) (r : Fin 4) (m : ℕ) : sProp (MT nD τ sig ℕ (Elt F) ℕ UU ℕ) := bigSep (Finset.range m) (hopOK d r)

instance facts_pers (d : Dev nD) : BI.Persistent (facts (F := F) d) := by unfold facts; infer_instance
instance hopOK_pers (d : Dev nD) (r : Fin 4) (h : ℕ) : BI.Persistent (hopOK (F := F) d r h) := by unfold hopOK; infer_instance
instance okUp_pers (d : Dev nD) (r : Fin 4) (m : ℕ) : BI.Persistent (okUp (F := F) d r m) := by unfold okUp; infer_instance
instance facts_stor (d : Dev nD) : Storable (upEmb : UEmb _ (MT nD τ sig ℕ (Elt F) ℕ UU ℕ)) (facts (F := F) d) := by unfold facts; infer_instance
instance hopOK_stor (d : Dev nD) (r : Fin 4) (h : ℕ) : Storable (upEmb : UEmb _ (MT nD τ sig ℕ (Elt F) ℕ UU ℕ)) (hopOK (F := F) d r h) := by
  unfold hopOK; infer_instance
instance okUp_stor (d : Dev nD) (r : Fin 4) (m : ℕ) : Storable (upEmb : UEmb _ (MT nD τ sig ℕ (Elt F) ℕ UU ℕ)) (okUp (F := F) d r m) := by
  unfold okUp; infer_instance

/-! ### The schedule -/

abbrev n32 : ℕ := (slot32 0 0).view.dmaCredit
abbrev n8 : ℕ := (slot8 0 0).view.dmaCredit
abbrev nB : ℕ := (slotB 0).view.dmaCredit
/-- What hop `h` counts. -/
def nH (h : ℕ) : ℕ := if h ≤ 14 then n32 else n8

theorem n32_pos : 0 < n32 := View.dmaCredit_pos _ (by decide)
theorem n8_pos : 0 < n8 := View.dmaCredit_pos _ (by decide)
theorem nB_pos : 0 < nB := View.dmaCredit_pos _ (by decide)
theorem nH_pos (h : ℕ) : 0 < nH h := by unfold nH; split_ifs; exacts [n32_pos, n8_pos]

variable (X : Dev nD → Vec F S4096x256 .f32) (W : Dev nD → Vec F S256x2048 .f32)

/-- What a send gives back when it has left. -/
def sentP (c : Dev nD) (r : Fin 4) (h : ℕ) : sProp (MT nD τ sig ℕ (Elt F) ℕ UU ℕ) :=
  if h ≤ 14 then any c (sO r h c) else any c (sQ r h c)
/-- What a hop brings. -/
def cameP (c : Dev nD) (r : Fin 4) (h : ℕ) : sProp (MT nD τ sig ℕ (Elt F) ℕ UU ℕ) :=
  if h ≤ 14 then iprop(owns (c.tc : Thread nD τ) (slot32 r (par h)) fullShare (psum X W r h (up r.val c)) ∗ facts ⟨ch r.val (h + 1) c, ch_lt _ _ _⟩)
  else owns (c.tc : Thread nD τ) (slot8 r (par h)) fullShare (qnt X W r (h - 15) (up r.val c))
/-- What an exchange brings. -/
def bfP (c : Dev nD) (k : Fin 4) : sProp (MT nD τ sig ℕ (Elt F) ℕ UU ℕ) :=
  owns (c.tc : Thread nD τ) (slotB k) fullShare (fun _ => amx X W k.val (px k.val c))

instance sentP_stor (c : Dev nD) (r : Fin 4) (h : ℕ) : Storable (upEmb : UEmb _ (MT nD τ sig ℕ (Elt F) ℕ UU ℕ)) (sentP (F := F) c r h) := by
  unfold sentP; split_ifs <;> infer_instance
instance cameP_stor (c : Dev nD) (r : Fin 4) (h : ℕ) : Storable (upEmb : UEmb _ (MT nD τ sig ℕ (Elt F) ℕ UU ℕ)) (cameP X W c r h) := by
  unfold cameP; split_ifs <;> infer_instance
instance bfP_stor (c : Dev nD) (k : Fin 4) : Storable (upEmb : UEmb _ (MT nD τ sig ℕ (Elt F) ℕ UU ℕ)) (bfP X W c k) := by
  unfold bfP; infer_instance

def dutiesOf : Option Cell → ℕ → Finset ℕ
  | some (.inl _), q => if q = 0 then {0, 1} else ∅
  | some (.inr (.inl _)), q => if q < 15 then {0} else ∅
  | some (.inr (.inr (.inl _))), q => if q < 15 then {0} else ∅
  | some (.inr (.inr (.inr (.inl _)))), q => if q = 0 then Finset.range 28 else ∅
  | some (.inr (.inr (.inr (.inr (.inl _))))), q => if q = 0 then {0} else ∅
  | some (.inr (.inr (.inr (.inr (.inr _))))), q => if q = 0 then {0} else ∅
  | none, _ => ∅

def amountOf' : Option Cell → ℕ → ℕ
  | some (.inr (.inl p)), q => nH (2 * q + p.2.val)
  | some (.inr (.inr (.inl p))), q => nH (2 * q + p.2.val)
  | some (.inr (.inr (.inr (.inr (.inl _))))), _ => nB
  | some (.inr (.inr (.inr (.inr (.inr _))))), _ => nB
  | _, _ => 1

theorem amountOf'_pos (x : Option Cell) (q : ℕ) : 0 < amountOf' x q := by
  unfold amountOf'; split
  · exact nH_pos _
  · exact nH_pos _
  · exact nB_pos
  · exact nB_pos
  · exact Nat.one_pos

def payloadOf (c : Dev nD) : Option Cell → ℕ → ℕ → sProp (MT nD τ sig ℕ (Elt F) ℕ UU ℕ)
  | some (.inl _), _, d => if d = 0 then facts (up 0 c) else facts (dn 0 c)
  | some (.inr (.inl p)), q, _ => sentP c p.1 (2 * q + p.2.val)
  | some (.inr (.inr (.inl p))), q, _ => cameP X W c p.1 (2 * q + p.2.val)
  | some (.inr (.inr (.inr (.inl r)))), _, n => okUp (dn r.val c) r (n + 3)
  | some (.inr (.inr (.inr (.inr (.inl _))))), _, _ => any c bM
  | some (.inr (.inr (.inr (.inr (.inr k))))), _, _ => bfP X W c k
  | none, _, _ => iprop(emp)

/-- The schedule. -/
def Rd : Schedule (GSem nD τ sig) ℕ (MT nD τ sig ℕ (Elt F) ℕ UU ℕ) where
  duties g q := dutiesOf (dec g.2) q
  amount g q _ := amountOf' (dec g.2) q
  payload g q d := payloadOf X W g.1.1 (dec g.2) q d
  amount_pos := fun g q d _ => amountOf'_pos (dec g.2) q

instance payload_stor (g : GSem nD τ sig) (q d : ℕ) : Storable (upEmb : UEmb _ (MT nD τ sig ℕ (Elt F) ℕ UU ℕ)) ((Rd X W).payload g q d) := by
  show Storable _ (payloadOf X W g.1.1 (dec g.2) q d)
  unfold payloadOf; split
  · split_ifs <;> infer_instance
  all_goals infer_instance

theorem not_unitless (g : GSem nD τ sig) : ¬ (Rd X W).unitless g := fun h => h

theorem duties_eq (d : Dev nD) (x : Cell) (q : ℕ) : (Rd X W).duties (gcell d x) q = dutiesOf (some x) q := by
  show dutiesOf (dec (csem x)) q = _; rw [dec_csem]
theorem amount_eq (d : Dev nD) (x : Cell) (q n : ℕ) : (Rd X W).amount (gcell d x) q n = amountOf' (some x) q := by
  show amountOf' (dec (csem x)) q = _; rw [dec_csem]
theorem payload_eq (d : Dev nD) (x : Cell) (q n : ℕ) : (Rd X W).payload (gcell d x) q n = payloadOf X W d (some x) q n := by
  show payloadOf X W d (dec (csem x)) q n = _; rw [dec_csem]

theorem expect_one (d : Dev nD) (x : Cell) (q n : ℕ) (h : dutiesOf (some x) q = {n}) : (Rd X W).expect (gcell d x) q = amountOf' (some x) q := by
  unfold Schedule.expect
  show ∑ e ∈ (Rd X W).duties (gcell d x) q, (Rd X W).amount (gcell d x) q e = _
  rw [duties_eq, h, Finset.sum_singleton, amount_eq]

theorem expect_crd (d : Dev nD) (r : Fin 4) : (Rd X W).expect (gcell d (cCrd r)) 0 = 28 := by
  show ∑ e ∈ (Rd X W).duties (gcell d (cCrd r)) 0, (Rd X W).amount (gcell d (cCrd r)) 0 e = _
  rw [duties_eq, Finset.sum_congr rfl fun e _ => amount_eq X W d (cCrd r) 0 e]
  show (∑ e ∈ Finset.range 28, 1) = 28
  simp
theorem expect_bar (d : Dev nD) : (Rd X W).expect (gcell d cBar) 0 = 2 := by
  show ∑ e ∈ (Rd X W).duties (gcell d cBar) 0, (Rd X W).amount (gcell d cBar) 0 e = _
  rw [duties_eq, Finset.sum_congr rfl fun e _ => amount_eq X W d cBar 0 e]
  show (∑ e ∈ ({0, 1} : Finset ℕ), 1) = 2
  simp

theorem hop_split (h : ℕ) : 2 * (h / 2) + (par h).val = h := by show 2 * (h / 2) + h % 2 = h; omega

/-! ### What a device owes, in the order it pays -/

/-- The payments: two at the barrier, the sends, the credits, the exchanges. -/
abbrev Ev := Fin 2 ⊕ (Fin 4 × Fin 30) ⊕ (Fin 4 × Fin 28) ⊕ Fin 4

def tS (r h : ℕ) : ℕ := if h = 0 then 2 + r else if h ≤ 14 then 8 * h + 2 * r - 1 else if h = 15 then 126 + r else 8 * h + 2 * r + 3
def tC (r n : ℕ) : ℕ := if n ≤ 13 then 8 * n + 2 * r + 6 else if n = 14 then 118 + r else 8 * n + 2 * r + 10
/-- When a payment is made. -/
def tm : Ev → ℕ
  | .inl i => i.val
  | .inr (.inl p) => tS p.1.val p.2.val
  | .inr (.inr (.inl p)) => tC p.1.val p.2.val
  | .inr (.inr (.inr k)) => 122 + k.val

theorem tm_inj : Function.Injective tm := by decide +kernel

/-- Whom a payment goes to, at which semaphore, under which index, and how much. -/
def evTo (c : Dev nD) : Ev → Dev nD
  | .inl i => if i.val = 0 then up 0 c else dn 0 c
  | .inr (.inl p) => dn p.1.val c
  | .inr (.inr (.inl p)) => up p.1.val c
  | .inr (.inr (.inr k)) => px k.val c
def evCell : Ev → Cell
  | .inl _ => cBar
  | .inr (.inl p) => cRcv p.1 (par p.2.val)
  | .inr (.inr (.inl p)) => cCrd p.1
  | .inr (.inr (.inr k)) => cBfr k
def evIx : Ev → ℕ
  | .inl _ => 0
  | .inr (.inl p) => p.2.val
  | .inr (.inr (.inl p)) => p.2.val
  | .inr (.inr (.inr _)) => 0
def evAmt : Ev → ℕ
  | .inr (.inl p) => nH p.2.val
  | .inr (.inr (.inr _)) => nB
  | _ => 1

def pay (c : Dev nD) (e : Ev) : CellTallies nD τ sig ℕ := tallyAt (gcell (evTo c e) (evCell e)) (evIx e) (evAmt e)

/-- What is owed from time `i` on. -/
def owed (c : Dev nD) (i : ℕ) : CellTallies nD τ sig ℕ := ∑ e ∈ Finset.univ.filter (fun e => i ≤ tm e), pay c e

theorem owed_at (c : Dev nD) (e : Ev) : owed c (tm e) = owed c (tm e + 1) + pay c e := by
  unfold owed
  have h : Finset.univ.filter (fun e' => tm e ≤ tm e') = insert e (Finset.univ.filter (fun e' => tm e + 1 ≤ tm e')) := by
    ext e'
    simp only [Finset.mem_filter, Finset.mem_univ, true_and, Finset.mem_insert]
    constructor
    · intro hh
      by_cases he : e' = e
      · exact .inl he
      · have : tm e' ≠ tm e := fun h => he (tm_inj h)
        exact .inr (by omega)
    · rintro (rfl | hh)
      · exact le_refl _
      · omega
  rw [h, Finset.sum_insert (by simp), add_comm]

theorem owed_skip (c : Dev nD) (i j : ℕ) (hij : i ≤ j) (h : ∀ e, tm e < i ∨ j ≤ tm e) : owed c i = owed c j := by
  unfold owed
  congr 1
  ext e
  simp only [Finset.mem_filter, Finset.mem_univ, true_and]
  have := h e
  omega

theorem owed_end (c : Dev nD) (i : ℕ) (h : ∀ e, tm e < i) : owed c i = 0 := by
  unfold owed
  rw [Finset.filter_false_of_mem (fun e _ => by have := h e; omega), Finset.sum_empty]

/-! ### Levels -/

def lvOf : Option Cell → ℕ → ℕ
  | some (.inl _), _ => 2
  | some (.inr (.inr (.inl p))), ι => tS p.1.val ι + 1
  | some (.inr (.inr (.inr (.inl r)))), ι => tC r.val ι + 1
  | some (.inr (.inr (.inr (.inr (.inr k))))), _ => 123 + k.val
  | _, _ => 0

def lv (g : GSem nD τ sig) (ι : ℕ) : ℕ := lvOf (dec g.2) ι
def Lset (g : GSem nD τ sig) : Finset ℕ := if g.1.2 = .tc then Finset.range 30 else ∅

theorem Lset_ne (g : GSem nD τ sig) (h : g.1.2 ≠ .tc) : Lset g = ∅ := if_neg h

theorem lv_ev (c : Dev nD) (e : Ev) : tm e + 1 ≤ lv (gcell (evTo c e) (evCell e)) (evIx e) := by
  unfold lv; show _ ≤ lvOf (dec (csem (evCell e))) _; rw [dec_csem]
  rcases e with i | p | p | k
  · show i.val + 1 ≤ 2; omega
  · exact le_refl _
  · exact le_refl _
  · show 122 + k.val + 1 ≤ 123 + k.val; omega

theorem owed_pos {c : Dev nD} {i : ℕ} {g : GSem nD τ sig} {ι : ℕ} (h : 0 < owed c i g ι) :
    ∃ e, i ≤ tm e ∧ g = gcell (evTo c e) (evCell e) ∧ ι = evIx e := by
  by_contra hn
  push Not at hn
  have h0 : owed c i g ι = 0 := by
    unfold owed
    rw [Finset.sum_apply, Finsupp.finset_sum_apply]
    refine Finset.sum_eq_zero fun e he => ?_
    have hi : i ≤ tm e := (Finset.mem_filter.mp he).2
    unfold pay
    rw [tallyAt_apply]
    by_cases hg : g = gcell (evTo c e) (evCell e)
    · subst hg; rw [if_neg]; rintro ⟨-, h2⟩; exact hn e hi rfl h2
    · rw [if_neg]; rintro ⟨h1, -⟩; exact hg h1
  omega

theorem evIx_lt (e : Ev) : evIx e < 30 := by
  rcases e with i | p | p | k
  · show 0 < 30; omega
  · exact p.2.isLt
  · have := p.2.isLt; show p.2.val < 30; omega
  · show 0 < 30; omega

/-- At time `i` a device may wait on a semaphore whose level is at most `i`. -/
theorem mayWait (c : Dev nD) (sm : SemLoc sig) (ι i : ℕ) (hι : ι < 30) (hl : lv ((c.tc : Thread nD τ), sm) ι ≤ i) :
    (levAts Lset lv : sProp 𝕄) ⊢ MayWait (c.tc : Thread nD τ) sm ι (owed c i) := by
  refine MayOwe.of_cut (L := Lset) (lev := lv) i (fun p hp => ?_) (fun g u hg => ?_) (fun p hp => ?_) (fun g u hg => ?_)
  · rw [Finset.mem_singleton.mp hp]; show ι ∈ Lset _; unfold Lset; rw [if_pos rfl]; exact Finset.mem_range.mpr hι
  · obtain ⟨e, -, rfl, rfl⟩ := owed_pos hg
    unfold Lset; rw [if_pos rfl]; exact Finset.mem_range.mpr (evIx_lt e)
  · rw [Finset.mem_singleton.mp hp]; exact hl
  · obtain ⟨e, hi, rfl, rfl⟩ := owed_pos hg
    have := lv_ev c e; omega

end

end Cert.AR
-- ==== Proof.Steps.lean ====
/-
One send, one wait, one credit of a ring, and one exchange, as steps of the agreement.
-/
module

public import proofs.«01_k».proof.Proof.Proto
public import Idealize.SL.BI.BigOpNat

@[expose] public section

set_option maxRecDepth 20000

namespace Cert.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (readerAt released writeTok slotInv)

variable {F : FTy → Type} [FloatOps F]

noncomputable section

local notation "𝕄" => MT nD τ sig ℕ (Elt F) ℕ UU ℕ

/-- A program of device `c` run to a postcondition. -/
abbrev WP (c : Dev nD) (P : PrgT F) (Q : PUnit → sProp (MT nD τ sig ℕ (Elt F) ℕ UU ℕ)) : sProp (MT nD τ sig ℕ (Elt F) ℕ UU ℕ) :=
  wp frame (wpE (defs₀ (F := F)) 𝒱₀ (c.tc : Thread nD τ) none) Set.univ P Q

variable (X : Dev nD → Vec F S4096x256 .f32) (W : Dev nD → Vec F S256x2048 .f32) (K : Dev nD × Cell → ℕ) (ιs : KS → ℕ) (c : Dev nD)

/-- What every device knows: the semaphores' and slots' invariants, that every semaphore is at least at its first round, and the levels. -/
def env : sProp (MT nD τ sig ℕ (Elt F) ℕ UU ℕ) :=
  iprop((bigSep Finset.univ fun p : Dev nD × Cell => cellInv ER (Rd X W) (K p) (gcell p.1 p.2))
    ∗ (bigSep Finset.univ fun p : Dev nD × Cell => reached ER (gcell p.1 p.2) 0)
    ∗ (bigSep Finset.univ fun k : KS => slotInv ES (ιs k) k (slotP k.1 k.2)) ∗ levAts Lset lv)

instance env_pers : BI.Persistent (env X W K ιs) := by unfold env; infer_instance

theorem env_cell (d : Dev nD) (x : Cell) : env X W K ιs ⊢ cellInv ER (Rd X W) (K (d, x)) (gcell d x) := by
  unfold env; exact sep_elim_left.trans (bigSep_elim (Finset.mem_univ (d, x)))
theorem env_reached (d : Dev nD) (x : Cell) : env X W K ιs ⊢ reached ER (gcell d x) 0 := by
  unfold env; exact sep_elim_right.trans (sep_elim_left.trans (bigSep_elim (Finset.mem_univ (d, x))))
theorem env_slot (d : Dev nD) (k : Slot) : env X W K ιs ⊢ slotInv ES (ιs (d, k)) (d, k) (slotP d k) := by
  unfold env; exact sep_elim_right.trans (sep_elim_right.trans (sep_elim_left.trans (bigSep_elim (Finset.mem_univ (d, k)))))
theorem env_lev : env X W K ιs ⊢ levAts Lset lv := by
  unfold env
  iintro ⟨-, -, -, H⟩
  iexact H

/-- What a device owes from time `i` on, whatever it has waited on. -/
def due (i : ℕ) : sProp (MT nD τ sig ℕ (Elt F) ℕ UU ℕ) := iprop(∃ V, owes (c.tc : Thread nD τ) (owed c i) V)

/-- A send semaphore ready for hop `j`. -/
def sndR (r : Fin 4) (j : ℕ) : sProp (MT nD τ sig ℕ (Elt F) ℕ UU ℕ) :=
  iprop(atPos ER (gcell c (cSnd r (par j))) (j / 2) ∅ 0 ∗ reached ER (gcell c (cSnd r (par j))) (j / 2))
/-- A send semaphore with hop `h` in flight. -/
def sndF (r : Fin 4) (h : ℕ) : sProp (MT nD τ sig ℕ (Elt F) ℕ UU ℕ) :=
  iprop(atPos ER (gcell c (cSnd r (par h))) (h / 2) ∅ 0 ∗ cred (tallyAt (gcell c (cSnd r (par h))) 0 (nH h)))
/-- A receive semaphore ready for hop `j`. -/
def rcvR (r : Fin 4) (j : ℕ) : sProp (MT nD τ sig ℕ (Elt F) ℕ UU ℕ) := atPos ER (gcell c (cRcv r (par j))) (j / 2) ∅ 0
/-- What a device needs to make the send of hop `h`. -/
def tok (r : Fin 4) (h : ℕ) : sProp (MT nD τ sig ℕ (Elt F) ℕ UU ℕ) :=
  iprop(dutyTok ER (gcell c (cSnd r (par h))) (h / 2) 0 ∗ dutyTok ER (gcell (dn r.val c) (cRcv r (par h))) (h / 2) 0
    ∗ writeTok ES (dn r.val c, key r h) (wno h))
/-- The right to wait for hop `h`. -/
def rcr (r : Fin 4) (h : ℕ) : sProp (MT nD τ sig ℕ (Elt F) ℕ UU ℕ) := cred (tallyAt (gcell c (cRcv r (par h))) h (nH h))
/-- The right to pay credit `n`, and to take one. -/
def ctok (r : Fin 4) (n : ℕ) : sProp (MT nD τ sig ℕ (Elt F) ℕ UU ℕ) := dutyTok ER (gcell (up r.val c) (cCrd r)) 0 n
def ccr (r : Fin 4) (n : ℕ) : sProp (MT nD τ sig ℕ (Elt F) ℕ UU ℕ) := cred (tallyAt (gcell c (cCrd r)) n 1)
/-- The credits taken: `m` of them, so the next device is ready for the hops below `m + 2`. -/
def cst (r : Fin 4) (m : ℕ) : sProp (MT nD τ sig ℕ (Elt F) ℕ UU ℕ) :=
  iprop(∃ T : Finset ℕ, ⌜T ⊆ Finset.range 28 ∧ m ≤ T.card⌝ ∗ atPos ER (gcell c (cCrd r)) 0 T m ∗ (bigSep T fun n => okUp (dn r.val c) r (n + 3)) ∗ okUp (dn r.val c) r (m + 2)
    ∗ bigSep (Finset.Ico m 28) (ccr c r))

theorem snd_mem (d : Dev nD) (r : Fin 4) (h : ℕ) (hh : h < 30) : 0 ∈ (Rd X W).duties (gcell d (cSnd r (par h))) (h / 2) := by
  rw [duties_eq]; show 0 ∈ (if h / 2 < 15 then ({0} : Finset ℕ) else ∅); rw [if_pos (by omega)]; exact Finset.mem_singleton_self _
theorem rcv_mem (d : Dev nD) (r : Fin 4) (h : ℕ) (hh : h < 30) : 0 ∈ (Rd X W).duties (gcell d (cRcv r (par h))) (h / 2) := by
  rw [duties_eq]; show 0 ∈ (if h / 2 < 15 then ({0} : Finset ℕ) else ∅); rw [if_pos (by omega)]; exact Finset.mem_singleton_self _
theorem snd_amt (d : Dev nD) (r : Fin 4) (h n : ℕ) : (Rd X W).amount (gcell d (cSnd r (par h))) (h / 2) n = nH h := by
  rw [amount_eq]; show nH (2 * (h / 2) + (par h).val) = _; rw [hop_split]
theorem rcv_amt (d : Dev nD) (r : Fin 4) (h n : ℕ) : (Rd X W).amount (gcell d (cRcv r (par h))) (h / 2) n = nH h := by
  rw [amount_eq]; show nH (2 * (h / 2) + (par h).val) = _; rw [hop_split]
theorem snd_pay (d : Dev nD) (r : Fin 4) (h n : ℕ) : (Rd X W).payload (gcell d (cSnd r (par h))) (h / 2) n = sentP d r h := by
  rw [payload_eq]; show sentP d r (2 * (h / 2) + (par h).val) = _; rw [hop_split]
theorem rcv_pay (d : Dev nD) (r : Fin 4) (h n : ℕ) : (Rd X W).payload (gcell d (cRcv r (par h))) (h / 2) n = cameP X W d r h := by
  rw [payload_eq]; show cameP X W d r (2 * (h / 2) + (par h).val) = _; rw [hop_split]
theorem dut (h : ℕ) (hh : h < 30) : (if h / 2 < 15 then ({0} : Finset ℕ) else ∅) = {0} := if_pos (by omega)
theorem snd_exp (d : Dev nD) (r : Fin 4) (h : ℕ) (hh : h < 30) : (Rd X W).expect (gcell d (cSnd r (par h))) (h / 2) = nH h := by
  rw [expect_one X W d (cSnd r (par h)) (h / 2) 0 (dut h hh)]; show nH (2 * (h / 2) + (par h).val) = _; rw [hop_split]
theorem rcv_exp (d : Dev nD) (r : Fin 4) (h : ℕ) (hh : h < 30) : (Rd X W).expect (gcell d (cRcv r (par h))) (h / 2) = nH h := by
  rw [expect_one X W d (cRcv r (par h)) (h / 2) 0 (dut h hh)]; show nH (2 * (h / 2) + (par h).val) = _; rw [hop_split]
theorem snd_dut (d : Dev nD) (r : Fin 4) (h : ℕ) (hh : h < 30) : (Rd X W).duties (gcell d (cSnd r (par h))) (h / 2) = {0} := by
  rw [duties_eq]; exact if_pos (by omega)
theorem rcv_dut (d : Dev nD) (r : Fin 4) (h : ℕ) (hh : h < 30) : (Rd X W).duties (gcell d (cRcv r (par h))) (h / 2) = {0} := by
  rw [duties_eq]; exact if_pos (by omega)

variable {Q : PUnit → sProp (MT nD τ sig ℕ (Elt F) ℕ UU ℕ)}

/-- The send of hop `h`. -/
theorem wp_ringSend {e : EltTy} (r : Fin 4) (h : ℕ) (hh : h < 30) (a b : Memref sig .tc .vmem S64x2048 e) (Y : Vec F S64x2048 e) {s1 s2 : DmaSem sig} {d : Dev nD}
    (hs1 : s1 = sndQ r (par h)) (hs2 : s2 = rcvQ r (par h)) (hd : d = dn r.val c) {ha : a.view.WordExact} {hb : b.view.WordExact}
    (hN : b.view.dmaCredit = nH h) (P : sProp 𝕄)
    (hpa : (owns (c.tc : Thread nD τ) a fullShare Y : sProp 𝕄) ⊢ sentP c r h)
    (hslot : (slotP (dn r.val c) (key r h) : sProp 𝕄) = any (dn r.val c) b)
    (hpb : iprop(owns ((dn r.val c).tc : Thread nD τ) b fullShare Y ∗ P) ⊢ cameP X W (dn r.val c) r h) (k : PrgT F) :
    iprop(env X W K ιs ∗ due c (tS r.val h) ∗ sndR c r h ∗ tok c r h ∗ hopOK (dn r.val c) r h ∗ owns (c.tc : Thread nD τ) a fullShare Y ∗ P)
      ⊢ iprop(((due c (tS r.val h + 1) ∗ sndF c r h) -∗ WP c k Q) -∗ WP c (pSend s1 s2 a b d ha hb k) Q) := by
  subst hs1 hs2 hd
  unfold due sndR sndF tok hopOK
  iintro ⟨#He, ⟨%V, Ho⟩, ⟨Hat, #Hrs⟩, ⟨Ht1, Ht2, Hw⟩, ⟨#Hrel, #Hrr⟩, Ha, HP⟩ Hk
  ihave #Hsl := (env_slot X W K ιs (dn r.val c) (key r h)) $$ He
  ihave #Hc1 := (env_cell X W K ιs c (cSnd r (par h))) $$ He
  ihave #Hc2 := (env_cell X W K ιs (dn r.val c) (cRcv r (par h))) $$ He
  imod (Release.slot_take (E := ES) (k := (dn r.val c, key r h)) (S := slotP (dn r.val c) (key r h)) (Es := Set.univ) (ι := ιs (dn r.val c, key r h)) (Set.mem_univ _) (wno h)) $$ [Hw] with Hs
  · isplitr; · iexact Hsl
    isplitr; · iexact Hrel
    iexact Hw
  ihave Hs := (Entails.of_eq hslot) $$ Hs
  icases Hs with ⟨%Z, Hs⟩
  unfold owns
  icases Hs with ⟨%fd, -, Hb⟩
  icases Ha with ⟨%fs, %hfs, Ha⟩
  have hpa' : (a.view.loc (c.tc : Thread nD τ) ↦[a.view.set]{fullShare} fs : sProp 𝕄) ⊢ sentP c r h :=
    (hfs ▸ owns_intro (c.tc : Thread nD τ) a fullShare fs).trans hpa
  have hpb' : (iprop((b.view.loc ((dn r.val c).tc : Thread nD τ) ↦[b.view.set]{fullShare} (b.view.write (Elt F) fd (a.view.read (Elt F) fs) Finset.univ)) ∗ P) : sProp 𝕄)
      ⊢ cameP X W (dn r.val c) r h :=
    (sep_mono_left (Entails.trans (owns_intro ((dn r.val c).tc : Thread nD τ) b fullShare _) (Entails.of_eq (congrArg _ ((View.read_write_univ _ _).trans hfs))))).trans hpb
  unfold pSend
  iapply (Rounds.wp_send_pointsTo_with 𝒱₀ ER (Rd X W) (c.tc : Thread nD τ) none (c' := ((dn r.val c).tc : Thread nD τ)) (src := a) (dst := b)
    (κ₁ := K (c, cSnd r (par h))) (κ₂ := K (dn r.val c, cRcv r (par h))) (r₁ := h / 2) (r₂ := h / 2) (d₁ := 0) (d₂ := 0) (q := fullShare) (fs := fs) (fd := fd) (F := P)
    (sS := .dma (sndQ r (par h))) (sem := .dma (rcvQ r (par h)))
    (snd_mem X W c r h hh) (rcv_mem X W (dn r.val c) r h hh) h 0 (nH h) hN (snd_amt X W c r h 0) (rcv_amt X W (dn r.val c) r h 0)
    (owed c (tS r.val h + 1)) (owed_at c (.inr (.inl (r, ⟨h, hh⟩)))) (W := V)
    (hpa'.trans (Entails.of_eq (snd_pay X W c r h 0).symm)) (hpb'.trans (Entails.of_eq (rcv_pay X W (dn r.val c) r h 0).symm))) $$ [Ho Ht1 Ht2 Ha Hb HP]
  · isplitr; · iexact Hc1
    isplitr; · iexact Hc2
    isplitl [Ha]; · iexact Ha
    isplitl [Hb HP]
    · isplitl [Hb]; · iexact Hb
      iexact HP
    isplitl [Ho]; · iexact Ho
    isplitl [Ht1]; · iexact Ht1
    isplitr; · iexact Hrs
    isplitl [Ht2]; · iexact Ht2
    iexact Hrr
  iintro ⟨Hcr, Ho⟩
  iapply Hk
  isplitl [Ho]; · iexists V; iexact Ho
  isplitl [Hat]; · iexact Hat
  iexact Hcr

theorem tS_lt_tC (r h : ℕ) (hr : r < 4) (hh : h < 30) : tS r h + 1 ≤ tC r h := by
  unfold tS tC; split_ifs <;> omega
theorem tC_lt_tS (r m : ℕ) (hr : r < 4) (hm : m < 28) : tC r m + 1 ≤ tS r (m + 2) :=
  (by decide +kernel : ∀ r : Fin 4, ∀ m : Fin 28, tC r.val m.val + 1 ≤ tS r.val (m.val + 2)) ⟨r, hr⟩ ⟨m, hm⟩

theorem lv_gcell (d : Dev nD) (x : Cell) (ι : ℕ) : lv (gcell d x) ι = lvOf (some x) ι := by
  unfold lv; show lvOf (dec (csem x)) ι = _; rw [dec_csem]

/-- The waits for hop `h`: the strip sent has left, and the one coming has landed. -/
theorem wp_ringWaits {e : EltTy} (r : Fin 4) (h : ℕ) (hh : h < 30) (a b : Memref sig .tc .vmem S64x2048 e) {s1 s2 : DmaSem sig}
    (hs1 : s1 = sndQ r (par h)) (hs2 : s2 = rcvQ r (par h)) {ha : a.view.WordExact} {hb : b.view.WordExact}
    (hNa : a.view.dmaCredit = nH h) (hNb : b.view.dmaCredit = nH h) (k : PrgT F) :
    iprop(env X W K ιs ∗ due c (tC r.val h) ∗ sndF c r h ∗ rcvR c r h ∗ rcr c r h)
      ⊢ iprop(((due c (tC r.val h) ∗ sndR c r (h + 2) ∗ rcvR c r (h + 2) ∗ reached ER (gcell c (cRcv r (par h))) (h / 2 + 1) ∗ sentP c r h ∗ cameP X W c r h)
        -∗ WP c k Q) -∗ WP c (pWaits s1 s2 a b ha hb k) Q) := by
  subst hs1 hs2
  have h2 : (h + 2) / 2 = h / 2 + 1 := by omega
  unfold due sndR sndF rcvR rcr
  rw [par_add, h2]
  iintro ⟨#He, ⟨%V, Ho⟩, ⟨Hat, Hcr⟩, Har, Hcr'⟩ Hk
  ihave #Hc1 := (env_cell X W K ιs c (cSnd r (par h))) $$ He
  ihave #Hc2 := (env_cell X W K ιs c (cRcv r (par h))) $$ He
  ihave #Hl := (env_lev X W K ιs) $$ He
  unfold pWaits
  iapply (Rounds.wp_wait_rest_token 𝒱₀ ER (Rd X W) (c.tc : Thread nD τ) none (κ := K (c, cSnd r (par h)))
    (wpE_waitDma2_eq 𝒱₀ (c.tc : Thread nD τ) none Set.univ) (Set.mem_univ _) 0 (O := owed c (tC r.val h)) (W := V) (R := h / 2) (m := 0) (T := ∅)
    (by rw [snd_exp X W c r h hh, Nat.zero_add]; exact hNa)) $$ [Hat Hcr Ho]
  · isplitr; · iexact Hc1
    isplitl [Hcr]; · rw [hNa]; iexact Hcr
    isplitl [Ho]; · iexact Ho
    isplitr
    · iapply (mayWait c (csem (cSnd r (par h))) 0 (tC r.val h) (by decide) (by rw [lv_gcell]; exact Nat.zero_le _)) $$ Hl
    iexact Hat
  iintro ⟨Ho, Hat, #Hre, Hp⟩
  ihave Hp := (Entails.of_eq (show (bigSep ((Rd X W).duties (c.tc, .dma (sndQ r (par h))) (h / 2) \ ∅) fun d => (Rd X W).payload (c.tc, .dma (sndQ r (par h))) (h / 2) d : sProp 𝕄) = sentP c r h by
    rw [snd_dut X W c r h hh, Finset.sdiff_empty, bigSep_singleton]; exact snd_pay X W c r h 0)) $$ Hp
  iapply (Rounds.wp_wait_rest_token 𝒱₀ ER (Rd X W) (c.tc : Thread nD τ) none (κ := K (c, cRcv r (par h)))
    (wpE_waitDma2_eq 𝒱₀ (c.tc : Thread nD τ) none Set.univ) (Set.mem_univ _) h (O := owed c (tC r.val h)) (R := h / 2) (m := 0) (T := ∅)
    (by rw [rcv_exp X W c r h hh, Nat.zero_add]; exact hNb)) $$ [Har Hcr' Ho]
  · isplitr; · iexact Hc2
    isplitl [Hcr']; · rw [hNb]; iexact Hcr'
    isplitl [Ho]; · iexact Ho
    isplitr
    · iapply (mayWait c (csem (cRcv r (par h))) h (tC r.val h) hh (by rw [lv_gcell]; exact tS_lt_tC _ _ r.isLt hh)) $$ Hl
    iexact Har
  iintro ⟨Ho, Har, #Hre', Hp'⟩
  ihave Hp' := (Entails.of_eq (show (bigSep ((Rd X W).duties (c.tc, .dma (rcvQ r (par h))) (h / 2) \ ∅) fun d => (Rd X W).payload (c.tc, .dma (rcvQ r (par h))) (h / 2) d : sProp 𝕄) = cameP X W c r h by
    rw [rcv_dut X W c r h hh, Finset.sdiff_empty, bigSep_singleton]; exact rcv_pay X W c r h 0)) $$ Hp'
  iapply Hk
  isplitl [Ho]; · iexists _; iexact Ho
  isplitl [Hat]
  · isplitl [Hat]; · iexact Hat
    iexact Hre
  isplitl [Har]; · iexact Har
  isplitr; · iexact Hre'
  isplitl [Hp]; · iexact Hp
  iexact Hp'

theorem crd_mem (d : Dev nD) (r : Fin 4) (n : ℕ) (hn : n < 28) : n ∈ (Rd X W).duties (gcell d (cCrd r)) 0 := by
  rw [duties_eq]; exact Finset.mem_range.mpr hn

/-- Readiness for more hops is readiness for fewer. -/
theorem okUp_le (d : Dev nD) (r : Fin 4) {m n : ℕ} (h : m ≤ n) : (okUp d r n : sProp 𝕄) ⊢ okUp d r m := by
  unfold okUp; exact bigSep_subset (Finset.range_mono h)
theorem okUp_at (d : Dev nD) (r : Fin 4) {m n : ℕ} (h : m < n) : (okUp d r n : sProp 𝕄) ⊢ hopOK d r m := by
  unfold okUp; exact bigSep_elim (Finset.mem_range.mpr h)
theorem okUp_succ (d : Dev nD) (r : Fin 4) (m : ℕ) : (iprop(okUp d r m ∗ hopOK d r m) : sProp 𝕄) ⊢ okUp d r (m + 1) := by
  unfold okUp; rw [bigSep_range_succ]; exact sep_comm.1

/-- The payment of credit `n`. -/
theorem wp_ringSig (r : Fin 4) (n : ℕ) (hn : n < 28) {d : Dev nD} {s : Sem sig} (hd : d = up r.val c) (hs : s = crdQ r) (k : PrgT F) :
    iprop(env X W K ιs ∗ due c (tC r.val n) ∗ ctok c r n ∗ okUp c r (n + 3))
      ⊢ iprop((due c (tC r.val n + 1) -∗ WP c k Q) -∗ WP c (pSig d s k) Q) := by
  subst hd hs
  unfold due ctok
  iintro ⟨#He, ⟨%V, Ho⟩, Ht, Hok⟩ Hk
  ihave #Hc := (env_cell X W K ιs (up r.val c) (cCrd r)) $$ He
  ihave #Hr := (env_reached X W K ιs (up r.val c) (cCrd r)) $$ He
  have hp : (okUp c r (n + 3) : sProp 𝕄) ⊢ (Rd X W).payload (gcell (up r.val c) (cCrd r)) 0 n := by
    rw [payload_eq]; show _ ⊢ okUp (dn r.val (up r.val c)) r (n + 3); rw [dn_up]
  ihave Hok := hp $$ Hok
  unfold pSig
  iapply (Rounds.wp_signal 𝒱₀ ER (Rd X W) (c.tc : Thread nD τ) none (dst := ((up r.val c).tc : Thread nD τ)) (κ := K (up r.val c, cCrd r))
    (crd_mem X W (up r.val c) r n hn) (amount_eq X W (up r.val c) (cCrd r) 0 n) n (owed c (tC r.val n + 1)) (owed_at c (.inr (.inr (.inl (r, ⟨n, hn⟩))))) (W := V)) $$ [Ho Ht Hok]
  · isplitr; · iexact Hc
    isplitl [Ho]; · iexact Ho
    isplitl [Ht]; · iexact Ht
    isplitl [Hok]; · iexact Hok
    iexact Hr
  iintro Ho
  iapply Hk
  iexists V; iexact Ho

/-- The taking of one more credit. -/
theorem wp_ringCrd (r : Fin 4) (m : ℕ) (hm : m < 28) {s : Sem sig} (hs : s = crdQ r) (k : PrgT F) :
    iprop(env X W K ιs ∗ due c (tS r.val (m + 2)) ∗ cst c r m)
      ⊢ iprop(((due c (tS r.val (m + 2)) ∗ cst c r (m + 1)) -∗ WP c k Q) -∗ WP c (pCrd s k) Q) := by
  subst hs
  unfold due
  iintro ⟨#He, ⟨%V, Ho⟩, Hs⟩ Hk
  ihave Hs := (show (cst c r m : sProp 𝕄) ⊢ iprop(∃ T : Finset ℕ, ⌜T ⊆ Finset.range 28 ∧ m ≤ T.card⌝ ∗ atPos ER (gcell c (cCrd r)) 0 T m ∗ (bigSep T fun n => okUp (dn r.val c) r (n + 3)) ∗ okUp (dn r.val c) r (m + 2)
    ∗ bigSep (Finset.Ico m 28) (ccr c r)) from Entails.of_eq rfl) $$ Hs
  icases Hs with ⟨%T, %hT, Hat, #HT, #Hok, Hcr⟩
  ihave Hcr := (Entails.of_eq (bigSep_Ico_succ_bot hm (ccr (F := F) c r))) $$ Hcr
  icases Hcr with ⟨Hc1, Hcr⟩
  ihave #Hc := (env_cell X W K ιs c (cCrd r)) $$ He
  ihave #Hl := (env_lev X W K ιs) $$ He
  unfold pCrd
  iapply (Rounds.wp_wait 𝒱₀ ER (Rd X W) (c.tc : Thread nD τ) none (κ := K (c, cCrd r)) (sm := .reg (crdQ r)) (k' := 1)
    (wpE_semWait_eq 𝒱₀ (c.tc : Thread nD τ) none Set.univ) (Set.mem_univ _) (cr := Finsupp.single m 1) (O := owed c (tS r.val (m + 2))) (W := V)
    {((.reg (crdQ r) : SemLoc sig), m)} (R := 0) (m := m) (T := T) (Util.total_single _ _) (image_single_subset _ _ _)) $$ [Hat Hc1 Ho]
  · isplitr; · iexact Hc
    isplitl [Hc1]; · unfold ccr; iexact Hc1
    isplitl [Ho]; · iexact Ho
    isplitr
    · iapply (mayWait c (csem (cCrd r)) m (tS r.val (m + 2)) (by omega) (by rw [lv_gcell]; exact tC_lt_tS _ _ r.isLt hm)) $$ Hl
    iexact Hat
  iintro %S ⟨%hS, Ho, Hat, Hp⟩
  obtain ⟨hTS, hSd, hcard⟩ := hS
  have hdu : (Rd X W).duties (gcell c (cCrd r)) 0 = Finset.range 28 := duties_eq X W c (cCrd r) 0
  rw [show (c.tc, (.reg (crdQ r) : SemLoc sig)) = gcell c (cCrd r) from rfl] at hSd hcard
  rw [hdu] at hSd hcard
  rw [expect_crd] at hcard
  have hc1 : m + 1 ≤ S.card := by
    have := Finset.card_sdiff_add_card_eq_card hSd
    rw [Finset.card_range] at this; omega
  have hex : ∃ n ∈ S, m ≤ n := by
    by_contra hn
    push Not at hn
    have hsub : S ⊆ Finset.range m := fun x hx => Finset.mem_range.mpr (hn x hx)
    have := Finset.card_le_card hsub
    rw [Finset.card_range] at this; omega
  obtain ⟨n, hnS, hmn⟩ := hex
  have hpay : (bigSep (S \ T) (fun d => (Rd X W).payload (c.tc, (.reg (crdQ r) : SemLoc sig)) 0 d) : sProp 𝕄) = bigSep (S \ T) fun n => okUp (dn r.val c) r (n + 3) :=
    congrArg _ (funext fun d => payload_eq X W c (cCrd r) 0 d)
  have hall : iprop((bigSep T fun n => okUp (dn r.val c) r (n + 3)) ∗ (bigSep (S \ T) fun n => okUp (dn r.val c) r (n + 3))) ⊢ (bigSep S fun n => okUp (dn r.val c) r (n + 3) : sProp 𝕄) := by
    rw [bigSep_sdiff_split hTS]; exact Entails.of_eq rfl
  have hmore : (bigSep S fun n => okUp (dn r.val c) r (n + 3) : sProp 𝕄) ⊢ okUp (dn r.val c) r (m + 3) :=
    (bigSep_elim hnS).trans (okUp_le (dn r.val c) r (by omega))
  ihave Hp := (Entails.of_eq hpay) $$ Hp
  ihave #HS := hall $$ [HT Hp]
  · isplitr; · iexact HT
    iexact Hp
  ihave #Hm := hmore $$ HS
  iapply Hk
  isplitl [Ho]; · iexists _; iexact Ho
  unfold cst
  iexists S
  isplitr; · ipureintro; exact ⟨hSd, hc1⟩
  isplitl [Hat]; · iexact Hat
  isplitr; · iexact HS
  isplitr; · iexact Hm
  iexact Hcr

end

end Cert.AR
-- ==== Proof.Ring.lean ====
/-
The state of a ring between hops, and the steps from one state to the next.
-/
module

public import proofs.«01_k».proof.Proof.Steps

@[expose] public section

set_option maxRecDepth 20000

namespace Cert.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (readerAt released writeTok slotInv)

variable {F : FTy → Type} [FloatOps F]

noncomputable section

local notation "𝕄" => MT nD τ sig ℕ (Elt F) ℕ UU ℕ

variable (X : Dev nD → Vec F S4096x256 .f32) (W : Dev nD → Vec F S256x2048 .f32) (K : Dev nD × Cell → ℕ) (ιs : KS → ℕ) (c : Dev nD)

variable {Q : PUnit → sProp (MT nD τ sig ℕ (Elt F) ℕ UU ℕ)}

/-- A memref with an element is not held twice. -/
theorem any_any {s : Shape} {e : EltTy} (m : Memref sig .tc .vmem s e) (i : s.Idx) : (iprop(any c m ∗ any c m) : sProp 𝕄) ⊢ False := by
  have hi : m.view.emb i ∈ m.view.set := Finset.mem_map_of_mem _ (Finset.mem_univ i)
  unfold any owns
  iintro ⟨⟨%Y, %f, -, H⟩, ⟨%Z, %g, -, H'⟩⟩
  iapply (pointsTo_overlap_false (ℓ := m.view.loc (c.tc : Thread nD τ)) (I := m.view.set) (J := m.view.set) (q := fullShare) (f := f) (g := g) hi hi)
  isplitl [H] <;> iassumption

/-- A strip's first element. -/
def i0 : S64x2048.Idx := fun a => ⟨0, by fin_cases a; exacts [by decide, by decide]⟩
def iB : S8x128.Idx := fun a => ⟨0, by fin_cases a; exacts [by decide, by decide]⟩

theorem slot_twice (k : Slot) : (iprop(slotP c k ∗ slotP c k) : sProp 𝕄) ⊢ False := by
  rcases k with ⟨b, r, s⟩ | k
  · cases b
    · exact any_any c (slot32 r s) i0
    · exact any_any c (slot8 r s) i0
  · exact any_any c (slotB k) iB

/-- A slot given back by its reader. -/
theorem slot_free (k : Slot) (n : ℕ) :
    iprop(env X W K ιs ∗ readerAt ES (c, k) n ∗ slotP c k) ⊢ (|={Set.univ}=> (readerAt ES (c, k) (n + 1) ∗ released ES (c, k) (n + 1)) : sProp 𝕄) := by
  iintro ⟨#He, H⟩
  ihave #Hs := (env_slot X W K ιs c k) $$ He
  iapply (Release.slot_release (E := ES) (k := (c, k)) (S := slotP c k) (Es := Set.univ) (ι := ιs (c, k)) (Set.mem_univ _) (slot_twice c k) n) $$ [H]
  iframe Hs H

/-- The slots before hop `k`: given out, or kept when no hop of the kind is left. -/
def S32 (r : Fin 4) (k : ℕ) : sProp (MT nD τ sig ℕ (Elt F) ℕ UU ℕ) :=
  if k ≤ 14 then readerAt ES (c, .inl (false, r, par k)) (k / 2 + 1) else any c (slot32 r (par k))
def S8 (r : Fin 4) (k : ℕ) : sProp (MT nD τ sig ℕ (Elt F) ℕ UU ℕ) :=
  if k ≤ 29 then readerAt ES (c, .inl (true, r, par k)) ((k - 15) / 2 + 1) else any c (slot8 r (par k))
/-- The devices known ready: those whose strips have come by. -/
def heard (r : Fin 4) (j : ℕ) : sProp (MT nD τ sig ℕ (Elt F) ℕ UU ℕ) :=
  bigSep (Finset.range (min j 15 + 1)) fun i => facts ⟨ch r.val i c, ch_lt _ _ _⟩
instance heard_pers (r : Fin 4) (j : ℕ) : BI.Persistent (heard (F := F) c r j) := by unfold heard; infer_instance

/-- A ring's slots and knowledge at hop `j`, with `g` credits taken. -/
def base (r : Fin 4) (j g : ℕ) : sProp (MT nD τ sig ℕ (Elt F) ℕ UU ℕ) :=
  iprop(cst c r g ∗ okUp c r (min (j + 2) 30) ∗ (S32 c r j ∗ S8 c r j) ∗ (S32 c r (j + 1) ∗ S8 c r (j + 1)) ∗ heard c r j)
/-- Before the send of hop `j`. -/
def rest (r : Fin 4) (j g : ℕ) : sProp (MT nD τ sig ℕ (Elt F) ℕ UU ℕ) :=
  iprop(sndR c r j ∗ sndR c r (j + 1) ∗ rcvR c r j ∗ rcvR c r (j + 1) ∗ bigSep (Finset.Ico j 30) (rcr c r) ∗ bigSep (Finset.Ico j 30) (tok c r)
    ∗ bigSep (Finset.Ico j 28) (ctok c r) ∗ base c r j g)
/-- With hop `h` in flight. -/
def fly (r : Fin 4) (h : ℕ) : sProp (MT nD τ sig ℕ (Elt F) ℕ UU ℕ) :=
  iprop(sndF c r h ∗ sndR c r (h + 1) ∗ rcvR c r h ∗ rcvR c r (h + 1) ∗ bigSep (Finset.Ico h 30) (rcr c r) ∗ bigSep (Finset.Ico (h + 1) 30) (tok c r)
    ∗ bigSep (Finset.Ico h 28) (ctok c r) ∗ base c r h (h - 1))
/-- With hop `h` arrived, its slot still in use. -/
def here (r : Fin 4) (h : ℕ) : sProp (MT nD τ sig ℕ (Elt F) ℕ UU ℕ) :=
  iprop(sndR c r (h + 1) ∗ sndR c r (h + 2) ∗ rcvR c r (h + 1) ∗ rcvR c r (h + 2) ∗ bigSep (Finset.Ico (h + 1) 30) (rcr c r) ∗ bigSep (Finset.Ico (h + 1) 30) (tok c r)
    ∗ bigSep (Finset.Ico h 28) (ctok c r) ∗ base c r h (h - 1) ∗ reached ER (gcell c (cRcv r (par h))) (h / 2 + 1) ∗ heard c r (h + 1))

theorem heard_at (r : Fin 4) (j i : ℕ) (hi : i ≤ j) (hi' : i ≤ 15) : (heard c r j : sProp 𝕄) ⊢ facts ⟨ch r.val i c, ch_lt _ _ _⟩ := by
  unfold heard; exact bigSep_elim (Finset.mem_range.mpr (by omega))
theorem heard_succ (r : Fin 4) (h : ℕ) (hh : h ≤ 14) : (iprop(heard c r h ∗ facts ⟨ch r.val (h + 1) c, ch_lt _ _ _⟩) : sProp 𝕄) ⊢ heard c r (h + 1) := by
  unfold heard
  rw [show min (h + 1) 15 + 1 = (min h 15 + 1) + 1 by omega, bigSep_range_succ (min h 15 + 1)]
  refine sep_comm.1.trans (sep_mono_left (Entails.of_eq ?_))
  exact congrArg facts (Fin.ext (by show ch r.val (h + 1) c = ch r.val (min h 15 + 1) c; rw [show min h 15 = h by omega]))
theorem heard_late (r : Fin 4) (h : ℕ) (hh : 15 ≤ h) : (heard c r h : sProp 𝕄) ⊢ heard c r (h + 1) := by
  unfold heard; rw [show min (h + 1) 15 = min h 15 by omega]

theorem cst_hop (r : Fin 4) (h : ℕ) : (cst c r (h - 1) : sProp 𝕄) ⊢ hopOK (dn r.val c) r h := by
  unfold cst
  iintro ⟨%T, -, -, -, H, -⟩
  iapply (okUp_at (dn r.val c) r (show h < h - 1 + 2 by omega)) $$ H

theorem base_hop (r : Fin 4) (h : ℕ) (hh : h ≤ 14) : (base c r h (h - 1) : sProp 𝕄) ⊢ iprop(hopOK (dn r.val c) r h ∗ facts ⟨ch r.val h c, ch_lt _ _ _⟩) := by
  unfold base
  iintro ⟨Hc, -, -, -, Hh⟩
  isplitl [Hc]
  · iapply (cst_hop c r h) $$ Hc
  iapply (heard_at c r h h le_rfl (by omega)) $$ Hh
theorem base_hop' (r : Fin 4) (h : ℕ) : (base c r h (h - 1) : sProp 𝕄) ⊢ hopOK (dn r.val c) r h := by
  unfold base
  iintro ⟨Hc, -⟩
  iapply (cst_hop c r h) $$ Hc

/-- The send of hop `h`, of sums. -/
theorem wp_send32 (r : Fin 4) (h : ℕ) (hh : h ≤ 14) {s1 s2 : DmaSem sig} {p : Fin 2 → ℕ} {hp : FS p} {b : Fin 4 → ℕ} {hb : FC b} {d : Dev nD}
    (hs1 : s1 = sndQ r (par h)) (hs2 : s2 = rcvQ r (par h)) (hd : d = dn r.val c) (hpp : p = ![row r.val h c, 0]) (hbb : b = ![r.val, (par h).val, 0, 0])
    {ha' : (strip oM p hp).view.WordExact} {hb' : (slotM cM b hb).view.WordExact} (k : PrgT F) :
    iprop(env X W K ιs ∗ due c (tS r.val h) ∗ rest c r h (h - 1) ∗ owns (c.tc : Thread nD τ) (sO r h c) fullShare (psum X W r h c))
      ⊢ iprop(((due c (tS r.val h + 1) ∗ fly c r h) -∗ WP c k Q) -∗ WP c (pSend s1 s2 (strip oM p hp) (slotM cM b hb) d ha' hb' k) Q) := by
  subst hpp hbb
  have hn : nH h = n32 := if_pos hh
  have hpa : (owns (c.tc : Thread nD τ) (sO r h c) fullShare (psum X W r h c) : sProp 𝕄) ⊢ sentP c r h := by
    unfold sentP; rw [if_pos hh]; exact BIClass.exists_intro (Φ := fun Y => (owns (c.tc : Thread nD τ) (sO r h c) fullShare Y : sProp 𝕄)) _
  have hslot : (slotP (dn r.val c) (key r h) : sProp 𝕄) = any (dn r.val c) (slot32 r (par h)) := by
    unfold key; rw [decide_eq_false (by omega)]; rfl
  have hpb : iprop(owns ((dn r.val c).tc : Thread nD τ) (slot32 r (par h)) fullShare (psum X W r h c) ∗ facts ⟨ch r.val h c, ch_lt _ _ _⟩) ⊢ (cameP X W (dn r.val c) r h : sProp 𝕄) := by
    unfold cameP; rw [if_pos hh, up_dn]
    have : (⟨ch r.val (h + 1) (dn r.val c), ch_lt _ _ _⟩ : Dev nD) = ⟨ch r.val h c, ch_lt _ _ _⟩ := Fin.ext (by
      show ch r.val (h + 1) (dn r.val c) = ch r.val h c
      rw [← ch_up r.val h (dn r.val c) (by omega), up_dn])
    rw [this]
  unfold rest
  iintro ⟨#He, Ho, ⟨Hs1, Hs2, Hr1, Hr2, Hcr, Ht, Hct, Hb⟩, HY⟩ Hk
  ihave Ht := (Entails.of_eq (bigSep_Ico_succ_bot (show h < 30 by omega) (tok (F := F) c r))) $$ Ht
  icases Ht with ⟨Ht1, Ht⟩
  ihave Hb := (persistent_entails_right (base_hop (F := F) c r h hh)) $$ Hb
  icases Hb with ⟨⟨#Hhop, #Hf⟩, Hb⟩
  iapply (wp_ringSend X W K ιs c r h (by omega) (sO r h c) (slot32 r (par h)) (psum X W r h c) hs1 hs2 hd hn.symm (facts ⟨ch r.val h c, ch_lt _ _ _⟩) hpa hslot hpb k) $$ [Ho Hs1 Ht1 HY]
  · iframe He Hhop Hf Ho Hs1 Ht1 HY
  iintro ⟨Ho, Hs1⟩
  iapply Hk
  unfold fly
  iframe

/-- The send of hop `h`, of integers. -/
theorem wp_send8 (r : Fin 4) (h : ℕ) (h15 : 15 ≤ h) (hh : h < 30) {s1 s2 : DmaSem sig} {p : Fin 2 → ℕ} {hp : FS p} {b : Fin 4 → ℕ} {hb : FC b} {d : Dev nD}
    (hs1 : s1 = sndQ r (par h)) (hs2 : s2 = rcvQ r (par h)) (hd : d = dn r.val c) (hpp : p = ![row r.val h c, 0]) (hbb : b = ![r.val, (par h).val, 0, 0])
    {ha' : (strip qM p hp).view.WordExact} {hb' : (slotM dM b hb).view.WordExact} (k : PrgT F) :
    iprop(env X W K ιs ∗ due c (tS r.val h) ∗ rest c r h (h - 1) ∗ owns (c.tc : Thread nD τ) (sQ r h c) fullShare (qnt X W r (h - 15) c))
      ⊢ iprop(((due c (tS r.val h + 1) ∗ fly c r h) -∗ WP c k Q) -∗ WP c (pSend s1 s2 (strip qM p hp) (slotM dM b hb) d ha' hb' k) Q) := by
  subst hpp hbb
  have hn : nH h = n8 := if_neg (by omega)
  have hpa : (owns (c.tc : Thread nD τ) (sQ r h c) fullShare (qnt X W r (h - 15) c) : sProp 𝕄) ⊢ sentP c r h := by
    unfold sentP; rw [if_neg (by omega)]; exact BIClass.exists_intro (Φ := fun Y => (owns (c.tc : Thread nD τ) (sQ r h c) fullShare Y : sProp 𝕄)) _
  have hslot : (slotP (dn r.val c) (key r h) : sProp 𝕄) = any (dn r.val c) (slot8 r (par h)) := by
    unfold key; rw [decide_eq_true (by omega)]; rfl
  have hpb : iprop(owns ((dn r.val c).tc : Thread nD τ) (slot8 r (par h)) fullShare (qnt X W r (h - 15) c) ∗ emp) ⊢ (cameP X W (dn r.val c) r h : sProp 𝕄) := by
    unfold cameP; rw [if_neg (by omega), up_dn]; exact BIBase.Entails.trans (Laws.sep_emp.mp) (Entails.of_eq rfl)
  unfold rest
  iintro ⟨#He, Ho, ⟨Hs1, Hs2, Hr1, Hr2, Hcr, Ht, Hct, Hb⟩, HY⟩ Hk
  ihave Ht := (Entails.of_eq (bigSep_Ico_succ_bot (show h < 30 by omega) (tok (F := F) c r))) $$ Ht
  icases Ht with ⟨Ht1, Ht⟩
  ihave Hb := (persistent_entails_right (base_hop' (F := F) c r h)) $$ Hb
  icases Hb with ⟨#Hhop, Hb⟩
  iapply (wp_ringSend X W K ιs c r h (by omega) (sQ r h c) (slot8 r (par h)) (qnt X W r (h - 15) c) hs1 hs2 hd hn.symm iprop(emp) hpa hslot hpb k) $$ [Ho Hs1 Ht1 HY]
  · iframe He Hhop Ho Hs1 Ht1 HY
  iintro ⟨Ho, Hs1⟩
  iapply Hk
  unfold fly
  iframe

/-- The waits for hop `h`, of sums. -/
theorem wp_wait32 (r : Fin 4) (h : ℕ) (hh : h ≤ 14) {s1 s2 : DmaSem sig} {p : Fin 2 → ℕ} {hp : FS p} {b : Fin 4 → ℕ} {hb : FC b}
    (hs1 : s1 = sndQ r (par h)) (hs2 : s2 = rcvQ r (par h)) (hpp : p = ![row r.val h c, 0]) (hbb : b = ![r.val, (par h).val, 0, 0])
    {ha' : (strip oM p hp).view.WordExact} {hb' : (slotM cM b hb).view.WordExact} (k : PrgT F) :
    iprop(env X W K ιs ∗ due c (tC r.val h) ∗ fly c r h)
      ⊢ iprop(((due c (tC r.val h) ∗ here c r h ∗ any c (sO r h c) ∗ owns (c.tc : Thread nD τ) (slot32 r (par h)) fullShare (psum X W r h (up r.val c))) -∗ WP c k Q)
        -∗ WP c (pWaits s1 s2 (strip oM p hp) (slotM cM b hb) ha' hb' k) Q) := by
  subst hpp hbb
  have hn : nH h = n32 := if_pos hh
  unfold fly
  iintro ⟨#He, Ho, ⟨Hs1, Hs2, Hr1, Hr2, Hcr, Ht, Hct, Hb⟩⟩ Hk
  ihave Hcr := (Entails.of_eq (bigSep_Ico_succ_bot (show h < 30 by omega) (rcr (F := F) c r))) $$ Hcr
  icases Hcr with ⟨Hcr1, Hcr⟩
  ihave Hb := (persistent_entails_right (show (base c r h (h - 1) : sProp 𝕄) ⊢ heard c r h by unfold base; iintro ⟨-, -, -, -, H⟩; iexact H)) $$ Hb
  icases Hb with ⟨#Hh, Hb⟩
  iapply (wp_ringWaits X W K ιs c r h (by omega) (sO r h c) (slot32 r (par h)) hs1 hs2 hn.symm hn.symm k) $$ [Ho Hs1 Hr1 Hcr1]
  · iframe He Ho Hs1 Hr1 Hcr1
  iintro ⟨Ho, Hs1, Hr1, #Hre, Hp, Hp'⟩
  ihave Hp := (Entails.of_eq (show (sentP c r h : sProp 𝕄) = any c (sO r h c) from if_pos hh)) $$ Hp
  ihave Hp' := (Entails.of_eq (show (cameP X W c r h : sProp 𝕄) = iprop(owns (c.tc : Thread nD τ) (slot32 r (par h)) fullShare (psum X W r h (up r.val c)) ∗ facts ⟨ch r.val (h + 1) c, ch_lt _ _ _⟩) from if_pos hh)) $$ Hp'
  icases Hp' with ⟨Hp', #Hf⟩
  ihave #Hh' := (heard_succ (F := F) c r h hh) $$ [Hh Hf]
  · iframe Hh Hf
  iapply Hk
  unfold here
  iframe Hre Hh' Ho Hs1 Hs2 Hr1 Hr2 Hcr Ht Hct Hb Hp Hp'

/-- The waits for hop `h`, of integers. -/
theorem wp_wait8 (r : Fin 4) (h : ℕ) (h15 : 15 ≤ h) (hh : h < 30) {s1 s2 : DmaSem sig} {p : Fin 2 → ℕ} {hp : FS p} {b : Fin 4 → ℕ} {hb : FC b}
    (hs1 : s1 = sndQ r (par h)) (hs2 : s2 = rcvQ r (par h)) (hpp : p = ![row r.val h c, 0]) (hbb : b = ![r.val, (par h).val, 0, 0])
    {ha' : (strip qM p hp).view.WordExact} {hb' : (slotM dM b hb).view.WordExact} (k : PrgT F) :
    iprop(env X W K ιs ∗ due c (tC r.val h) ∗ fly c r h)
      ⊢ iprop(((due c (tC r.val h) ∗ here c r h ∗ any c (sQ r h c) ∗ owns (c.tc : Thread nD τ) (slot8 r (par h)) fullShare (qnt X W r (h - 15) (up r.val c))) -∗ WP c k Q)
        -∗ WP c (pWaits s1 s2 (strip qM p hp) (slotM dM b hb) ha' hb' k) Q) := by
  subst hpp hbb
  have hn : nH h = n8 := if_neg (by omega)
  unfold fly
  iintro ⟨#He, Ho, ⟨Hs1, Hs2, Hr1, Hr2, Hcr, Ht, Hct, Hb⟩⟩ Hk
  ihave Hcr := (Entails.of_eq (bigSep_Ico_succ_bot (show h < 30 by omega) (rcr (F := F) c r))) $$ Hcr
  icases Hcr with ⟨Hcr1, Hcr⟩
  ihave Hb := (persistent_entails_right (show (base c r h (h - 1) : sProp 𝕄) ⊢ heard c r h by unfold base; iintro ⟨-, -, -, -, H⟩; iexact H)) $$ Hb
  icases Hb with ⟨#Hh, Hb⟩
  iapply (wp_ringWaits X W K ιs c r h (by omega) (sQ r h c) (slot8 r (par h)) hs1 hs2 hn.symm hn.symm k) $$ [Ho Hs1 Hr1 Hcr1]
  · iframe He Ho Hs1 Hr1 Hcr1
  iintro ⟨Ho, Hs1, Hr1, #Hre, Hp, Hp'⟩
  ihave Hp := (Entails.of_eq (show (sentP c r h : sProp 𝕄) = any c (sQ r h c) from if_neg (by omega))) $$ Hp
  ihave Hp' := (Entails.of_eq (show (cameP X W c r h : sProp 𝕄) = iprop(owns (c.tc : Thread nD τ) (slot8 r (par h)) fullShare (qnt X W r (h - 15) (up r.val c))) from if_neg (by omega))) $$ Hp'
  ihave #Hh' := (heard_late (F := F) c r h h15) $$ Hh
  iapply Hk
  unfold here
  iframe Hre Hh' Ho Hs1 Hs2 Hr1 Hr2 Hcr Ht Hct Hb Hp Hp'

/-- What the slot of hop `h` is, back in hand. -/
def used (r : Fin 4) (h : ℕ) : sProp (MT nD τ sig ℕ (Elt F) ℕ UU ℕ) := if h ≤ 14 then any c (slot32 r (par h)) else any c (slot8 r (par h))

/-- The slots given back after hop `h`: ready for hop `h + 2`. -/
theorem give_back (r : Fin 4) (h : ℕ) (hh : h < 28) :
    iprop(env X W K ιs ∗ (S32 c r h ∗ S8 c r h) ∗ used c r h ∗ reached ER (gcell c (cRcv r (par h))) (h / 2 + 1) ∗ heard c r h)
      ⊢ (|={Set.univ}=> ((S32 c r (h + 2) ∗ S8 c r (h + 2)) ∗ hopOK c r (h + 2)) : sProp 𝕄) := by
  have hd : (h + 2) / 2 = h / 2 + 1 := by omega
  unfold S32 S8 used hopOK
  rw [par_add, hd]
  by_cases h1 : h ≤ 12
  · rw [if_pos (by omega), if_pos (by omega), if_pos (by omega), if_pos (by omega), if_pos (by omega), show (h + 2 - 15) = 0 by omega, show h - 15 = 0 by omega]
    have hk : key r (h + 2) = .inl (false, r, par h) := by unfold key; rw [decide_eq_false (by omega), par_add]
    have hw : wno (h + 2) = h / 2 + 1 + 1 := by unfold wno; rw [if_pos (by omega), hd]
    rw [hk, hw]
    iintro ⟨#He, ⟨H1, H2⟩, Hu, #Hr, -⟩
    ihave Hu := (Entails.of_eq (show (any c (slot32 r (par h)) : sProp 𝕄) = slotP c (.inl (false, r, par h)) from rfl)) $$ Hu
    imod (slot_free X W K ιs c (.inl (false, r, par h)) (h / 2 + 1)) $$ [H1 Hu] with ⟨H1, #Hrel⟩
    · iframe He H1
      iexact Hu
    imodintro
    iframe H1 H2 Hrel Hr
  by_cases h2 : h ≤ 14
  · rw [if_pos h2, if_pos (by omega), if_pos h2, if_neg (by omega), if_pos (by omega), show (h + 2 - 15) / 2 = 0 by omega, show h - 15 = 0 by omega]
    have hk : key r (h + 2) = .inl (true, r, par h) := by unfold key; rw [decide_eq_true (by omega), par_add]
    have hw : wno (h + 2) = 1 := by unfold wno; rw [if_neg (by omega)]; omega
    rw [hk, hw]
    iintro ⟨#He, ⟨H1, H2⟩, Hu, #Hr, Hh⟩
    ihave Hf := (heard_at (F := F) c r h 0 (by omega) (by omega)) $$ Hh
    ihave #Hf := (show (facts ⟨ch r.val 0 c, ch_lt _ _ _⟩ : sProp 𝕄) ⊢ released ES (c, .inl (true, r, par h)) 1 from by
      rw [show (⟨ch r.val 0 c, ch_lt _ _ _⟩ : Dev nD) = c from Fin.ext (ch_zero r.val c)]
      unfold facts; exact bigSep_elim (Finset.mem_univ _)) $$ Hf
    imodintro
    iframe H2 Hu Hf Hr
  · rw [if_neg h2, if_pos (by omega), if_neg h2, if_neg (by omega), if_pos (by omega), show (h + 2 - 15) / 2 = (h - 15) / 2 + 1 by omega]
    have hk : key r (h + 2) = .inl (true, r, par h) := by unfold key; rw [decide_eq_true (by omega), par_add]
    have hw : wno (h + 2) = (h - 15) / 2 + 1 + 1 := by unfold wno; rw [if_neg (by omega)]; omega
    rw [hk, hw]
    iintro ⟨#He, ⟨H1, H2⟩, Hu, #Hr, -⟩
    ihave Hu := (Entails.of_eq (show (any c (slot8 r (par h)) : sProp 𝕄) = slotP c (.inl (true, r, par h)) from rfl)) $$ Hu
    imod (slot_free X W K ιs c (.inl (true, r, par h)) ((h - 15) / 2 + 1)) $$ [H2 Hu] with ⟨H2, #Hrel⟩
    · iframe He H2
      iexact Hu
    imodintro
    iframe H1 H2 Hrel Hr

/-- The slots kept after one of the last two hops. -/
theorem keep_slot (r : Fin 4) (h : ℕ) (hh : 28 ≤ h) :
    iprop((S32 c r h ∗ S8 c r h) ∗ used c r h) ⊢ (iprop(S32 c r (h + 2) ∗ S8 c r (h + 2)) : sProp 𝕄) := by
  have e1 : (S32 c r h : sProp 𝕄) = any c (slot32 r (par h)) := if_neg (by omega)
  have e2 : (used c r h : sProp 𝕄) = any c (slot8 r (par h)) := if_neg (by omega)
  have e3 : (S32 c r (h + 2) : sProp 𝕄) = any c (slot32 r (par (h + 2))) := if_neg (by omega)
  have e4 : (S8 c r (h + 2) : sProp 𝕄) = any c (slot8 r (par (h + 2))) := if_neg (by omega)
  rw [e1, e2, e3, e4, par_add]
  iintro ⟨⟨H1, -⟩, H3⟩
  iframe

/-- The credit for hop `h` given, the slot given back. -/
theorem wp_give (r : Fin 4) (h : ℕ) (hh : h < 28) {d : Dev nD} {s : Sem sig} (hd : d = up r.val c) (hs : s = crdQ r) (k : PrgT F) :
    iprop(env X W K ιs ∗ due c (tC r.val h) ∗ here c r h ∗ used c r h)
      ⊢ iprop(((due c (tC r.val h + 1) ∗ rest c r (h + 1) (h - 1)) -∗ WP c k Q) -∗ WP c (pSig d s k) Q) := by
  unfold here base
  iintro ⟨#He, Ho, ⟨Hs1, Hs2, Hr1, Hr2, Hcr, Ht, Hct, ⟨Hc, #Hok, HS, HS', #Hh⟩, #Hre, #Hh'⟩, Hu⟩ Hk
  imod (give_back X W K ιs c r h hh) $$ [HS Hu] with ⟨HS, #Hhop⟩
  · iframe He HS Hu Hre Hh
  ihave #Hok' := (show (iprop(okUp c r (min (h + 2) 30) ∗ hopOK c r (h + 2)) : sProp 𝕄) ⊢ okUp c r (h + 3) from by
    rw [show min (h + 2) 30 = h + 2 by omega]; exact okUp_succ c r (h + 2)) $$ [Hok Hhop]
  · iframe Hok Hhop
  ihave Hct := (Entails.of_eq (bigSep_Ico_succ_bot hh (ctok (F := F) c r))) $$ Hct
  icases Hct with ⟨Hct1, Hct⟩
  iapply (wp_ringSig X W K ιs c r h hh hd hs k) $$ [Ho Hct1]
  · iframe He Ho Hct1 Hok'
  iintro Ho
  iapply Hk
  unfold rest base
  rw [show min (h + 1 + 2) 30 = h + 3 by omega]
  iframe Ho Hs1 Hs2 Hr1 Hr2 Hcr Ht Hct Hc Hok' HS HS' Hh'

/-- After one of the last two hops no credit is due. -/
theorem last_keep (r : Fin 4) (h : ℕ) (h28 : 28 ≤ h) (hh : h < 30) :
    iprop(due c (tC r.val h) ∗ here c r h ∗ used c r h) ⊢ (iprop(due c (tC r.val h + 1) ∗ rest c r (h + 1) (h - 1)) : sProp 𝕄) := by
  have hskip : owed c (tC r.val h) = owed c (tC r.val h + 1) := owed_skip c _ _ (Nat.le_succ _) fun e =>
    (by decide +kernel : ∀ r : Fin 4, ∀ h : Fin 30, 28 ≤ h.val → ∀ e : Ev, tm e < tC r.val h.val ∨ tC r.val h.val + 1 ≤ tm e) r ⟨h, hh⟩ h28 e
  unfold due here base
  rw [hskip]
  iintro ⟨Ho, ⟨Hs1, Hs2, Hr1, Hr2, Hcr, Ht, Hct, ⟨Hc, #Hok, HS, HS', #Hh⟩, #Hre, #Hh'⟩, Hu⟩
  ihave HS := (keep_slot (F := F) c r h h28) $$ [HS Hu]
  · iframe HS Hu
  unfold rest base
  rw [show min (h + 1 + 2) 30 = min (h + 2) 30 by omega, show Finset.Ico (h + 1) 28 = Finset.Ico h 28 by rw [Finset.Ico_eq_empty (by omega), Finset.Ico_eq_empty (by omega)]]
  iframe Ho Hs1 Hs2 Hr1 Hr2 Hcr Ht Hct Hc Hok HS HS' Hh'

/-- One more credit taken. -/
theorem wp_take (r : Fin 4) (j : ℕ) (h2 : 2 ≤ j) (hj : j < 30) {s : Sem sig} (hs : s = crdQ r) (k : PrgT F) :
    iprop(env X W K ιs ∗ due c (tS r.val j) ∗ rest c r j (j - 2))
      ⊢ iprop(((due c (tS r.val j) ∗ rest c r j (j - 1)) -∗ WP c k Q) -∗ WP c (pCrd s k) Q) := by
  obtain ⟨m, rfl⟩ : ∃ m, j = m + 2 := ⟨j - 2, by omega⟩
  unfold rest base
  rw [show m + 2 - 2 = m by omega, show m + 2 - 1 = m + 1 by omega]
  iintro ⟨#He, Ho, ⟨Hs1, Hs2, Hr1, Hr2, Hcr, Ht, Hct, ⟨Hc, #Hok, HS, HS', #Hh⟩⟩⟩ Hk
  iapply (wp_ringCrd X W K ιs c r m (by omega) hs k) $$ [Ho Hc]
  · iframe He Ho Hc
  iintro ⟨Ho, Hc⟩
  iapply Hk
  iframe Ho Hs1 Hs2 Hr1 Hr2 Hcr Ht Hct Hc Hok HS HS' Hh

end

end Cert.AR
-- ==== Proof.Hops.lean ====
/-
What one ring does in one trip: waiting, keeping what arrived, giving back, sending on.
-/
module

public import proofs.«01_k».proof.Proof.Ring

@[expose] public section

set_option maxRecDepth 20000

namespace Cert.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (readerAt released writeTok slotInv)

variable {F : FTy → Type} [FloatOps F]

noncomputable section

local notation "𝕄" => MT nD τ sig ℕ (Elt F) ℕ UU ℕ

variable (X : Dev nD → Vec F S4096x256 .f32) (W : Dev nD → Vec F S256x2048 .f32) (K : Dev nD × Cell → ℕ) (ιs : KS → ℕ) (c : Dev nD)

variable {Q : PUnit → sProp (MT nD τ sig ℕ (Elt F) ℕ UU ℕ)}

variable {Q : PUnit → sProp (MT nD τ sig ℕ (Elt F) ℕ UU ℕ)}

theorem tC_next : ∀ r : Fin 4, ∀ h : Fin 29, h.val ≠ 14 → tC r.val h.val + 1 = tS r.val (h.val + 1) := by decide +kernel
theorem row_wrap (r n : ℕ) (hn : n ≤ 15) (c : Dev nD) : row r (16 + n) c = row r n c := by
  unfold row ch; split_ifs <;> omega
theorem sQ_wrap (r : Fin 4) (n : ℕ) (hn : n ≤ 15) : sQ r (16 + n) c = sQ r n c := by
  unfold sQ; simp only [row_wrap _ n hn]
theorem sO_wrap (r : Fin 4) (n : ℕ) (hn : n ≤ 15) : sO r (16 + n) c = sO r n c := by
  unfold sO; simp only [row_wrap _ n hn]

theorem any_of {s : Shape} {e : EltTy} (m : Memref sig .tc .vmem s e) (Y : s.Idx → Elt F e) : (owns (c.tc : Thread nD τ) m fullShare Y : sProp 𝕄) ⊢ any c m :=
  BIClass.exists_intro (Φ := fun Y => (owns (c.tc : Thread nD τ) m fullShare Y : sProp 𝕄)) Y

/-- A slot as the elements of the buffer it is. -/
theorem slot_open {e : EltTy} (M : Memref sig .tc .vmem S4x2x64x2048 e) {b : Fin 4 → ℕ} {hb : FC b} (Y : Vec F S64x2048 e) :
    (owns (c.tc : Thread nD τ) (slotM M b hb) fullShare Y : sProp 𝕄) = owns (c.tc : Thread nD τ) (M.slice (cR b hb) (fun _ => rfl)) fullShare (uns Y) :=
  own_squeeze c (M.slice (cR b hb) (fun _ => rfl)) squeezes_S1x1x64x2048_S64x2048 fullShare Y

/-- A strip that arrived added to the device's own. -/
theorem wp_add (r : Fin 4) (h : ℕ) {o : Fin 2 → ℕ} {ho : FS o} {b : Fin 4 → ℕ} {hb : FC b} (hoo : o = ![row r.val (h + 1) c, 0]) (hbb : b = ![r.val, (par h).val, 0, 0]) (k : PrgT F) :
    iprop(owns (c.tc : Thread nD τ) (sO r (h + 1) c) fullShare (gst X W r (h + 1) c) ∗ owns (c.tc : Thread nD τ) (slot32 r (par h)) fullShare (psum X W r h (up r.val c)))
      ⊢ iprop(((owns (c.tc : Thread nD τ) (sO r (h + 1) c) fullShare (psum X W r (h + 1) c) ∗ any c (slot32 r (par h))) -∗ WP c k Q) -∗ WP c (pAdd o ho b hb k) Q) := by
  subst hoo hbb
  iintro ⟨Ho, Hs⟩ Hk
  ihave Hs := (Entails.of_eq (slot_open c cM (b := ![r.val, (par h).val, 0, 0]) (hb := hb) (psum X W r h (up r.val c)))) $$ Hs
  unfold pAdd
  iapply (wp_loadO 𝒱₀ c none oM (sR _ ho) (fun _ => rfl) fullShare (gst X W r (h + 1) c)) $$ Ho
  iintro Ho
  iapply (wp_loadO 𝒱₀ c none cM (cR _ hb) (fun _ => rfl) fullShare (uns (psum X W r h (up r.val c)))) $$ Hs
  iintro Hs
  iapply (wp_loadO 𝒱₀ c none oM (sR _ ho) (fun _ => rfl) fullShare (gst X W r (h + 1) c)) $$ Ho
  iintro Ho
  iapply (wp_storeO 𝒱₀ c none oM (sR _ ho) (fun _ => rfl) (gst X W r (h + 1) c) (psum X W r (h + 1) c)) $$ Ho
  iintro Ho
  iapply Hk
  isplitl [Ho]; · iexact Ho
  iapply (any_of c (slot32 r (par h)) (psum X W r h (up r.val c)))
  iapply (Entails.of_eq (slot_open c cM (b := ![r.val, (par h).val, 0, 0]) (hb := hb) (psum X W r h (up r.val c))).symm) $$ Hs

/-- The strips of the first buffer while hop `h` is in flight, of sums. -/
def sums (r : Fin 4) (h : ℕ) : sProp (MT nD τ sig ℕ (Elt F) ℕ UU ℕ) :=
  iprop((bigSep (Finset.range h) fun j => any c (sO r j c)) ∗ bigSep (Finset.Ico (h + 1) 16) fun j => owns (c.tc : Thread nD τ) (sO r j c) fullShare (gst X W r j c))

/-- The end of a hop of sums: waits, adding, the slot and the credit given back. -/
theorem wp_RT (r : Fin 4) (h : ℕ) (hh : h ≤ 14) {s1 s2 : DmaSem sig} {p : Fin 2 → ℕ} {hp : FS p} {b : Fin 4 → ℕ} {hb : FC b} {b' : Fin 4 → ℕ} {hb' : FC b'} {n : Fin 2 → ℕ} {hn : FS n} {du : Dev nD} {cr : Sem sig}
    (hs1 : s1 = sndQ r (par h)) (hs2 : s2 = rcvQ r (par h)) (hpp : p = ![row r.val h c, 0]) (hbb : b = ![r.val, (par h).val, 0, 0]) (hbb' : b' = ![r.val, (par h).val, 0, 0])
    (hnn : n = ![row r.val (h + 1) c, 0]) (hdu : du = up r.val c) (hcr : cr = crdQ r) {w1 : (strip oM p hp).view.WordExact} {w2 : (slotM cM b hb).view.WordExact} (k : PrgT F) :
    iprop(env X W K ιs ∗ due c (tC r.val h) ∗ fly c r h ∗ sums X W c r h)
      ⊢ iprop(((due c (tC r.val h + 1) ∗ rest c r (h + 1) (h - 1) ∗ owns (c.tc : Thread nD τ) (sO r (h + 1) c) fullShare (psum X W r (h + 1) c) ∗ sums X W c r (h + 1)) -∗ WP c k Q)
        -∗ WP c (pWaits s1 s2 (strip oM p hp) (slotM cM b hb) w1 w2 <| pAdd n hn b' hb' <| pSig du cr k) Q) := by
  unfold sums
  iintro ⟨#He, Ho, Hf, Ha, Hg⟩ Hk
  iapply (wp_wait32 X W K ιs c r h hh hs1 hs2 hpp hbb) $$ [Ho Hf]
  · iframe He Ho Hf
  iintro ⟨Ho, Hh, Hst, Hsl⟩
  ihave Hg := (Entails.of_eq (bigSep_Ico_succ_bot (show h + 1 < 16 by omega) (fun j => (owns (c.tc : Thread nD τ) (sO r j c) fullShare (gst X W r j c) : sProp 𝕄)))) $$ Hg
  icases Hg with ⟨Hg1, Hg⟩
  iapply (wp_add X W c r h hnn hbb') $$ [Hg1 Hsl]
  · iframe Hg1 Hsl
  iintro ⟨Hg1, Hsl⟩
  ihave Hsl := (Entails.of_eq (show (any c (slot32 r (par h)) : sProp 𝕄) = used c r h from (if_pos hh).symm)) $$ Hsl
  iapply (wp_give X W K ιs c r h (by omega) hdu hcr) $$ [Ho Hh Hsl]
  · iframe He Ho Hh Hsl
  iintro ⟨Ho, Hr⟩
  iapply Hk
  iframe Ho Hr Hg1
  isplitl [Ha Hst]
  · iapply (Entails.of_eq (bigSep_range_succ h (fun j => (any c (sO r j c) : sProp 𝕄))).symm)
    iframe Hst Ha
  iexact Hg

/-- One ring's share of a summing trip. -/
theorem wp_RS (r : Fin 4) (h : ℕ) (hh : h ≤ 13) {s1 s2 : DmaSem sig} {p : Fin 2 → ℕ} {hp : FS p} {b : Fin 4 → ℕ} {hb : FC b} {b' : Fin 4 → ℕ} {hb' : FC b'} {n : Fin 2 → ℕ} {hn : FS n} {du : Dev nD} {cr : Sem sig} {g : BitVec 1}
    {t1 t2 : DmaSem sig} {n' : Fin 2 → ℕ} {hn' : FS n'} {b2 : Fin 4 → ℕ} {hb2 : FC b2} {dd : Dev nD}
    (hs1 : s1 = sndQ r (par h)) (hs2 : s2 = rcvQ r (par h)) (hpp : p = ![row r.val h c, 0]) (hbb : b = ![r.val, (par h).val, 0, 0]) (hbb' : b' = ![r.val, (par h).val, 0, 0])
    (hnn : n = ![row r.val (h + 1) c, 0]) (hdu : du = up r.val c) (hcr : cr = crdQ r) (hg : g = 1#1 ↔ 1 ≤ h)
    (ht1 : t1 = sndQ r (par (h + 1))) (ht2 : t2 = rcvQ r (par (h + 1))) (hnn' : n' = ![row r.val (h + 1) c, 0]) (hb2' : b2 = ![r.val, (par (h + 1)).val, 0, 0]) (hdd : dd = dn r.val c) (k : PrgT F) :
    iprop(env X W K ιs ∗ due c (tC r.val h) ∗ fly c r h ∗ sums X W c r h)
      ⊢ iprop(((due c (tS r.val (h + 1) + 1) ∗ fly c r (h + 1) ∗ sums X W c r (h + 1)) -∗ WP c k Q)
        -∗ WP c (pRS s1 s2 p hp b hb n hn b' hb' du cr g t1 t2 n' hn' b2 hb2 dd k) Q) := by
  unfold pRS
  iintro ⟨#He, H⟩ Hk
  iapply (wp_RT X W K ιs c r h (by omega) hs1 hs2 hpp hbb hbb' hnn hdu hcr) $$ [H]
  · iframe He H
  iintro ⟨Ho, Hr, Hg1, Hm⟩
  ihave Ho := (Entails.of_eq (congrArg (due (F := F) c) (tC_next r ⟨h, by omega⟩ (by show h ≠ 14; omega)))) $$ Ho
  unfold pCrdIf
  by_cases h1 : g = 1#1
  · have hh1 := hg.mp h1
    simp only [h1, dite_true]
    iapply (wp_take X W K ιs c r (h + 1) (by omega) (by omega) hcr) $$ [Ho Hr]
    · iframe He Ho Hr
    iintro ⟨Ho, Hr⟩
    iapply (wp_send32 X W K ιs c r (h + 1) (by omega) ht1 ht2 hdd hnn' hb2') $$ [Ho Hr Hg1]
    · iframe He Ho Hr Hg1
    iintro ⟨Ho, Hf⟩
    iapply Hk
    iframe Ho Hf Hm
  · have hh1 : h = 0 := by by_contra hne; exact h1 (hg.mpr (by omega))
    subst hh1
    simp only [h1, dite_false]
    iapply (wp_send32 X W K ιs c r 1 (by omega) ht1 ht2 hdd hnn' hb2') $$ [Ho Hr Hg1]
    · iframe He Ho Hr Hg1
    iintro ⟨Ho, Hf⟩
    iapply Hk
    iframe Ho Hf Hm

/-- The owned strip quantised. -/
theorem wp_quant (r : Fin 4) {a : F .f32} (ha : a = scl X W c) {o : Fin 2 → ℕ} {ho : FS o} (hoo : o = ![row r.val 15 c, 0]) {hx : (qM.view.slice (sR o ho)).StoreExact Finset.univ} (k : PrgT F) :
    iprop(owns (c.tc : Thread nD τ) (sO r 15 c) fullShare (psum X W r 15 c) ∗ any c (sQ r 15 c))
      ⊢ iprop(((owns (c.tc : Thread nD τ) (sO r 15 c) fullShare (outS X W r 15 c) ∗ owns (c.tc : Thread nD τ) (sQ r 15 c) fullShare (qnt X W r 0 c)) -∗ WP c k Q) -∗ WP c (pQuant a o ho hx k) Q) := by
  subst hoo ha
  iintro ⟨Ho, ⟨%Z, Hq⟩⟩ Hk
  unfold pQuant
  iapply (wp_loadO 𝒱₀ c none oM (sR _ ho) (fun _ => rfl) fullShare (psum X W r 15 c)) $$ Ho
  iintro Ho
  iapply (wp_loadO 𝒱₀ c none qM (sR _ ho) (fun _ => rfl) fullShare Z) $$ Hq
  iintro Hq
  iapply (wp_storeO 𝒱₀ c none qM (sR _ ho) (fun _ => rfl) Z (qnt X W r 0 c)) $$ Hq
  iintro Hq
  iapply (wp_loadO 𝒱₀ c none oM (sR _ ho) (fun _ => rfl) fullShare (psum X W r 15 c)) $$ Ho
  iintro Ho
  iapply (wp_storeO 𝒱₀ c none oM (sR _ ho) (fun _ => rfl) (psum X W r 15 c) (outS X W r 15 c)) $$ Ho
  iintro Ho
  iapply Hk
  iframe Ho Hq

/-- The first gathering send. -/
theorem wp_S15 (r : Fin 4) {cr : Sem sig} {t1 t2 : DmaSem sig} {n' : Fin 2 → ℕ} {hn' : FS n'} {w1 : (strip qM n' hn').view.WordExact} {b2 : Fin 4 → ℕ} {hb2 : FC b2} {w2 : (slotM dM b2 hb2).view.WordExact} {dd : Dev nD}
    (hcr : cr = crdQ r) (ht1 : t1 = sndQ r 1) (ht2 : t2 = rcvQ r 1) (hnn' : n' = ![row r.val 15 c, 0]) (hb2' : b2 = ![r.val, 1, 0, 0]) (hdd : dd = dn r.val c) (k : PrgT F) :
    iprop(env X W K ιs ∗ due c (tS r.val 15) ∗ rest c r 15 13 ∗ owns (c.tc : Thread nD τ) (sQ r 15 c) fullShare (qnt X W r 0 c))
      ⊢ iprop(((due c (tS r.val 15 + 1) ∗ fly c r 15) -∗ WP c k Q) -∗ WP c (pS15 cr t1 t2 n' hn' w1 b2 hb2 w2 dd k) Q) := by
  unfold pS15
  iintro ⟨#He, Ho, Hr, Hq⟩ Hk
  iapply (wp_take X W K ιs c r 15 (by omega) (by omega) hcr) $$ [Ho Hr]
  · iframe He Ho Hr
  iintro ⟨Ho, Hr⟩
  iapply (wp_send8 X W K ιs c r 15 (by omega) (by omega) ht1 ht2 hdd hnn' hb2') $$ [Ho Hr Hq]
  · iframe He Ho Hr Hq
  iintro H
  iapply Hk
  iexact H

/-- The strips of the result filled, those not, and the integers' strips, while hop `15 + n` is in flight. -/
def gath (r : Fin 4) (n : ℕ) : sProp (MT nD τ sig ℕ (Elt F) ℕ UU ℕ) :=
  iprop((bigSep (Finset.range n) fun j => owns (c.tc : Thread nD τ) (sO r j c) fullShare (outS X W r j c)) ∗ (bigSep (Finset.Ico n 15) fun j => any c (sO r j c))
    ∗ bigSep ((Finset.range 16).erase ((15 + n) % 16)) fun j => any c (sQ r j c))

theorem sQ_mod (r : Fin 4) (n : ℕ) (hn : n ≤ 15) : sQ r ((15 + n) % 16) c = sQ r (15 + n) c := by
  by_cases h : n = 0
  · subst h; rfl
  · obtain ⟨m, rfl⟩ : ∃ m, n = m + 1 := ⟨n - 1, by omega⟩
    rw [show (15 + (m + 1)) % 16 = m by omega, show 15 + (m + 1) = 16 + m by omega, sQ_wrap c r m (by omega)]

/-- What arrived kept, and its product with the scale. -/
theorem wp_keep (r : Fin 4) (n : ℕ) (hn : n ≤ 13) {a : F .f32} (ha : a = scl X W c) {b : Fin 4 → ℕ} {hb : FC b} {o : Fin 2 → ℕ} {ho : FS o} (hbb : b = ![r.val, (par (15 + n)).val, 0, 0]) (hoo : o = ![row r.val (16 + n) c, 0])
    {hx : (qM.view.slice (sR o ho)).StoreExact Finset.univ} (k : PrgT F) :
    iprop(any c (sO r n c) ∗ any c (sQ r n c) ∗ owns (c.tc : Thread nD τ) (slot8 r (par (15 + n))) fullShare (qnt X W r n (up r.val c)))
      ⊢ iprop(((owns (c.tc : Thread nD τ) (sO r n c) fullShare (outS X W r n c) ∗ owns (c.tc : Thread nD τ) (sQ r (16 + n) c) fullShare (qnt X W r (n + 1) c) ∗ any c (slot8 r (par (15 + n)))) -∗ WP c k Q)
        -∗ WP c (pTake a b hb o ho hx k) Q) := by
  subst hoo ha hbb
  have hout : outS X W r n c = k0_pay10 (scl X W c) (uns (qnt X W r n (up r.val c))) := if_neg (by omega)
  rw [← sO_wrap c r n (by omega), ← sQ_wrap c r n (by omega), hout]
  iintro ⟨⟨%Y, Ho⟩, ⟨%Z, Hq⟩, Hs⟩ Hk
  ihave Hs := (Entails.of_eq (slot_open c dM (b := ![r.val, (par (15 + n)).val, 0, 0]) (hb := hb) (qnt X W r n (up r.val c)))) $$ Hs
  unfold pTake
  iapply (wp_loadO 𝒱₀ c none dM (cR _ hb) (fun _ => rfl) fullShare (uns (qnt X W r n (up r.val c)))) $$ Hs
  iintro Hs
  iapply (wp_loadO 𝒱₀ c none qM (sR _ ho) (fun _ => rfl) fullShare Z) $$ Hq
  iintro Hq
  iapply (wp_storeO 𝒱₀ c none qM (sR _ ho) (fun _ => rfl) Z (qnt X W r (n + 1) c)) $$ Hq
  iintro Hq
  iapply (wp_loadO 𝒱₀ c none oM (sR _ ho) (fun _ => rfl) fullShare Y) $$ Ho
  iintro Ho
  iapply (wp_storeO 𝒱₀ c none oM (sR _ ho) (fun _ => rfl) Y (k0_pay10 (scl X W c) (uns (qnt X W r n (up r.val c))))) $$ Ho
  iintro Ho
  iapply Hk
  iframe Ho Hq
  iapply (any_of c (slot8 r (par (15 + n))) (qnt X W r n (up r.val c)))
  iapply (Entails.of_eq (slot_open c dM (b := ![r.val, (par (15 + n)).val, 0, 0]) (hb := hb) (qnt X W r n (up r.val c))).symm) $$ Hs

/-- The integers' strips: the one sent back, the next one out. -/
theorem q_turn (r : Fin 4) (n : ℕ) (hn : n ≤ 14) :
    iprop((bigSep ((Finset.range 16).erase ((15 + n) % 16)) fun j => any c (sQ r j c)) ∗ any c (sQ r (15 + n) c)) ⊢ (bigSep (Finset.range 16) fun j => any c (sQ r j c) : sProp 𝕄) := by
  have hm : (15 + n) % 16 ∈ Finset.range 16 := Finset.mem_range.mpr (Nat.mod_lt _ (by decide))
  rw [← sQ_mod c r n (by omega)]
  refine sep_comm.1.trans (Entails.of_eq ?_)
  exact (bigSep_erase hm (Φ := fun j => (any c (sQ r j c) : sProp 𝕄))).symm

theorem wp_AG (r : Fin 4) (n : ℕ) (hn : n ≤ 13) {a : F .f32} (ha : a = scl X W c) {s1 s2 : DmaSem sig} {p : Fin 2 → ℕ} {hp : FS p} {w1 : (strip qM p hp).view.WordExact} {b : Fin 4 → ℕ} {hb : FC b} {w2 : (slotM dM b hb).view.WordExact}
    {b' : Fin 4 → ℕ} {hb' : FC b'} {o : Fin 2 → ℕ} {ho : FS o} {hx : (qM.view.slice (sR o ho)).StoreExact Finset.univ} {g : BitVec 1} {du : g = 1#1 → Dev nD} {cr : Sem sig} {t1 t2 : DmaSem sig} {o' : Fin 2 → ℕ} {ho' : FS o'}
    {w3 : (strip qM o' ho').view.WordExact} {b2 : Fin 4 → ℕ} {hb2 : FC b2} {w4 : (slotM dM b2 hb2).view.WordExact} {dd : Dev nD}
    (hs1 : s1 = sndQ r (par (15 + n))) (hs2 : s2 = rcvQ r (par (15 + n))) (hpp : p = ![row r.val (15 + n) c, 0]) (hbb : b = ![r.val, (par (15 + n)).val, 0, 0]) (hbb' : b' = ![r.val, (par (15 + n)).val, 0, 0])
    (hoo : o = ![row r.val (16 + n) c, 0]) (hg : g = 1#1 ↔ n ≤ 12) (hdu : ∀ h, du h = up r.val c) (hcr : cr = crdQ r)
    (ht1 : t1 = sndQ r (par (16 + n))) (ht2 : t2 = rcvQ r (par (16 + n))) (hoo' : o' = ![row r.val (16 + n) c, 0]) (hb2' : b2 = ![r.val, (par (16 + n)).val, 0, 0]) (hdd : dd = dn r.val c) (k : PrgT F) :
    iprop(env X W K ιs ∗ due c (tC r.val (15 + n)) ∗ fly c r (15 + n) ∗ gath X W c r n)
      ⊢ iprop(((due c (tS r.val (16 + n) + 1) ∗ fly c r (15 + (n + 1)) ∗ gath X W c r (n + 1)) -∗ WP c k Q)
        -∗ WP c (pAG a s1 s2 p hp w1 b hb w2 b' hb' o ho hx g du cr t1 t2 o' ho' w3 b2 hb2 w4 dd k) Q) := by
  have htime : tC r.val (15 + n) + 1 = tS r.val (16 + n) := by
    have := tC_next r ⟨15 + n, by omega⟩ (by show 15 + n ≠ 14; omega)
    rw [show 16 + n = 15 + n + 1 by omega]; exact this
  unfold pAG gath
  iintro ⟨#He, Ho, Hf, Hout, Hany, Hq⟩ Hk
  iapply (wp_wait8 X W K ιs c r (15 + n) (by omega) (by omega) hs1 hs2 hpp hbb) $$ [Ho Hf]
  · iframe He Ho Hf
  iintro ⟨Ho, Hh, Hst, Hsl⟩
  ihave Hq := (q_turn (F := F) c r n (by omega)) $$ [Hq Hst]
  · iframe Hq Hst
  ihave Hq := (Entails.of_eq (show (bigSep (Finset.range 16) fun j => (any c (sQ r j c) : sProp 𝕄)) = iprop(any c (sQ r n c) ∗ bigSep ((Finset.range 16).erase n) fun j => any c (sQ r j c)) from bigSep_erase (Finset.mem_range.mpr (show n < 16 by omega)))) $$ Hq
  icases Hq with ⟨Hq1, Hq⟩
  ihave Hany := (Entails.of_eq (bigSep_Ico_succ_bot (show n < 15 by omega) (fun j => (any c (sO r j c) : sProp 𝕄)))) $$ Hany
  icases Hany with ⟨Hany1, Hany⟩
  ihave Hsl := (Entails.of_eq (show (owns (c.tc : Thread nD τ) (slot8 r (par (15 + n))) fullShare (qnt X W r (15 + n - 15) (up r.val c)) : sProp 𝕄) = owns (c.tc : Thread nD τ) (slot8 r (par (15 + n))) fullShare (qnt X W r n (up r.val c)) by
    rw [show 15 + n - 15 = n by omega])) $$ Hsl
  iapply (wp_keep X W c r n hn ha hbb' hoo) $$ [Hq1 Hany1 Hsl]
  · iframe Hq1 Hany1 Hsl
  iintro ⟨Hout1, Hq1, Hsl⟩
  ihave Hsl := (Entails.of_eq (show (any c (slot8 r (par (15 + n))) : sProp 𝕄) = used c r (15 + n) from (if_neg (by omega)).symm)) $$ Hsl
  have hrest : ∀ k' : PrgT F, iprop((∀ _u : Unit, (due c (tC r.val (15 + n) + 1) ∗ rest c r (15 + n + 1) (15 + n - 1)) -∗ WP c k' Q) ∗ env X W K ιs ∗ due c (tC r.val (15 + n)) ∗ here c r (15 + n) ∗ used c r (15 + n)) ⊢ WP c (pSigIf g du cr k') Q := by
    intro k'
    unfold pSigIf
    by_cases h1 : g = 1#1
    · have hn12 := hg.mp h1
      rw [dif_pos h1]
      iintro ⟨Hk, #He, Ho, Hh, Hsl⟩
      iapply (wp_give X W K ιs c r (15 + n) (by omega) (hdu h1) hcr) $$ [Ho Hh Hsl]
      · iframe He Ho Hh Hsl
      iintro H
      iapply Hk $$ %() H
    · have hn12 : ¬ n ≤ 12 := fun h => h1 (hg.mpr h)
      rw [dif_neg h1]
      iintro ⟨Hk, #He, Ho, Hh, Hsl⟩
      ihave H := (last_keep (F := F) c r (15 + n) (by omega) (by omega)) $$ [Ho Hh Hsl]
      · iframe Ho Hh Hsl
      iapply Hk $$ %() H
  iapply (hrest _)
  iframe He Ho Hh Hsl
  iintro %_ ⟨Ho, Hr⟩
  ihave Ho := (Entails.of_eq (congrArg (due (F := F) c) htime)) $$ Ho
  ihave Hr := (Entails.of_eq (show (rest c r (15 + n + 1) (15 + n - 1) : sProp 𝕄) = rest c r (16 + n) (16 + n - 2) by rw [show 15 + n + 1 = 16 + n by omega, show 15 + n - 1 = 16 + n - 2 by omega])) $$ Hr
  iapply (wp_take X W K ιs c r (16 + n) (by omega) (by omega) hcr) $$ [Ho Hr]
  · iframe He Ho Hr
  iintro ⟨Ho, Hr⟩
  ihave Hq1 := (Entails.of_eq (show (owns (c.tc : Thread nD τ) (sQ r (16 + n) c) fullShare (qnt X W r (n + 1) c) : sProp 𝕄) = owns (c.tc : Thread nD τ) (sQ r (16 + n) c) fullShare (qnt X W r (16 + n - 15) c) by
    rw [show 16 + n - 15 = n + 1 by omega])) $$ Hq1
  iapply (wp_send8 X W K ιs c r (16 + n) (by omega) (by omega) ht1 ht2 hdd hoo' hb2') $$ [Ho Hr Hq1]
  · iframe He Ho Hr Hq1
  iintro ⟨Ho, Hf⟩
  iapply Hk
  iframe Ho
  isplitl [Hf]
  · iapply (Entails.of_eq (show (fly c r (16 + n) : sProp 𝕄) = fly c r (15 + (n + 1)) by rw [show 15 + (n + 1) = 16 + n by omega])) $$ Hf
  isplitl [Hout Hout1]
  · iapply (Entails.of_eq (bigSep_range_succ n (fun j => (owns (c.tc : Thread nD τ) (sO r j c) fullShare (outS X W r j c) : sProp 𝕄))).symm)
    iframe Hout Hout1
  isplitl [Hany]; · iexact Hany
  iapply (Entails.of_eq (show (bigSep ((Finset.range 16).erase n) (fun j => (any c (sQ r j c) : sProp 𝕄))) = bigSep ((Finset.range 16).erase ((15 + (n + 1)) % 16)) (fun j => (any c (sQ r j c) : sProp 𝕄)) by
    rw [show (15 + (n + 1)) % 16 = n by omega])) $$ Hq

/-- The end of the gathering on a ring. -/
theorem wp_AT (r : Fin 4) {a : F .f32} (ha : a = scl X W c) {s1 s2 : DmaSem sig} {p : Fin 2 → ℕ} {hp : FS p} {w1 : (strip qM p hp).view.WordExact} {b : Fin 4 → ℕ} {hb : FC b} {w2 : (slotM dM b hb).view.WordExact} {o : Fin 2 → ℕ} {ho : FS o}
    (hs1 : s1 = sndQ r 1) (hs2 : s2 = rcvQ r 1) (hpp : p = ![row r.val 29 c, 0]) (hbb : b = ![r.val, 1, 0, 0]) (hoo : o = ![row r.val 30 c, 0]) (k : PrgT F) :
    iprop(env X W K ιs ∗ due c (tC r.val 29) ∗ fly c r 29 ∗ gath X W c r 14)
      ⊢ iprop(((due c (tC r.val 29 + 1) ∗ rest c r 30 28 ∗ (bigSep (Finset.range 15) fun j => owns (c.tc : Thread nD τ) (sO r j c) fullShare (outS X W r j c)) ∗ (bigSep (Finset.range 16) fun j => any c (sQ r j c))) -∗ WP c k Q)
        -∗ WP c (pAT a s1 s2 p hp w1 b hb w2 o ho k) Q) := by
  subst ha
  unfold pAT gath
  iintro ⟨#He, Ho, Hf, Hout, Hany, Hq⟩ Hk
  iapply (wp_wait8 X W K ιs c r 29 (by omega) (by omega) hs1 hs2 hpp hbb) $$ [Ho Hf]
  · iframe He Ho Hf
  iintro ⟨Ho, Hh, Hst, Hsl⟩
  ihave Hq := (q_turn (F := F) c r 14 (by omega)) $$ [Hq Hst]
  · iframe Hq Hst
  ihave Hany := (Entails.of_eq (bigSep_Ico_succ_bot (show 14 < 15 by omega) (fun j => (any c (sO r j c) : sProp 𝕄)))) $$ Hany
  icases Hany with ⟨⟨%Y, Hany1⟩, -⟩
  ihave Hany1 := (Entails.of_eq (show (owns (c.tc : Thread nD τ) (sO r 14 c) fullShare Y : sProp 𝕄) = owns (c.tc : Thread nD τ) (sO r (16 + 14) c) fullShare Y by rw [sO_wrap c r 14 (by omega)])) $$ Hany1
  subst hoo hbb
  ihave Hsl := (Entails.of_eq (show (owns (c.tc : Thread nD τ) (slot8 r (par 29)) fullShare (qnt X W r (29 - 15) (up r.val c)) : sProp 𝕄) = owns (c.tc : Thread nD τ) (slotM dM ![r.val, 1, 0, 0] hb) fullShare (qnt X W r 14 (up r.val c)) from rfl)) $$ Hsl
  ihave Hs := (Entails.of_eq (slot_open c dM (b := ![r.val, 1, 0, 0]) (hb := hb) (qnt X W r 14 (up r.val c)))) $$ Hsl
  unfold pLast
  iapply (wp_loadO 𝒱₀ c none dM (cR _ hb) (fun _ => rfl) fullShare (uns (qnt X W r 14 (up r.val c)))) $$ Hs
  iintro Hs
  iapply (wp_loadO 𝒱₀ c none oM (sR _ ho) (fun _ => rfl) fullShare Y) $$ Hany1
  iintro Hany1
  iapply (wp_storeO 𝒱₀ c none oM (sR _ ho) (fun _ => rfl) Y (outS X W r 14 c)) $$ Hany1
  iintro Hany1
  ihave Hany1 := (Entails.of_eq (show (owns (c.tc : Thread nD τ) (sO r (16 + 14) c) fullShare (outS X W r 14 c) : sProp 𝕄) = owns (c.tc : Thread nD τ) (sO r 14 c) fullShare (outS X W r 14 c) by rw [sO_wrap c r 14 (by omega)])) $$ Hany1
  ihave Hs := (Entails.of_eq (slot_open c dM (b := ![r.val, 1, 0, 0]) (hb := hb) (qnt X W r 14 (up r.val c))).symm) $$ Hs
  ihave Hs := (any_of c (slotM dM ![r.val, 1, 0, 0] hb) (qnt X W r 14 (up r.val c))) $$ Hs
  ihave Hs := (Entails.of_eq (show (any c (slotM dM ![r.val, 1, 0, 0] hb) : sProp 𝕄) = used c r 29 from (show (any c (slot8 r (par 29)) : sProp 𝕄) = used c r 29 from (if_neg (by omega)).symm))) $$ Hs
  ihave H := (last_keep (F := F) c r 29 (by omega) (by omega)) $$ [Ho Hh Hs]
  · iframe Ho Hh Hs
  icases H with ⟨Ho, Hr⟩
  iapply Hk
  iframe Ho Hr Hq
  iapply (Entails.of_eq (bigSep_range_succ 14 (fun j => (owns (c.tc : Thread nD τ) (sO r j c) fullShare (outS X W r j c) : sProp 𝕄))).symm)
  iframe Hout Hany1

end

end Cert.AR
-- ==== Proof.Trips.lean ====
/-
The two loops, and the straight pieces beside them.
-/
module

public import proofs.«01_k».proof.Proof.Hops

@[expose] public section

set_option maxRecDepth 20000

namespace Cert.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (readerAt released writeTok slotInv)

variable {F : FTy → Type} [FloatOps F]

noncomputable section

local notation "𝕄" => MT nD τ sig ℕ (Elt F) ℕ UU ℕ

variable (X : Dev nD → Vec F S4096x256 .f32) (W : Dev nD → Vec F S256x2048 .f32) (K : Dev nD × Cell → ℕ) (ιs : KS → ℕ) (c : Dev nD)

variable {Q : PUnit → sProp (MT nD τ sig ℕ (Elt F) ℕ UU ℕ)}

theorem snd_eq {o o' : Fin 2 → ℕ} {h : F2 o} {h' : F2 o'} (e : o = o') : sndS o h = sndS o' h' := by subst e; rfl
theorem rcv_eq {o o' : Fin 2 → ℕ} {h : F2 o} {h' : F2 o'} (e : o = o') : rcvS o h = rcvS o' h' := by subst e; rfl
theorem dev_eq {n : ℕ} {h : n < nD} {d : Dev nD} (e : n = d.val) : (⟨n, h⟩ : Dev nD) = d := Fin.ext e

/-- A proposition of each ring. -/
abbrev four (Φ : Fin 4 → sProp (MT nD τ sig ℕ (Elt F) ℕ UU ℕ)) : sProp (MT nD τ sig ℕ (Elt F) ℕ UU ℕ) := iprop(Φ 0 ∗ Φ 1 ∗ Φ 2 ∗ Φ 3)

theorem ret_keep (P : sProp 𝕄) : P ⊢ WP c (.ret ⟨⟩) (fun _ => P) := by
  unfold WP; rw [wp_ret]; exact fupd_intro

theorem due_eq {i j : ℕ} (h : i = j) : (due c i : sProp 𝕄) ⊢ due c j := Entails.of_eq (congrArg (due (F := F) c) h)

theorem tS_next : ∀ h : Fin 30, h.val ≠ 0 → h.val ≠ 15 → tS 0 h.val + 1 = tC 1 (h.val - 1) ∧ tS 1 h.val + 1 = tC 2 (h.val - 1) ∧ tS 2 h.val + 1 = tC 3 (h.val - 1) ∧ tS 3 h.val + 1 = tC 0 h.val := by
  decide +kernel

/-- What holds before summing trip `t`. -/
def inv1 (t : ℕ) : sProp (MT nD τ sig ℕ (Elt F) ℕ UU ℕ) :=
  iprop(env X W K ιs ∗ due c (tC 0 t) ∗ four fun r => iprop(fly c r t ∗ sums X W c r t))

theorem wp_trip1 (t : Fin k0_t1_loop.trips) : inv1 X W K ιs c t.val ⊢ WP c (trip1 c t) (fun _ => inv1 X W K ιs c (t.val + 1)) := by
  have ht : t.val < 14 := t.isLt
  obtain ⟨hn0, hn1, hn2, hn3⟩ := tS_next ⟨t.val + 1, by omega⟩ (by show t.val + 1 ≠ 0; omega) (by show t.val + 1 ≠ 15; omega)
  replace hn0 : tS (0 : Fin 4).val (t.val + 1) + 1 = tC (1 : Fin 4).val t.val := hn0
  replace hn1 : tS (1 : Fin 4).val (t.val + 1) + 1 = tC (2 : Fin 4).val t.val := hn1
  replace hn2 : tS (2 : Fin 4).val (t.val + 1) + 1 = tC (3 : Fin 4).val t.val := hn2
  replace hn3 : tS (3 : Fin 4).val (t.val + 1) + 1 = tC 0 (t.val + 1) := hn3
  unfold inv1 four
  iintro ⟨#He, Ho, ⟨Hf0, Hm0⟩, ⟨Hf1, Hm1⟩, ⟨Hf2, Hm2⟩, ⟨Hf3, Hm3⟩⟩
  unfold trip1
  iapply (wp_RS X W K ιs c 0 t.val (by omega) (snd_eq (sem1_eq t).1) (rcv_eq (sem1_eq t).1) (off8_eq c t).1 (slot1_eq t).1.1 (slot1_eq t).1.2 (off10_eq c t).1 (dev_eq (devC1_eq c).1) rfl (cndR_eq t)
    (snd_eq (sem1'_eq t).1) (rcv_eq (sem1'_eq t).1) (off14_eq c t).1 (slot1'_eq t).1 (dev_eq (devS1_eq c).1)) $$ [Ho Hf0 Hm0]
  · iframe He Ho Hf0 Hm0
  iintro ⟨Ho, Hf0, Hm0⟩
  ihave Ho := (due_eq (F := F) c hn0) $$ Ho
  iapply (wp_RS X W K ιs c 1 t.val (by omega) (snd_eq (sem1_eq t).2.1) (rcv_eq (sem1_eq t).2.1) (off16_eq c t).1 (slot1_eq t).2.1.1 (slot1_eq t).2.1.2 (off18_eq c t).1 (dev_eq (devC1_eq c).2.1) rfl (cndR_eq t)
    (snd_eq (sem1'_eq t).2.1) (rcv_eq (sem1'_eq t).2.1) (off22_eq c t).1 (slot1'_eq t).2.1 (dev_eq (devS1_eq c).2.1)) $$ [Ho Hf1 Hm1]
  · iframe He Ho Hf1 Hm1
  iintro ⟨Ho, Hf1, Hm1⟩
  ihave Ho := (due_eq (F := F) c hn1) $$ Ho
  iapply (wp_RS X W K ιs c 2 t.val (by omega) (snd_eq (sem1_eq t).2.2.1) (rcv_eq (sem1_eq t).2.2.1) (off8_eq c t).2 (slot1_eq t).2.2.1.1 (slot1_eq t).2.2.1.2 (off10_eq c t).2 (dev_eq (devC1_eq c).2.2.1) rfl (cndR_eq t)
    (snd_eq (sem1'_eq t).2.2.1) (rcv_eq (sem1'_eq t).2.2.1) (off14_eq c t).2 (slot1'_eq t).2.2.1 (dev_eq (devS1_eq c).2.2.1)) $$ [Ho Hf2 Hm2]
  · iframe He Ho Hf2 Hm2
  iintro ⟨Ho, Hf2, Hm2⟩
  ihave Ho := (due_eq (F := F) c hn2) $$ Ho
  iapply (wp_RS X W K ιs c 3 t.val (by omega) (snd_eq (sem1_eq t).2.2.2) (rcv_eq (sem1_eq t).2.2.2) (off16_eq c t).2 (slot1_eq t).2.2.2.1 (slot1_eq t).2.2.2.2 (off18_eq c t).2 (dev_eq (devC1_eq c).2.2.2) rfl (cndR_eq t)
    (snd_eq (sem1'_eq t).2.2.2) (rcv_eq (sem1'_eq t).2.2.2) (off22_eq c t).2 (slot1'_eq t).2.2.2 (dev_eq (devS1_eq c).2.2.2)) $$ [Ho Hf3 Hm3]
  · iframe He Ho Hf3 Hm3
  iintro ⟨Ho, Hf3, Hm3⟩
  ihave Ho := (due_eq (F := F) c hn3) $$ Ho
  iapply (ret_keep c _)
  iframe He Ho Hf0 Hm0 Hf1 Hm1 Hf2 Hm2 Hf3 Hm3

theorem wp_loop1 {k : Unit → PrgT F} :
    inv1 X W K ιs c 0 ⊢ iprop((inv1 X W K ιs c 14 -∗ WP c (k ⟨⟩) Q) -∗ WP c (Scf.Loop.for k0_t1_loop k0_t1_ok ⟨⟩ (fun t _ => trip1 c t) >>= k) Q) := by
  have h := Scf.wp_for_bind frame (wpE (defs₀ (F := F)) 𝒱₀ (c.tc : Thread nD τ) none) Set.univ k0_t1_loop.lb k0_t1_loop.ub k0_t1_loop.st k0_t1_ok ⟨⟩ (fun t _ => trip1 c t)
    (fun n (_ : PUnit) => inv1 X W K ιs c n) (fun t _ => wp_trip1 X W K ιs c t) (kk := k) (Q := Q)
  iintro HI Hk
  iapply h $$ HI
  iintro %acc HI
  iapply Hk
  iexact HI

/-- What holds before gathering trip `u`. -/
def inv2 (u : ℕ) : sProp (MT nD τ sig ℕ (Elt F) ℕ UU ℕ) :=
  iprop(env X W K ιs ∗ due c (tC 0 (15 + u)) ∗ four fun r => iprop(fly c r (15 + u) ∗ gath X W c r u))

theorem wp_trip2 {a : F .f32} (ha : a = scl X W c) (t : Fin k0_t2_loop.trips) : inv2 X W K ιs c t.val ⊢ WP c (trip2 a c t) (fun _ => inv2 X W K ιs c (t.val + 1)) := by
  have ht : t.val < 14 := t.isLt
  obtain ⟨hn0, hn1, hn2, hn3⟩ := tS_next ⟨16 + t.val, by omega⟩ (by show 16 + t.val ≠ 0; omega) (by show 16 + t.val ≠ 15; omega)
  replace hn0 : tS (0 : Fin 4).val (16 + t.val) + 1 = tC (1 : Fin 4).val (15 + t.val) := hn0.trans (congrArg (tC 1) (by show 16 + t.val - 1 = _; omega))
  replace hn1 : tS (1 : Fin 4).val (16 + t.val) + 1 = tC (2 : Fin 4).val (15 + t.val) := hn1.trans (congrArg (tC 2) (by show 16 + t.val - 1 = _; omega))
  replace hn2 : tS (2 : Fin 4).val (16 + t.val) + 1 = tC (3 : Fin 4).val (15 + t.val) := hn2.trans (congrArg (tC 3) (by show 16 + t.val - 1 = _; omega))
  replace hn3 : tS (3 : Fin 4).val (16 + t.val) + 1 = tC 0 (15 + (t.val + 1)) := hn3.trans (congrArg (tC 0) (by show 16 + t.val = _; omega))
  have e15 : t.val + 15 = 15 + t.val := by omega
  have e16 : t.val + 16 = 16 + t.val := by omega
  have hs := sem2_eq t; have hs' := sem2'_eq t; have hb := slot2_eq t; have hb' := slot2'_eq t
  have p40 := off40_eq c t; have p48 := off48_eq c t; have p43 := off43_eq c t; have p51 := off51_eq c t; have p46 := off46_eq c t; have p54 := off54_eq c t
  rw [e15] at hs hb p40 p48
  rw [e16] at hs' hb' p43 p51 p46 p54
  unfold inv2 four
  iintro ⟨#He, Ho, ⟨Hf0, Hm0⟩, ⟨Hf1, Hm1⟩, ⟨Hf2, Hm2⟩, ⟨Hf3, Hm3⟩⟩
  unfold trip2
  iapply (wp_AG X W K ιs c 0 t.val (by omega) ha (snd_eq hs.1) (rcv_eq hs.1) p40.1 hb.1.1 hb.1.2 p43.1 (cond_eq t).1 (fun _ => dev_eq (devC3_eq c).1) rfl
    (snd_eq hs'.1) (rcv_eq hs'.1) p46.1 hb'.1 (dev_eq (devS3_eq c).1)) $$ [Ho Hf0 Hm0]
  · iframe He Ho Hf0 Hm0
  iintro ⟨Ho, Hf0, Hm0⟩
  ihave Ho := (due_eq (F := F) c hn0) $$ Ho
  iapply (wp_AG X W K ιs c 1 t.val (by omega) ha (snd_eq hs.2.1) (rcv_eq hs.2.1) p48.1 hb.2.1.1 hb.2.1.2 p51.1 (cond_eq t).2.1 (fun _ => dev_eq (devC3_eq c).2.1) rfl
    (snd_eq hs'.2.1) (rcv_eq hs'.2.1) p54.1 hb'.2.1 (dev_eq (devS3_eq c).2.1)) $$ [Ho Hf1 Hm1]
  · iframe He Ho Hf1 Hm1
  iintro ⟨Ho, Hf1, Hm1⟩
  ihave Ho := (due_eq (F := F) c hn1) $$ Ho
  iapply (wp_AG X W K ιs c 2 t.val (by omega) ha (snd_eq hs.2.2.1) (rcv_eq hs.2.2.1) p40.2 hb.2.2.1.1 hb.2.2.1.2 p43.2 (cond_eq t).2.2.1 (fun _ => dev_eq (devC3_eq c).2.2.1) rfl
    (snd_eq hs'.2.2.1) (rcv_eq hs'.2.2.1) p46.2 hb'.2.2.1 (dev_eq (devS3_eq c).2.2.1)) $$ [Ho Hf2 Hm2]
  · iframe He Ho Hf2 Hm2
  iintro ⟨Ho, Hf2, Hm2⟩
  ihave Ho := (due_eq (F := F) c hn2) $$ Ho
  iapply (wp_AG X W K ιs c 3 t.val (by omega) ha (snd_eq hs.2.2.2) (rcv_eq hs.2.2.2) p48.2 hb.2.2.2.1 hb.2.2.2.2 p51.2 (cond_eq t).2.2.2 (fun _ => dev_eq (devC3_eq c).2.2.2) rfl
    (snd_eq hs'.2.2.2) (rcv_eq hs'.2.2.2) p54.2 hb'.2.2.2 (dev_eq (devS3_eq c).2.2.2)) $$ [Ho Hf3 Hm3]
  · iframe He Ho Hf3 Hm3
  iintro ⟨Ho, Hf3, Hm3⟩
  ihave Ho := (due_eq (F := F) c hn3) $$ Ho
  iapply (ret_keep c _)
  iframe He Ho Hf0 Hm0 Hf1 Hm1 Hf2 Hm2 Hf3 Hm3

theorem wp_loop2 {a : F .f32} (ha : a = scl X W c) {k : Unit → PrgT F} :
    inv2 X W K ιs c 0 ⊢ iprop((inv2 X W K ιs c 14 -∗ WP c (k ⟨⟩) Q) -∗ WP c (Scf.Loop.for k0_t2_loop k0_t2_ok ⟨⟩ (fun t _ => trip2 a c t) >>= k) Q) := by
  have h := Scf.wp_for_bind frame (wpE (defs₀ (F := F)) 𝒱₀ (c.tc : Thread nD τ) none) Set.univ k0_t2_loop.lb k0_t2_loop.ub k0_t2_loop.st k0_t2_ok ⟨⟩ (fun t _ => trip2 a c t)
    (fun n (_ : PUnit) => inv2 X W K ιs c n) (fun t _ => wp_trip2 X W K ιs c ha t) (kk := k) (Q := Q)
  iintro HI Hk
  iapply h $$ HI
  iintro %acc HI
  iapply Hk
  iexact HI

/-- The four rings' sums done, the strips in the order of the hops. -/
def mid (r : Fin 4) : sProp (MT nD τ sig ℕ (Elt F) ℕ UU ℕ) :=
  iprop(rest c r 15 13 ∗ owns (c.tc : Thread nD τ) (sO r 15 c) fullShare (psum X W r 15 c) ∗ sums X W c r 15)

theorem wp_seg2 (k : PrgT F) : inv1 X W K ιs c 14 ⊢ iprop(((due c 122 ∗ four fun r => mid X W c r) -∗ WP c k Q) -∗ WP c (seg2 c k) Q) := by
  unfold inv1 four mid
  iintro ⟨#He, Ho, ⟨Hf0, Hm0⟩, ⟨Hf1, Hm1⟩, ⟨Hf2, Hm2⟩, ⟨Hf3, Hm3⟩⟩ Hk
  unfold seg2 pRT
  iapply (wp_RT X W K ιs c 0 14 (by omega) rfl rfl (off3_eq c 14).1 rfl rfl (off33_eq c 14).1 (dev_eq (devC2_eq c).1) rfl) $$ [Ho Hf0 Hm0]
  · iframe He Ho Hf0 Hm0
  iintro ⟨Ho, Hf0, Hm0⟩
  ihave Ho := (due_eq (F := F) c (show tC ((0 : Fin 4)).val 14 + 1 = tC ((1 : Fin 4)).val 14 from rfl)) $$ Ho
  iapply (wp_RT X W K ιs c 1 14 (by omega) rfl rfl (off4_eq c 14).1 rfl rfl (off34_eq c 14).1 (dev_eq (devC2_eq c).2.1) rfl) $$ [Ho Hf1 Hm1]
  · iframe He Ho Hf1 Hm1
  iintro ⟨Ho, Hf1, Hm1⟩
  ihave Ho := (due_eq (F := F) c (show tC ((1 : Fin 4)).val 14 + 1 = tC ((2 : Fin 4)).val 14 from rfl)) $$ Ho
  iapply (wp_RT X W K ιs c 2 14 (by omega) rfl rfl (off3_eq c 14).2 rfl rfl (off33_eq c 14).2 (dev_eq (devC2_eq c).2.2.1) rfl) $$ [Ho Hf2 Hm2]
  · iframe He Ho Hf2 Hm2
  iintro ⟨Ho, Hf2, Hm2⟩
  ihave Ho := (due_eq (F := F) c (show tC ((2 : Fin 4)).val 14 + 1 = tC ((3 : Fin 4)).val 14 from rfl)) $$ Ho
  iapply (wp_RT X W K ιs c 3 14 (by omega) rfl rfl (off4_eq c 14).2 rfl rfl (off34_eq c 14).2 (dev_eq (devC2_eq c).2.2.2) rfl) $$ [Ho Hf3 Hm3]
  · iframe He Ho Hf3 Hm3
  iintro ⟨Ho, Hf3, Hm3⟩
  ihave Ho := (due_eq (F := F) c (show tC ((3 : Fin 4)).val 14 + 1 = 122 from rfl)) $$ Ho
  iapply Hk
  iframe Ho Hf0 Hm0 Hf1 Hm1 Hf2 Hm2 Hf3 Hm3

/-- The result's strips beside the owned one, not yet filled. -/
def blank (r : Fin 4) : sProp (MT nD τ sig ℕ (Elt F) ℕ UU ℕ) := bigSep (Finset.range 15) fun j => any c (sO r j c)

theorem wp_seg4 {a : F .f32} (ha : a = scl X W c) (k : PrgT F) :
    iprop(env X W K ιs ∗ due c 126 ∗ four fun r => iprop(mid X W c r ∗ bigSep (Finset.range 16) fun j => any c (sQ r j c)))
      ⊢ iprop(((inv2 X W K ιs c 0 ∗ four fun r => owns (c.tc : Thread nD τ) (sO r 15 c) fullShare (outS X W r 15 c)) -∗ WP c k Q) -∗ WP c (seg4 a c k) Q) := by
  have hq : ∀ r : Fin 4, (bigSep (Finset.range 16) fun j => (any c (sQ r j c) : sProp 𝕄)) ⊢ iprop(any c (sQ r 15 c) ∗ bigSep ((Finset.range 16).erase ((15 + 0) % 16)) fun j => any c (sQ r j c)) := fun r =>
    Entails.of_eq (show (bigSep (Finset.range 16) fun j => (any c (sQ r j c) : sProp 𝕄)) = iprop(any c (sQ r 15 c) ∗ bigSep ((Finset.range 16).erase 15) fun j => any c (sQ r j c)) from bigSep_erase (Finset.mem_range.mpr (by decide)))
  have hg : ∀ r : Fin 4, iprop(sums X W c r 15 ∗ bigSep ((Finset.range 16).erase ((15 + 0) % 16)) fun j => any c (sQ r j c)) ⊢ (gath X W c r 0 : sProp 𝕄) := by
    intro r
    unfold sums gath
    iintro ⟨⟨Ha, Hb⟩, Hc⟩
    isplitl [Hb]; · iexact Hb
    isplitl [Ha]; · iexact Ha
    iexact Hc
  unfold inv2 four mid
  iintro ⟨#He, Ho, ⟨⟨Hr0, Hp0, Hm0⟩, Hq0⟩, ⟨⟨Hr1, Hp1, Hm1⟩, Hq1⟩, ⟨⟨Hr2, Hp2, Hm2⟩, Hq2⟩, ⟨⟨Hr3, Hp3, Hm3⟩, Hq3⟩⟩ Hk
  unfold seg4
  ihave Hq0 := (hq 0) $$ Hq0
  icases Hq0 with ⟨Hx0, Hq0⟩
  iapply (wp_quant X W c 0 ha (off37_eq c).1) $$ [Hp0 Hx0]
  · iframe Hp0 Hx0
  iintro ⟨Hp0, Hx0⟩
  ihave Hm0 := (hg 0) $$ [Hm0 Hq0]
  · iframe Hm0 Hq0
  ihave Hq1 := (hq 1) $$ Hq1
  icases Hq1 with ⟨Hx1, Hq1⟩
  iapply (wp_quant X W c 1 ha (off38_eq c).1) $$ [Hp1 Hx1]
  · iframe Hp1 Hx1
  iintro ⟨Hp1, Hx1⟩
  ihave Hm1 := (hg 1) $$ [Hm1 Hq1]
  · iframe Hm1 Hq1
  ihave Hq2 := (hq 2) $$ Hq2
  icases Hq2 with ⟨Hx2, Hq2⟩
  iapply (wp_quant X W c 2 ha (off37_eq c).2) $$ [Hp2 Hx2]
  · iframe Hp2 Hx2
  iintro ⟨Hp2, Hx2⟩
  ihave Hm2 := (hg 2) $$ [Hm2 Hq2]
  · iframe Hm2 Hq2
  ihave Hq3 := (hq 3) $$ Hq3
  icases Hq3 with ⟨Hx3, Hq3⟩
  iapply (wp_quant X W c 3 ha (off38_eq c).2) $$ [Hp3 Hx3]
  · iframe Hp3 Hx3
  iintro ⟨Hp3, Hx3⟩
  ihave Hm3 := (hg 3) $$ [Hm3 Hq3]
  · iframe Hm3 Hq3
  iapply (wp_S15 X W K ιs c 0 rfl rfl rfl (off3_eq c 15).1 rfl (dev_eq (devS2_eq c).1)) $$ [Ho Hr0 Hx0]
  · isplitr; · iexact He
    isplitl [Ho]; · iapply (due_eq (F := F) c (show 126 = tS ((0 : Fin 4)).val 15 from rfl)) $$ Ho
    iframe Hr0 Hx0
  iintro ⟨Ho, Hf0⟩
  ihave Ho := (due_eq (F := F) c (show tS ((0 : Fin 4)).val 15 + 1 = 127 from rfl)) $$ Ho
  iapply (wp_S15 X W K ιs c 1 rfl rfl rfl (off4_eq c 15).1 rfl (dev_eq (devS2_eq c).2.1)) $$ [Ho Hr1 Hx1]
  · isplitr; · iexact He
    isplitl [Ho]; · iapply (due_eq (F := F) c (show 127 = tS ((1 : Fin 4)).val 15 from rfl)) $$ Ho
    iframe Hr1 Hx1
  iintro ⟨Ho, Hf1⟩
  ihave Ho := (due_eq (F := F) c (show tS ((1 : Fin 4)).val 15 + 1 = 128 from rfl)) $$ Ho
  iapply (wp_S15 X W K ιs c 2 rfl rfl rfl (off3_eq c 15).2 rfl (dev_eq (devS2_eq c).2.2.1)) $$ [Ho Hr2 Hx2]
  · isplitr; · iexact He
    isplitl [Ho]; · iapply (due_eq (F := F) c (show 128 = tS ((2 : Fin 4)).val 15 from rfl)) $$ Ho
    iframe Hr2 Hx2
  iintro ⟨Ho, Hf2⟩
  ihave Ho := (due_eq (F := F) c (show tS ((2 : Fin 4)).val 15 + 1 = 129 from rfl)) $$ Ho
  iapply (wp_S15 X W K ιs c 3 rfl rfl rfl (off4_eq c 15).2 rfl (dev_eq (devS2_eq c).2.2.2)) $$ [Ho Hr3 Hx3]
  · isplitr; · iexact He
    isplitl [Ho]; · iapply (due_eq (F := F) c (show 129 = tS ((3 : Fin 4)).val 15 from rfl)) $$ Ho
    iframe Hr3 Hx3
  iintro ⟨Ho, Hf3⟩
  ihave Ho := (due_eq (F := F) c (show tS ((3 : Fin 4)).val 15 + 1 = 130 from rfl)) $$ Ho
  iapply Hk
  isplitr [Hp0 Hp1 Hp2 Hp3]
  · isplitr; · iexact He
    isplitl [Ho]; · iapply (due_eq (F := F) c (show 130 = tC 0 (15 + 0) from rfl)) $$ Ho
    iframe Hf0 Hm0 Hf1 Hm1 Hf2 Hm2 Hf3 Hm3
  iframe Hp0 Hp1 Hp2 Hp3

theorem due_end (i j : ℕ) (hi : 242 ≤ i) (hj : 242 ≤ j) : (due c i : sProp 𝕄) ⊢ due c j := by
  have h : ∀ e : Ev, tm e < 242 := by decide +kernel
  unfold due
  rw [owed_end c i fun e => lt_of_lt_of_le (h e) hi, owed_end c j fun e => lt_of_lt_of_le (h e) hj]

/-- A ring at its end. -/
def fin (r : Fin 4) : sProp (MT nD τ sig ℕ (Elt F) ℕ UU ℕ) :=
  iprop(rest c r 30 28 ∗ (bigSep (Finset.range 15) fun j => owns (c.tc : Thread nD τ) (sO r j c) fullShare (outS X W r j c)) ∗ (bigSep (Finset.range 16) fun j => any c (sQ r j c)))

theorem wp_seg5 {a : F .f32} (ha : a = scl X W c) (k : PrgT F) :
    inv2 X W K ιs c 14 ⊢ iprop(((due c 242 ∗ four fun r => fin X W c r) -∗ WP c k Q) -∗ WP c (seg5 a c k) Q) := by
  unfold inv2 four fin
  iintro ⟨#He, Ho, ⟨Hf0, Hm0⟩, ⟨Hf1, Hm1⟩, ⟨Hf2, Hm2⟩, ⟨Hf3, Hm3⟩⟩ Hk
  unfold seg5
  iapply (wp_AT X W K ιs c 0 ha rfl rfl (off3_eq c 29).1 rfl (off33_eq c 29).1) $$ [Ho Hf0 Hm0]
  · iframe He Ho Hf0 Hm0
  iintro ⟨Ho, Hf0, Hm0, Hq0⟩
  ihave Ho := (due_end (F := F) c _ (tC ((1 : Fin 4)).val 29) (by decide) (by decide)) $$ Ho
  iapply (wp_AT X W K ιs c 1 ha rfl rfl (off4_eq c 29).1 rfl (off34_eq c 29).1) $$ [Ho Hf1 Hm1]
  · iframe He Ho Hf1 Hm1
  iintro ⟨Ho, Hf1, Hm1, Hq1⟩
  ihave Ho := (due_end (F := F) c _ (tC ((2 : Fin 4)).val 29) (by decide) (by decide)) $$ Ho
  iapply (wp_AT X W K ιs c 2 ha rfl rfl (off3_eq c 29).2 rfl (off33_eq c 29).2) $$ [Ho Hf2 Hm2]
  · iframe He Ho Hf2 Hm2
  iintro ⟨Ho, Hf2, Hm2, Hq2⟩
  ihave Ho := (due_end (F := F) c _ (tC ((3 : Fin 4)).val 29) (by decide) (by decide)) $$ Ho
  iapply (wp_AT X W K ιs c 3 ha rfl rfl (off4_eq c 29).2 rfl (off34_eq c 29).2) $$ [Ho Hf3 Hm3]
  · iframe He Ho Hf3 Hm3
  iintro ⟨Ho, Hf3, Hm3, Hq3⟩
  ihave Ho := (due_end (F := F) c _ (242) (by decide) (by decide)) $$ Ho
  iapply Hk
  iframe Ho Hf0 Hm0 Hq0 Hf1 Hm1 Hq1 Hf2 Hm2 Hq2 Hf3 Hm3 Hq3

end

end Cert.AR
-- ==== Proof.Exchange.lean ====
/-
The largest magnitude over the devices, by four exchanges.
-/
module

public import proofs.«01_k».proof.Proof.Trips

@[expose] public section

set_option maxRecDepth 20000

namespace Cert.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (readerAt released writeTok slotInv)

variable {F : FTy → Type} [FloatOps F]

noncomputable section

local notation "𝕄" => MT nD τ sig ℕ (Elt F) ℕ UU ℕ

variable (X : Dev nD → Vec F S4096x256 .f32) (W : Dev nD → Vec F S256x2048 .f32) (K : Dev nD × Cell → ℕ) (ιs : KS → ℕ) (c : Dev nD)

variable {Q : PUnit → sProp (MT nD τ sig ℕ (Elt F) ℕ UU ℕ)}

theorem own_in {e : EltTy} {s : Shape} (M : Memref sig .tc .vmem s e) {o n : Fin s.rank → ℕ} {h : ∀ a, o a + n a ≤ s.size a} {o' n' : Fin s.rank → ℕ}
    {h' : ∀ a, o' a + n' a ≤ n a} {p : Fin s.rank → ℕ} {hp : ∀ a, p a + n' a ≤ s.size a} (he : p = fun a => o a + o' a) (q : PosShare TreeShare) (Y : (⟨s.rank, n'⟩ : Shape).Idx → Elt F e) :
    (owns (c.tc : Thread nD τ) (M.slice ((Rect.unit (s := s) o n h).within (Rect.unit (s := (Rect.unit (s := s) o n h).shape) o' n' h') (fun _ => rfl)) (fun _ => rfl)) q Y : sProp 𝕄)
      = owns (c.tc : Thread nD τ) (M.slice (Rect.unit (s := s) p n' hp) (fun _ => rfl)) q Y := by
  subst he; rfl

theorem unit_in {s : Shape} {o n : Fin s.rank → ℕ} {h : ∀ a, o a + n a ≤ s.size a} {o' n' : Fin s.rank → ℕ}
    {h' : ∀ a, o' a + n' a ≤ n a} {p : Fin s.rank → ℕ} {hp : ∀ a, p a + n' a ≤ s.size a} (he : p = fun a => o a + o' a) :
    Rect.unit (s := s) p n' hp = (Rect.unit (s := s) o n h).within (Rect.unit (s := (Rect.unit (s := s) o n h).shape) o' n' h') (fun _ => rfl) := by
  subst he; rfl

/-- A load from a rectangle inside one that holds a single value. -/
theorem wp_loadC {s : Shape} {e : EltTy} (M : Memref sig .tc .vmem s e) (R : Rect s) (hR : ∀ a, R.stride a = 1) (r : Rect R.shape) (q : PosShare TreeShare) (a : Elt F e)
    {r' : Rect s} (hr' : r' = R.within r hR) {hl : M.view.LoadsAt r'.toLoadRect} {k : (r'.toLoadRect.shape.Idx → Elt F e) → PrgT F} :
    (owns (c.tc : Thread nD τ) (M.slice R hR) q (fun _ => a) : sProp 𝕄)
      ⊢ iprop((owns (c.tc : Thread nD τ) (M.slice R hR) q (fun _ => a) -∗ WP c (k fun _ => a) Q) -∗ WP c (.op (.load M r'.toLoadRect hl) k) Q) := by
  subst hr'; exact wp_loadS 𝒱₀ c none M R hR r q (fun _ => a) rfl

theorem wp_put (v : Vec F S8x128 .f32) (k : PrgT F) :
    (any c bM : sProp 𝕄) ⊢ iprop((owns (c.tc : Thread nD τ) bM fullShare v -∗ WP c k Q) -∗ WP c (pPut v k) Q) := by
  have hz : ∀ a : Fin 2, (![0, 0] : Fin 2 → ℕ) a = 0 := by decide
  have hw : ∀ Y : Vec F S8x128 .f32, (owns (c.tc : Thread nD τ) (bM.slice (Rect.unit (s := S8x128) ![0, 0] S8x128.size inb_S8x128_S8x128_0_0) (fun _ => rfl)) fullShare Y : sProp 𝕄)
      = owns (c.tc : Thread nD τ) bM fullShare Y := fun Y => own_full c bM ![0, 0] hz inb_S8x128_S8x128_0_0 fullShare Y
  iintro ⟨%Y, H⟩ Hk
  ihave H := (Entails.of_eq (hw Y).symm) $$ H
  unfold pPut
  iapply (wp_loadO 𝒱₀ c none bM (Rect.unit (s := S8x128) ![0, 0] S8x128.size inb_S8x128_S8x128_0_0) (fun _ => rfl) fullShare Y) $$ H
  iintro H
  iapply (wp_storeO 𝒱₀ c none bM (Rect.unit (s := S8x128) ![0, 0] S8x128.size inb_S8x128_S8x128_0_0) (fun _ => rfl) Y v) $$ H
  iintro H
  iapply Hk
  iapply (Entails.of_eq (hw v)) $$ H

/-- What a device needs for exchange `k`. -/
def bfR (k : Fin 4) : sProp (MT nD τ sig ℕ (Elt F) ℕ UU ℕ) :=
  iprop(atPos ER (gcell c (cBfs k)) 0 ∅ 0 ∗ atPos ER (gcell c (cBfr k)) 0 ∅ 0 ∗ dutyTok ER (gcell c (cBfs k)) 0 0 ∗ dutyTok ER (gcell (px k.val c) (cBfr k)) 0 0
    ∗ writeTok ES (px k.val c, .inr k) 1 ∗ cred (tallyAt (gcell c (cBfr k)) 0 nB))
/-- What it has after. -/
def bfD (k : Fin 4) : sProp (MT nD τ sig ℕ (Elt F) ℕ UU ℕ) :=
  iprop(atPos ER (gcell c (cBfs k)) 1 ∅ 0 ∗ atPos ER (gcell c (cBfr k)) 1 ∅ 0 ∗ any c (slotB k))

theorem bfs_dut (d : Dev nD) (k : Fin 4) : (Rd X W).duties (gcell d (cBfs k)) 0 = {0} := by rw [duties_eq]; rfl
theorem bfr_dut (d : Dev nD) (k : Fin 4) : (Rd X W).duties (gcell d (cBfr k)) 0 = {0} := by rw [duties_eq]; rfl

theorem slotB_open (k : Fin 4) (a : F .f32) :
    (owns (c.tc : Thread nD τ) (slotB k) fullShare (fun _ => a) : sProp 𝕄) = owns (c.tc : Thread nD τ) (gM.slice (gR k) (fun _ => rfl)) fullShare (fun _ => a) :=
  own_squeeze c (gM.slice (gR k) (fun _ => rfl)) squeezes_S1x8x128_S8x128 fullShare (fun _ => a)

set_option maxHeartbeats 1000000 in
/-- One exchange. -/
theorem wp_bf (k : Fin 4) {kk : Fin 1 → ℕ} {hk : F1 kk} {o : Fin 3 → ℕ} {h : FG o} {h' : FE o} {d : Dev nD} (hkk : kk = ![k.val]) (hoo : o = ![k.val, 0, 0]) (hd : d = px k.val c)
    (P : Vec F S1x1x1 .f32 → PrgT F) :
    iprop(env X W K ιs ∗ due c (122 + k.val) ∗ bfR c k ∗ facts (px k.val c) ∗ owns (c.tc : Thread nD τ) bM fullShare (fun _ => amx X W k.val c))
      ⊢ iprop(((due c (122 + k.val + 1) ∗ bfD c k ∗ any c bM) -∗ WP c (P fun _ => amx X W k.val (px k.val c)) Q) -∗ WP c (pBf kk hk o h h' d P) Q) := by
  subst hkk hoo hd
  unfold due bfR bfD
  iintro ⟨#He, ⟨%V, Ho⟩, ⟨Has, Har, Hts, Htr, Hw, Hcr⟩, Hf, Hb⟩ Hk
  ihave #Hsl := (env_slot X W K ιs (px k.val c) (.inr k)) $$ He
  ihave #Hc1 := (env_cell X W K ιs c (cBfs k)) $$ He
  ihave #Hc2 := (env_cell X W K ιs c (cBfr k)) $$ He
  ihave #Hc3 := (env_cell X W K ιs (px k.val c) (cBfr k)) $$ He
  ihave #Hr1 := (env_reached X W K ιs c (cBfs k)) $$ He
  ihave #Hr3 := (env_reached X W K ιs (px k.val c) (cBfr k)) $$ He
  ihave #Hl := (env_lev X W K ιs) $$ He
  ihave #Hrel := (show (facts (px k.val c) : sProp 𝕄) ⊢ released ES (px k.val c, .inr k) 1 from by unfold facts; exact bigSep_elim (Finset.mem_univ (Sum.inr k : Slot))) $$ Hf
  imod (Release.slot_take (E := ES) (k := (px k.val c, .inr k)) (S := slotP (px k.val c) (.inr k)) (Es := Set.univ) (ι := ιs (px k.val c, .inr k)) (Set.mem_univ _) 1) $$ [Hw] with Hs
  · iframe Hsl Hrel Hw
  ihave Hs := (Entails.of_eq (show (slotP (px k.val c) (.inr k) : sProp 𝕄) = any (px k.val c) (slotB k) from rfl)) $$ Hs
  icases Hs with ⟨%Z, Hs⟩
  unfold owns
  icases Hs with ⟨%fd, -, Hd⟩
  icases Hb with ⟨%fs, %hfs, Hb⟩
  have hpa : (bM.view.loc (c.tc : Thread nD τ) ↦[bM.view.set]{fullShare} fs : sProp 𝕄) ⊢ (Rd X W).payload (gcell c (cBfs k)) 0 0 := by
    rw [payload_eq]
    exact (hfs ▸ owns_intro (c.tc : Thread nD τ) bM fullShare fs).trans (any_of c bM _)
  have hpb0 : ((slotB k).view.loc ((px k.val c).tc : Thread nD τ) ↦[(slotB k).view.set]{fullShare} ((slotB k).view.write (Elt F) fd (bM.view.read (Elt F) fs) Finset.univ) : sProp 𝕄)
      ⊢ owns ((px k.val c).tc : Thread nD τ) (slotB k) fullShare (fun _ => amx X W k.val c) :=
    BIBase.Entails.trans (owns_intro ((px k.val c).tc : Thread nD τ) (slotB k) fullShare _) (Entails.of_eq (congrArg _ ((View.read_write_univ _ _).trans hfs)))
  have hpb : (iprop(((slotB k).view.loc ((px k.val c).tc : Thread nD τ) ↦[(slotB k).view.set]{fullShare} ((slotB k).view.write (Elt F) fd (bM.view.read (Elt F) fs) Finset.univ)) ∗ emp) : sProp 𝕄)
      ⊢ (Rd X W).payload (gcell (px k.val c) (cBfr k)) 0 0 := by
    rw [payload_eq]
    refine Laws.sep_emp.mp.trans (hpb0.trans ?_)
    show _ ⊢ bfP X W (px k.val c) k
    unfold bfP; rw [px_px]
  unfold pBf pSend
  iapply (Rounds.wp_send_pointsTo_with 𝒱₀ ER (Rd X W) (c.tc : Thread nD τ) none (c' := ((px k.val c).tc : Thread nD τ)) (src := bM) (dst := slotB k)
    (κ₁ := K (c, cBfs k)) (κ₂ := K (px k.val c, cBfr k)) (r₁ := 0) (r₂ := 0) (d₁ := 0) (d₂ := 0) (q := fullShare) (fs := fs) (fd := fd) (F := iprop(emp))
    (sS := .dma (bfsQ k)) (sem := .dma (bfrQ k))
    ((bfs_dut X W c k).symm ▸ Finset.mem_singleton_self 0) ((bfr_dut X W (px k.val c) k).symm ▸ Finset.mem_singleton_self 0) 0 0 nB rfl (amount_eq X W c (cBfs k) 0 0) (amount_eq X W (px k.val c) (cBfr k) 0 0)
    (owed c (122 + k.val + 1)) (owed_at c (.inr (.inr (.inr k)))) (W := V) hpa hpb) $$ [Ho Hts Htr Hb Hd]
  · iframe Hc1 Hc3 Hr1 Hr3 Ho Hts Htr Hb Hd
  iintro ⟨Hcs, Ho⟩
  unfold pWaits
  iapply (Rounds.wp_wait_rest_token 𝒱₀ ER (Rd X W) (c.tc : Thread nD τ) none (κ := K (c, cBfs k))
    (wpE_waitDma2_eq 𝒱₀ (c.tc : Thread nD τ) none Set.univ) (Set.mem_univ _) 0 (O := owed c (122 + k.val + 1)) (W := V) (R := 0) (m := 0) (T := ∅)
    (by rw [expect_one X W c (cBfs k) 0 0 rfl, Nat.zero_add]; rfl)) $$ [Has Hcs Ho]
  · isplitr; · iexact Hc1
    isplitl [Hcs]; · iexact Hcs
    isplitl [Ho]; · iexact Ho
    isplitr
    · iapply (mayWait c (csem (cBfs k)) 0 (122 + k.val + 1) (by decide) (by rw [lv_gcell]; exact Nat.zero_le _)) $$ Hl
    iexact Has
  iintro ⟨Ho, Has, -, Hp⟩
  ihave Hp := (Entails.of_eq (show (bigSep ((Rd X W).duties (c.tc, .dma (bfsQ k)) 0 \ ∅) fun d => (Rd X W).payload (c.tc, .dma (bfsQ k)) 0 d : sProp 𝕄) = any c bM by
    rw [bfs_dut X W c k, Finset.sdiff_empty, bigSep_singleton]; exact payload_eq X W c (cBfs k) 0 0)) $$ Hp
  iapply (Rounds.wp_wait_rest_token 𝒱₀ ER (Rd X W) (c.tc : Thread nD τ) none (κ := K (c, cBfr k))
    (wpE_waitDma2_eq 𝒱₀ (c.tc : Thread nD τ) none Set.univ) (Set.mem_univ _) 0 (O := owed c (122 + k.val + 1)) (R := 0) (m := 0) (T := ∅)
    (by rw [expect_one X W c (cBfr k) 0 0 rfl, Nat.zero_add]; rfl)) $$ [Har Hcr Ho]
  · isplitr; · iexact Hc2
    isplitl [Hcr]; · iexact Hcr
    isplitl [Ho]; · iexact Ho
    isplitr
    · iapply (mayWait c (csem (cBfr k)) 0 (122 + k.val + 1) (by decide) (by rw [lv_gcell]; show 123 + k.val ≤ 122 + k.val + 1; omega)) $$ Hl
    iexact Har
  iintro ⟨Ho, Har, -, Hp'⟩
  ihave Hp' := (Entails.of_eq (show (bigSep ((Rd X W).duties (c.tc, .dma (bfrQ k)) 0 \ ∅) fun d => (Rd X W).payload (c.tc, .dma (bfrQ k)) 0 d : sProp 𝕄) = owns (c.tc : Thread nD τ) (slotB k) fullShare (fun _ => amx X W k.val (px k.val c)) by
    rw [bfr_dut X W c k, Finset.sdiff_empty, bigSep_singleton]; exact payload_eq X W c (cBfr k) 0 0)) $$ Hp'
  ihave Hp' := (Entails.of_eq (slotB_open c k (amx X W k.val (px k.val c)))) $$ Hp'
  have hfit : ∀ a : Fin 3, (![0, 0, 0] : Fin 3 → ℕ) a + S1x1x1.size a ≤ S1x8x128.size a := by decide
  iapply (wp_loadC c gM (gR k) (fun _ => rfl) (Rect.unit (s := (gR k).shape) ![0, 0, 0] S1x1x1.size hfit) fullShare (amx X W k.val (px k.val c))
    (unit_in (funext fun a => by fin_cases a <;> rfl))) $$ Hp'
  iintro Hp'
  ihave Hp' := (Entails.of_eq (slotB_open c k (amx X W k.val (px k.val c))).symm) $$ Hp'
  iapply Hk
  isplitl [Ho]; · iexists _; iexact Ho
  isplitr [Hp]
  · iframe Has Har
    iapply (any_of c (slotB k) _) $$ Hp'
  iexact Hp

/-- Two strips, one above the other, are one. -/
theorem own_half (p : ℕ) (h : ∀ a : Fin 2, (![p, 0] : Fin 2 → ℕ) a + S128x2048.size a ≤ S4096x2048.size a) (h0 : FS ![p, 0]) (h1 : FS ![p + 64, 0]) (Y Z : Vec F S64x2048 .f32) :
    (iprop(owns (c.tc : Thread nD τ) (strip oM ![p, 0] h0) fullShare Y ∗ owns (c.tc : Thread nD τ) (strip oM ![p + 64, 0] h1) fullShare Z) : sProp 𝕄)
      ⊣⊢ owns (c.tc : Thread nD τ) (oM.slice (Rect.unit (s := S4096x2048) ![p, 0] S128x2048.size h) (fun _ => rfl)) fullShare (half Y Z) := by
  have hf : ∀ (t : Fin 2) (a : Fin 2), (![64 * t.val, 0] : Fin 2 → ℕ) a + S64x2048.size a ≤ S128x2048.size a := by
    intro t a; fin_cases a
    · show 64 * t.val + 64 ≤ 128; omega
    · show 0 + 2048 ≤ 2048; omega
  have hd : ∀ t t' : Fin 2, t ≠ t' → Disjoint (Rect.unit (s := S128x2048) ![64 * t.val, 0] S64x2048.size (hf t)).set (Rect.unit (s := S128x2048) ![64 * t'.val, 0] S64x2048.size (hf t')).set := by
    intro t t' ht
    refine Rect.unit_disjoint (0 : Fin 2) ?_
    have : t.val ≠ t'.val := fun e => ht (Fin.ext e)
    show 64 * t.val + 64 ≤ 64 * t'.val ∨ 64 * t'.val + 64 ≤ 64 * t.val
    omega
  have hc : (Finset.univ : Finset (Fin 2)).biUnion (fun t => (Rect.unit (s := S128x2048) ![64 * t.val, 0] S64x2048.size (hf t)).set) = Finset.univ :=
    cover_of (fun t : Fin 2 => Rect.unit (s := S128x2048) ![64 * t.val, 0] S64x2048.size (hf t)) fun i => by
      have h0 := (i (0 : Fin 2)).isLt
      have h1 := (i (1 : Fin 2)).isLt
      change (i (0 : Fin 2)).val < 128 at h0
      change (i (1 : Fin 2)).val < 2048 at h1
      refine ⟨⟨(i (0 : Fin 2)).val / 64, by omega⟩, Rect.mem_set_unit.mpr fun a => ?_⟩
      fin_cases a
      · show 64 * ((i (0 : Fin 2)).val / 64) ≤ (i (0 : Fin 2)).val ∧ (i (0 : Fin 2)).val < 64 * ((i (0 : Fin 2)).val / 64) + 64
        omega
      · show 0 ≤ (i (1 : Fin 2)).val ∧ (i (1 : Fin 2)).val < 0 + 2048
        omega
  have key := own_sub c oM (Rect.unit (s := S4096x2048) ![p, 0] S128x2048.size h) (fun _ => rfl) fullShare (fun t : Fin 2 => Rect.unit (s := S128x2048) ![64 * t.val, 0] S64x2048.size (hf t))
    (fun _ _ => rfl) hd hc (half Y Z)
  have e0 : (fun j => half Y Z ((Rect.unit (s := S128x2048) ![64 * (0 : Fin 2).val, 0] S64x2048.size (hf 0)).emb j)) = Y := by
    funext j
    have hj := (j (0 : Fin 2)).isLt
    change (j (0 : Fin 2)).val < 64 at hj
    unfold half
    rw [dif_pos (by rw [Rect.emb_apply]; show 64 * 0 + 1 * (j (0 : Fin 2)).val < 64; omega)]
    refine congrArg Y (funext fun a => Fin.ext ?_)
    show ((Rect.unit (s := S128x2048) ![64 * (0 : Fin 2).val, 0] S64x2048.size (hf 0)).emb j a).val = (j a).val
    rw [Rect.emb_apply]
    fin_cases a
    · show 64 * 0 + 1 * (j (0 : Fin 2)).val = (j (0 : Fin 2)).val; omega
    · show 0 + 1 * (j (1 : Fin 2)).val = (j (1 : Fin 2)).val; omega
  have e1 : (fun j => half Y Z ((Rect.unit (s := S128x2048) ![64 * (1 : Fin 2).val, 0] S64x2048.size (hf 1)).emb j)) = Z := by
    funext j
    have hj := (j (0 : Fin 2)).isLt
    change (j (0 : Fin 2)).val < 64 at hj
    have v0 : ((Rect.unit (s := S128x2048) ![64 * (1 : Fin 2).val, 0] S64x2048.size (hf 1)).emb j (0 : Fin 2)).val = 64 + (j (0 : Fin 2)).val := by
      rw [Rect.emb_apply]; show 64 * 1 + 1 * (j (0 : Fin 2)).val = _; omega
    have v1 : ((Rect.unit (s := S128x2048) ![64 * (1 : Fin 2).val, 0] S64x2048.size (hf 1)).emb j (1 : Fin 2)).val = (j (1 : Fin 2)).val := by
      rw [Rect.emb_apply]; show 0 + 1 * (j (1 : Fin 2)).val = _; omega
    unfold half
    rw [dif_neg (by rw [v0]; omega)]
    refine congrArg Z (funext fun a => Fin.ext ?_)
    fin_cases a
    · show (if (0 : Fin 2) = (0 : Fin 2) then ((Rect.unit (s := S128x2048) ![64 * (1 : Fin 2).val, 0] S64x2048.size (hf 1)).emb j (0 : Fin 2)).val - 64 else ((Rect.unit (s := S128x2048) ![64 * (1 : Fin 2).val, 0] S64x2048.size (hf 1)).emb j (1 : Fin 2)).val) = (j (0 : Fin 2)).val
      rw [if_pos rfl, v0]; omega
    · show (if (1 : Fin 2) = (0 : Fin 2) then ((Rect.unit (s := S128x2048) ![64 * (1 : Fin 2).val, 0] S64x2048.size (hf 1)).emb j (0 : Fin 2)).val - 64 else ((Rect.unit (s := S128x2048) ![64 * (1 : Fin 2).val, 0] S64x2048.size (hf 1)).emb j (1 : Fin 2)).val) = (j (1 : Fin 2)).val
      rw [if_neg (by decide), v1]
  have w0 := own_in (F := F) c oM (o := ![p, 0]) (n := S128x2048.size) (h := h) (o' := ![64 * (0 : Fin 2).val, 0]) (n' := S64x2048.size) (h' := hf 0) (p := ![p, 0]) (hp := h0)
    (funext fun a => by fin_cases a <;> rfl) fullShare Y
  have w1 := own_in (F := F) c oM (o := ![p, 0]) (n := S128x2048.size) (h := h) (o' := ![64 * (1 : Fin 2).val, 0]) (n' := S64x2048.size) (h' := hf 1) (p := ![p + 64, 0]) (hp := h1)
    (funext fun a => by fin_cases a <;> rfl) fullShare Z
  have hb : (bigSep Finset.univ fun t : Fin 2 => (owns (c.tc : Thread nD τ) (oM.slice ((Rect.unit (s := S4096x2048) ![p, 0] S128x2048.size h).within (Rect.unit (s := S128x2048) ![64 * t.val, 0] S64x2048.size (hf t)) (fun _ => rfl)) (fun _ => rfl)) fullShare
      (fun j => half Y Z ((Rect.unit (s := S128x2048) ![64 * t.val, 0] S64x2048.size (hf t)).emb j)) : sProp 𝕄))
      = iprop(owns (c.tc : Thread nD τ) (strip oM ![p, 0] h0) fullShare Y ∗ owns (c.tc : Thread nD τ) (strip oM ![p + 64, 0] h1) fullShare Z) := by
    rw [show (Finset.univ : Finset (Fin 2)) = insert 0 {1} by decide, bigSep_insert (by decide), bigSep_singleton]
    exact congrArg₂ _ ((congrArg (owns _ _ _) e0).trans w0) ((congrArg (owns _ _ _) e1).trans w1)
  rw [← hb]
  exact ⟨key.2, key.1⟩

theorem row_two : ∀ c : Dev nD, row 2 15 c = row 0 15 c + 64 ∧ row 3 15 c = row 1 15 c + 64 := by decide +kernel

theorem fits_half (r : ℕ) (hr : r < 2) (c : Dev nD) : ∀ a : Fin 2, (![row r 15 c, 0] : Fin 2 → ℕ) a + S128x2048.size a ≤ S4096x2048.size a := by
  have := ch_lt r 15 c
  intro a; fin_cases a
  · show 256 * ch r 15 c + ofs r + 128 ≤ 4096
    have : ofs r ≤ 128 := by unfold ofs; split_ifs <;> omega
    omega
  · show 0 + 2048 ≤ 2048; omega

theorem own_pair (r r' : Fin 4) (hr : row r'.val 15 c = row r.val 15 c + 64) {o : Fin 2 → ℕ} {h : ∀ a : Fin 2, o a + S128x2048.size a ≤ S4096x2048.size a} (ho : o = ![row r.val 15 c, 0]) (Y Z : Vec F S64x2048 .f32) :
    (iprop(owns (c.tc : Thread nD τ) (sO r 15 c) fullShare Y ∗ owns (c.tc : Thread nD τ) (sO r' 15 c) fullShare Z) : sProp 𝕄)
      ⊣⊢ owns (c.tc : Thread nD τ) (oM.slice (Rect.unit (s := S4096x2048) o S128x2048.size h) (fun _ => rfl)) fullShare (half Y Z) := by
  subst ho
  have hfs : FS ![row r.val 15 c + 64, 0] := by rw [← hr]; exact fr r'.val 15 c
  have hs : ∀ (p : ℕ) (hp : FS ![p, 0]), p = row r'.val 15 c → (owns (c.tc : Thread nD τ) (sO r' 15 c) fullShare Z : sProp 𝕄) = owns (c.tc : Thread nD τ) (strip oM ![p, 0] hp) fullShare Z := by
    intro p hp e; subst e; rfl
  rw [hs _ hfs hr.symm]
  exact own_half c (row r.val 15 c) h (fr r.val 15 c) hfs Y Z

/-- The largest magnitude, exchanged. -/
theorem wp_seg3 (k : F .f32 → PrgT F) :
    iprop(env X W K ιs ∗ due c 122 ∗ (four fun r => mid X W c r) ∗ (four fun k => iprop(bfR c k ∗ facts (px k.val c))) ∗ any c bM)
      ⊢ iprop(((due c 126 ∗ (four fun r => mid X W c r) ∗ (four fun k => bfD c k) ∗ any c bM) -∗ WP c (k (scl X W c)) Q) -∗ WP c (seg3 c k) Q) := by
  unfold four mid
  iintro ⟨#He, Ho, ⟨⟨Hr0, Hp0, Hm0⟩, ⟨Hr1, Hp1, Hm1⟩, ⟨Hr2, Hp2, Hm2⟩, ⟨Hr3, Hp3, Hm3⟩⟩, ⟨⟨Hx0, Hf0⟩, ⟨Hx1, Hf1⟩, ⟨Hx2, Hf2⟩, ⟨Hx3, Hf3⟩⟩, Hb⟩ Hk
  have e02 := own_pair (F := F) c 0 2 (row_two c).1 (h := k0_off35_inb c) (off35_eq c).1 (psum X W 0 15 c) (psum X W 2 15 c)
  have e13 := own_pair (F := F) c 1 3 (row_two c).2 (h := k0_off36_inb c) (off35_eq c).2 (psum X W 1 15 c) (psum X W 3 15 c)
  ihave H02 := e02.1 $$ [Hp0 Hp2]
  · iframe Hp0 Hp2
  ihave H13 := e13.1 $$ [Hp1 Hp3]
  · iframe Hp1 Hp3
  unfold seg3 pMax
  iapply (wp_loadO 𝒱₀ c none oM (Rect.unit (s := S4096x2048) (k0_off35 c) S128x2048.size (k0_off35_inb c)) (fun _ => rfl) fullShare (half0 X W c)) $$ H02
  iintro H02
  iapply (wp_loadO 𝒱₀ c none oM (Rect.unit (s := S4096x2048) (k0_off36 c) S128x2048.size (k0_off36_inb c)) (fun _ => rfl) fullShare (half1 X W c)) $$ H13
  iintro H13
  ihave Hp := e02.2 $$ H02
  icases Hp with ⟨Hp0, Hp2⟩
  ihave Hp := e13.2 $$ H13
  icases Hp with ⟨Hp1, Hp3⟩
  iapply (wp_put c (fun _ => amx X W ((0 : Fin 4)).val c)) $$ Hb
  iintro Hb
  iapply (wp_bf X W K ιs c 0 rfl rfl (dev_eq (devX_eq c).1)) $$ [Ho Hx0 Hf0 Hb]
  · isplitr; · iexact He
    iframe Hx0 Hf0 Hb
    iexact Ho
  iintro ⟨Ho, Hx0, Hb⟩
  iapply (wp_put c (fun _ => amx X W ((1 : Fin 4)).val c)) $$ Hb
  iintro Hb
  iapply (wp_bf X W K ιs c 1 rfl rfl (dev_eq (devX_eq c).2.1)) $$ [Ho Hx1 Hf1 Hb]
  · isplitr; · iexact He
    iframe Hx1 Hf1 Hb
    iexact Ho
  iintro ⟨Ho, Hx1, Hb⟩
  iapply (wp_put c (fun _ => amx X W ((2 : Fin 4)).val c)) $$ Hb
  iintro Hb
  iapply (wp_bf X W K ιs c 2 rfl rfl (dev_eq (devX_eq c).2.2.1)) $$ [Ho Hx2 Hf2 Hb]
  · isplitr; · iexact He
    iframe Hx2 Hf2 Hb
    iexact Ho
  iintro ⟨Ho, Hx2, Hb⟩
  iapply (wp_put c (fun _ => amx X W ((3 : Fin 4)).val c)) $$ Hb
  iintro Hb
  iapply (wp_bf X W K ιs c 3 rfl rfl (dev_eq (devX_eq c).2.2.2)) $$ [Ho Hx3 Hf3 Hb]
  · isplitr; · iexact He
    iframe Hx3 Hf3 Hb
    iexact Ho
  iintro ⟨Ho, Hx3, Hb⟩
  iapply Hk
  iframe Hx0 Hx1 Hx2 Hx3 Hb Hr0 Hp0 Hm0 Hr1 Hp1 Hm1 Hr2 Hp2 Hm2 Hr3 Hp3 Hm3
  iexact Ho

end

end Cert.AR
-- ==== Proof.Start.lean ====
/-
The start of the kernel: the barrier, the products and the first sends.
-/
module

public import proofs.«01_k».proof.Proof.Exchange

@[expose] public section

set_option maxRecDepth 20000

namespace Cert.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (readerAt released writeTok slotInv)

variable {F : FTy → Type} [FloatOps F]

noncomputable section

local notation "𝕄" => MT nD τ sig ℕ (Elt F) ℕ UU ℕ

variable (X : Dev nD → Vec F S4096x256 .f32) (W : Dev nD → Vec F S256x2048 .f32) (K : Dev nD × Cell → ℕ) (ιs : KS → ℕ) (c : Dev nD)

variable {Q : PUnit → sProp (MT nD τ sig ℕ (Elt F) ℕ UU ℕ)}

theorem bar_mem (d : Dev nD) (n : ℕ) (hn : n = 0 ∨ n = 1) : n ∈ (Rd X W).duties (gcell d cBar) 0 := by
  rw [duties_eq]; show n ∈ ({0, 1} : Finset ℕ); rcases hn with rfl | rfl <;> decide

/-- What a device needs for the barrier. -/
def barR : sProp (MT nD τ sig ℕ (Elt F) ℕ UU ℕ) :=
  iprop(dutyTok ER (gcell (up 0 c) cBar) 0 1 ∗ dutyTok ER (gcell (dn 0 c) cBar) 0 0 ∗ atPos ER (gcell c cBar) 0 ∅ 0 ∗ cred (tallyAt (gcell c cBar) 0 2))

/-- All of a device's slots given out. -/
theorem free_all :
    iprop(env X W K ιs ∗ bigSep Finset.univ fun k : Slot => iprop(readerAt ES (c, k) 0 ∗ slotP c k))
      ⊢ (|={Set.univ}=> ((bigSep Finset.univ fun k : Slot => readerAt ES (c, k) 1) ∗ facts c) : sProp 𝕄) := by
  refine BIBase.Entails.trans (bigSep_with_persistent (Ψ := fun k : Slot => iprop(|={Set.univ}=> (readerAt ES (c, k) 1 ∗ released ES (c, k) 1))) fun k _ => slot_free X W K ιs c k 0) ?_
  refine BIBase.Entails.trans (bigSep_fupd _ _) ?_
  rw [bigSep_sep']
  exact .rfl

/-- The barrier. -/
theorem wp_bar {d1 d2 : Dev nD} (h1 : d1 = up 0 c) (h2 : d2 = dn 0 c) (k : PrgT F) :
    iprop(env X W K ιs ∗ due c 0 ∗ barR c ∗ bigSep Finset.univ fun k : Slot => iprop(readerAt ES (c, k) 0 ∗ slotP c k))
      ⊢ iprop(((due c 2 ∗ atPos ER (gcell c cBar) 1 ∅ 0 ∗ (bigSep Finset.univ fun k : Slot => readerAt ES (c, k) 1) ∗ facts c ∗ facts (up 0 c) ∗ facts (dn 0 c)) -∗ WP c k Q)
        -∗ WP c (pSig d1 barS <| pSig d2 barS <| .op (.semWait barS ((2 : ℕ) : ℤ)) fun _ => k) Q) := by
  subst h1 h2
  unfold due barR
  iintro ⟨#He, ⟨%V, Ho⟩, ⟨Ht1, Ht2, Hat, Hcr⟩, Hsl⟩ Hk
  ihave #Hc0 := (env_cell X W K ιs c cBar) $$ He
  ihave #Hc1 := (env_cell X W K ιs (up 0 c) cBar) $$ He
  ihave #Hc2 := (env_cell X W K ιs (dn 0 c) cBar) $$ He
  ihave #Hr1 := (env_reached X W K ιs (up 0 c) cBar) $$ He
  ihave #Hr2 := (env_reached X W K ιs (dn 0 c) cBar) $$ He
  ihave #Hl := (env_lev X W K ιs) $$ He
  imod (free_all X W K ιs c) $$ [Hsl] with ⟨Hrd, #Hf⟩
  · iframe He Hsl
  have p1 : (facts c : sProp 𝕄) ⊢ (Rd X W).payload (gcell (up 0 c) cBar) 0 1 := by
    rw [payload_eq]; show _ ⊢ facts (dn 0 (up 0 c)); rw [dn_up]
  have p2 : (facts c : sProp 𝕄) ⊢ (Rd X W).payload (gcell (dn 0 c) cBar) 0 0 := by
    rw [payload_eq]; show _ ⊢ facts (up 0 (dn 0 c)); rw [up_dn]
  ihave Hp1 := p1 $$ Hf
  ihave Hp2 := p2 $$ Hf
  unfold pSig
  iapply (Rounds.wp_signal 𝒱₀ ER (Rd X W) (c.tc : Thread nD τ) none (dst := ((up 0 c).tc : Thread nD τ)) (κ := K (up 0 c, cBar))
    (bar_mem X W (up 0 c) 1 (.inr rfl)) (amount_eq X W (up 0 c) cBar 0 1) 0 (owed c 1) (owed_at c (.inl 0)) (W := V)) $$ [Ho Ht1 Hp1]
  · isplitr; · iexact Hc1
    isplitl [Ho]; · iexact Ho
    isplitl [Ht1]; · iexact Ht1
    isplitl [Hp1]; · iexact Hp1
    iexact Hr1
  iintro Ho
  iapply (Rounds.wp_signal 𝒱₀ ER (Rd X W) (c.tc : Thread nD τ) none (dst := ((dn 0 c).tc : Thread nD τ)) (κ := K (dn 0 c, cBar))
    (bar_mem X W (dn 0 c) 0 (.inl rfl)) (amount_eq X W (dn 0 c) cBar 0 0) 0 (owed c 2) (owed_at c (.inl 1)) (W := V)) $$ [Ho Ht2 Hp2]
  · isplitr; · iexact Hc2
    isplitl [Ho]; · iexact Ho
    isplitl [Ht2]; · iexact Ht2
    isplitl [Hp2]; · iexact Hp2
    iexact Hr2
  iintro Ho
  iapply (Rounds.wp_wait_rest_token 𝒱₀ ER (Rd X W) (c.tc : Thread nD τ) none (κ := K (c, cBar)) (sm := .reg barS) (k' := 2)
    (wpE_semWait_eq 𝒱₀ (c.tc : Thread nD τ) none Set.univ) (Set.mem_univ _) 0 (O := owed c 2) (W := V) (R := 0) (m := 0) (T := ∅)
    (by rw [show ((c.tc : Thread nD τ), (.reg barS : SemLoc sig)) = gcell c cBar from rfl, expect_bar X W c])) $$ [Hat Hcr Ho]
  · isplitr; · iexact Hc0
    isplitl [Hcr]; · iexact Hcr
    isplitl [Ho]; · iexact Ho
    isplitr
    · iapply (mayWait c (csem cBar) 0 2 (by decide) (by rw [lv_gcell]; exact le_rfl)) $$ Hl
    iexact Hat
  iintro ⟨Ho, Hat, -, Hp⟩
  ihave Hp := (Entails.of_eq (show (bigSep ((Rd X W).duties (c.tc, .reg barS) 0 \ ∅) fun d => (Rd X W).payload (c.tc, .reg barS) 0 d : sProp 𝕄) = iprop(facts (up 0 c) ∗ facts (dn 0 c)) by
    rw [show (Rd X W).duties (c.tc, .reg barS) 0 = {0, 1} from duties_eq X W c cBar 0, Finset.sdiff_empty, bigSep_insert (by decide), bigSep_singleton,
      show (Rd X W).payload (c.tc, .reg barS) 0 0 = facts (up 0 c) from payload_eq X W c cBar 0 0, show (Rd X W).payload (c.tc, .reg barS) 0 1 = facts (dn 0 c) from payload_eq X W c cBar 0 1]; rfl)) $$ Hp
  icases Hp with ⟨Hu, Hd⟩
  iapply Hk
  isplitl [Ho]; · iexists _; iexact Ho
  iframe Hat Hrd Hf Hu Hd

/-! ### The rings at their start -/

/-- What a device needs for a ring. -/
def ringR (r : Fin 4) : sProp (MT nD τ sig ℕ (Elt F) ℕ UU ℕ) :=
  iprop((bigSep Finset.univ fun s : Fin 2 => atPos ER (gcell c (cSnd r s)) 0 ∅ 0) ∗ (bigSep Finset.univ fun s : Fin 2 => atPos ER (gcell c (cRcv r s)) 0 ∅ 0) ∗ atPos ER (gcell c (cCrd r)) 0 ∅ 0
    ∗ bigSep (Finset.Ico 0 30) (rcr c r) ∗ bigSep (Finset.Ico 0 30) (tok c r) ∗ bigSep (Finset.Ico 0 28) (ctok c r) ∗ bigSep (Finset.Ico 0 28) (ccr c r))

theorem ring_dn : ∀ (r : Fin 4) (c : Dev nD), dn r.val c = up 0 c ∨ dn r.val c = dn 0 c := by decide +kernel

theorem okUp_start (d : Dev nD) (r : Fin 4) : iprop(env X W K ιs ∗ facts d) ⊢ (okUp d r 2 : sProp 𝕄) := by
  unfold okUp
  refine bigSep_intro_persistent fun h hh => ?_
  have h2 : h < 2 := Finset.mem_range.mp hh
  unfold hopOK
  rw [show h / 2 = 0 by omega, show wno h = 1 by unfold wno; rw [if_pos (by omega)]; omega]
  iintro ⟨He, Hf⟩
  isplitl [Hf]
  · iapply (show (facts d : sProp 𝕄) ⊢ released ES (d, key r h) 1 from by unfold facts; exact bigSep_elim (Finset.mem_univ (key r h))) $$ Hf
  · iapply (env_reached X W K ιs d (cRcv r (par h))) $$ He

theorem ring_start (r : Fin 4) :
    iprop(env X W K ιs ∗ facts c ∗ facts (dn r.val c) ∗ ringR c r
        ∗ (bigSep Finset.univ fun s : Fin 2 => readerAt ES (c, .inl (false, r, s)) 1) ∗ (bigSep Finset.univ fun s : Fin 2 => readerAt ES (c, .inl (true, r, s)) 1))
      ⊢ (rest c r 0 0 : sProp 𝕄) := by
  have e1 : (readerAt ES (c, .inl (false, r, 0)) 1 : sProp 𝕄) = S32 c r 0 := (if_pos (by omega)).symm
  have e2 : (readerAt ES (c, .inl (true, r, 0)) 1 : sProp 𝕄) = S8 c r 0 := (if_pos (by omega)).symm
  have e3 : (readerAt ES (c, .inl (false, r, 1)) 1 : sProp 𝕄) = S32 c r (0 + 1) := (if_pos (by omega)).symm
  have e4 : (readerAt ES (c, .inl (true, r, 1)) 1 : sProp 𝕄) = S8 c r (0 + 1) := (if_pos (by omega)).symm
  rw [bigSep_univ_two, bigSep_univ_two]
  unfold ringR
  rw [bigSep_univ_two, bigSep_univ_two]
  iintro ⟨#He, #Hf, #Hg, ⟨⟨Hs0, Hs1⟩, ⟨Hr0, Hr1⟩, Hc, H1, H2, H3, H4⟩, ⟨Ha0, Ha1⟩, ⟨Hb0, Hb1⟩⟩
  ihave #Hoc := (okUp_start X W K ιs c r) $$ [He Hf]
  · iframe He Hf
  ihave #Hod := (okUp_start X W K ιs (dn r.val c) r) $$ [He Hg]
  · iframe He Hg
  ihave #Hq0 := (env_reached X W K ιs c (cSnd r 0)) $$ He
  ihave #Hq1 := (env_reached X W K ιs c (cSnd r 1)) $$ He
  unfold rest base sndR rcvR
  iframe H1 H2 H3
  isplitl [Hs0]
  · isplitl [Hs0]; · iexact Hs0
    iexact Hq0
  isplitl [Hs1]
  · isplitl [Hs1]; · iexact Hs1
    iexact Hq1
  isplitl [Hr0]; · iexact Hr0
  isplitl [Hr1]; · iexact Hr1
  isplitl [Hc H4]
  · unfold cst
    iexists ∅
    isplitr; · ipureintro; exact ⟨Finset.empty_subset _, Nat.zero_le _⟩
    isplitl [Hc]; · iexact Hc
    isplitr; · rw [bigSep_empty]; iempintro
    isplitr; · iexact Hod
    iexact H4
  isplitr; · iexact Hoc
  isplitl [Ha0 Hb0]
  · isplitl [Ha0]; · iapply (Entails.of_eq e1) $$ Ha0
    iapply (Entails.of_eq e2) $$ Hb0
  isplitl [Ha1 Hb1]
  · isplitl [Ha1]; · iapply (Entails.of_eq e3) $$ Ha1
    iapply (Entails.of_eq e4) $$ Hb1
  iapply (Entails.of_eq (show (facts c : sProp 𝕄) = heard c r 0 by
    unfold heard
    rw [show Finset.range (min 0 15 + 1) = {0} from rfl, bigSep_singleton]
    exact congrArg facts (Fin.ext (ch_zero r.val c).symm))) $$ Hf

theorem bigSep_four (Φ : Fin 4 → sProp 𝕄) : bigSep Finset.univ Φ = four Φ := by
  rw [show (Finset.univ : Finset (Fin 4)) = insert 0 (insert 1 (insert 2 {3})) by decide, bigSep_insert (by decide), bigSep_insert (by decide), bigSep_insert (by decide), bigSep_singleton]
  rfl

/-- What is kept of each slot, by ring and of the exchange. -/
theorem slots_split (Φ : Slot → sProp 𝕄) :
    bigSep Finset.univ Φ = iprop((four fun r => iprop((bigSep Finset.univ fun s : Fin 2 => Φ (.inl (false, r, s))) ∗ bigSep Finset.univ fun s : Fin 2 => Φ (.inl (true, r, s)))) ∗ four fun k => Φ (.inr k)) := by
  rw [bigSep_univ_sum, bigSep_univ_prod, show (Finset.univ : Finset Bool) = insert false {true} by decide, bigSep_insert (by decide), bigSep_singleton, bigSep_univ_prod, bigSep_univ_prod,
    ← bigSep_four, ← bigSep_four, bigSep_sep']
  rfl

/-- The rings at their start, and the readers of the exchange's slots. -/
theorem rings_start :
    iprop(env X W K ιs ∗ facts c ∗ facts (up 0 c) ∗ facts (dn 0 c) ∗ (four fun r => ringR c r) ∗ bigSep Finset.univ fun k : Slot => readerAt ES (c, k) 1)
      ⊢ (iprop((four fun r => rest c r 0 0) ∗ four fun k => readerAt ES (c, .inr k) 1) : sProp 𝕄) := by
  have hd : ∀ r : Fin 4, iprop(facts (up 0 c) ∗ facts (dn 0 c)) ⊢ (facts (dn r.val c) : sProp 𝕄) := by
    intro r
    rcases ring_dn r c with h | h
    · rw [h]; iintro ⟨H, -⟩; iexact H
    · rw [h]; iintro ⟨-, H⟩; iexact H
  rw [slots_split]
  unfold four
  iintro ⟨#He, #Hf, #Hu, #Hd, ⟨H0, H1, H2, H3⟩, ⟨⟨A0, B0⟩, ⟨A1, B1⟩, ⟨A2, B2⟩, ⟨A3, B3⟩⟩, Hx⟩
  ihave #G0 := (hd 0) $$ [Hu Hd]
  · iframe Hu Hd
  ihave #G1 := (hd 1) $$ [Hu Hd]
  · iframe Hu Hd
  ihave #G2 := (hd 2) $$ [Hu Hd]
  · iframe Hu Hd
  ihave #G3 := (hd 3) $$ [Hu Hd]
  · iframe Hu Hd
  isplitr [Hx]
  · isplitl [H0 A0 B0]
    · iapply (ring_start X W K ιs c 0) $$ [H0 A0 B0]
      iframe He Hf G0 H0 A0 B0
    isplitl [H1 A1 B1]
    · iapply (ring_start X W K ιs c 1) $$ [H1 A1 B1]
      iframe He Hf G1 H1 A1 B1
    isplitl [H2 A2 B2]
    · iapply (ring_start X W K ιs c 2) $$ [H2 A2 B2]
      iframe He Hf G2 H2 A2 B2
    · iapply (ring_start X W K ιs c 3) $$ [H3 A3 B3]
      iframe He Hf G3 H3 A3 B3
  iexact Hx

/-! ### The products -/

/-- A chunk of the result's buffer. -/
abbrev kM (k : Fin 16) : Memref sig .tc .vmem S256x2048 .f32 := oM.slice (kR k) (fun _ => rfl)

/-- The inputs, held with some shares. -/
def ins (q q' : PosShare TreeShare) : sProp (MT nD τ sig ℕ (Elt F) ℕ UU ℕ) :=
  iprop(owns (c.tc : Thread nD τ) xM q (X c) ∗ owns (c.tc : Thread nD τ) wM q' (W c))

variable (q q' : PosShare TreeShare)

theorem wp_gemm (j : Fin 16) {p : Fin 2 → ℕ} {hp : ∀ a : Fin 2, p a + S256x256.size a ≤ S4096x256.size a} {o : Fin 2 → ℕ}
    {ho : ∀ a : Fin 2, o a + S256x2048.size a ≤ S4096x2048.size a} (hpp : p = ![256 * j.val, 0]) (hoo : o = ![256 * j.val, 0]) (k : PrgT F) :
    iprop(ins X W c q q' ∗ any c (kM j))
      ⊢ iprop(((ins X W c q q' ∗ owns (c.tc : Thread nD τ) (kM j) fullShare (gch X W c j)) -∗ WP c k Q) -∗ WP c (pGemm p hp o ho k) Q) := by
  subst hpp hoo
  unfold ins
  iintro ⟨⟨Hx, Hw⟩, %Y, Ho⟩ Hk
  have hz : ∀ a : Fin 2, (![0, 0] : Fin 2 → ℕ) a = 0 := by decide
  have hw : (owns (c.tc : Thread nD τ) (wM.slice (Rect.unit (s := S256x2048) ![0, 0] S256x2048.size inb_S256x2048_S256x2048_0_0) (fun _ => rfl)) q' (W c) : sProp 𝕄)
      = owns (c.tc : Thread nD τ) wM q' (W c) := own_full c wM ![0, 0] hz inb_S256x2048_S256x2048_0_0 q' (W c)
  ihave Hw := (Entails.of_eq hw.symm) $$ Hw
  unfold pGemm
  iapply (wp_loadW 𝒱₀ c none xM (xR j) q (X c)) $$ Hx
  iintro Hx
  iapply (wp_loadO 𝒱₀ c none wM (Rect.unit (s := S256x2048) ![0, 0] S256x2048.size inb_S256x2048_S256x2048_0_0) (fun _ => rfl) q' (W c)) $$ Hw
  iintro Hw
  iapply (wp_loadO 𝒱₀ c none oM (kR j) (fun _ => rfl) fullShare Y) $$ Ho
  iintro Ho
  iapply (wp_storeO 𝒱₀ c none oM (kR j) (fun _ => rfl) Y (gch X W c j)) $$ Ho
  iintro Ho
  ihave Hw := (Entails.of_eq hw) $$ Hw
  iapply Hk
  iframe Hx Hw Ho

/-- A chunk held is its four strips held. -/
theorem chunk_split (k : Fin 16) :
    (owns (c.tc : Thread nD τ) (kM k) fullShare (gch X W c k) : sProp 𝕄) ⊢ bigSep Finset.univ fun r : Fin 4 => owns (c.tc : Thread nD τ) (oM.slice (tR r k) (fun _ => rfl)) fullShare (gsk X W r k c) := by
  refine BIBase.Entails.trans (own_sub c oM (kR k) (fun _ => rfl) fullShare uR (fun _ _ => rfl) uR_disj uR_cov (gch X W c k)).1 (Entails.of_eq ?_)
  refine congrArg _ (funext fun r => ?_)
  exact own_in c oM (funext fun a => by fin_cases a <;> rfl) fullShare (gsk X W r k c)

theorem ch_image : ∀ (r : Fin 4) (c : Dev nD), (Finset.Ico 1 16).image (fun j => chF r.val j c) = (Finset.univ : Finset (Fin 16)).erase (chF 0 0 c) := by decide +kernel
theorem ch_image' : ∀ (r : Fin 4) (c : Dev nD), (Finset.range 16).image (fun j => chF r.val j c) = (Finset.univ : Finset (Fin 16)) := by decide +kernel
theorem chF_inj (r : ℕ) {i j : ℕ} (hi : i < 16) (hj : j < 16) (h : chF r i c = chF r j c) : i = j := ch_inj r c hi hj (congrArg Fin.val h)

theorem by_hop (r : Fin 4) (Φ : Fin 16 → sProp 𝕄) : bigSep ((Finset.univ : Finset (Fin 16)).erase (chF 0 0 c)) Φ = bigSep (Finset.Ico 1 16) fun j => Φ (chF r.val j c) := by
  rw [← ch_image r c]
  exact bigSep_image_of_injOn (fun i hi j hj h => chF_inj c r.val (Finset.mem_Ico.mp hi).2 (Finset.mem_Ico.mp hj).2 h) Φ
theorem by_hop' (r : Fin 4) (Φ : Fin 16 → sProp 𝕄) : bigSep (Finset.univ : Finset (Fin 16)) Φ = bigSep (Finset.range 16) fun j => Φ (chF r.val j c) := by
  rw [← ch_image' r c]
  exact bigSep_image_of_injOn (fun i hi j hj h => chF_inj c r.val (Finset.mem_range.mp hi) (Finset.mem_range.mp hj) h) Φ

/-- The products done below `n`, and the chunks still to fill. -/
def prods (n : ℕ) : sProp (MT nD τ sig ℕ (Elt F) ℕ UU ℕ) :=
  iprop(ins X W c q q' ∗ (bigSep (Finset.Ico 1 n) fun j => owns (c.tc : Thread nD τ) (kM (chF 1 j c)) fullShare (gch X W c (chF 1 j c))) ∗ bigSep (Finset.Ico n 16) fun j => any c (kM (chF 1 j c)))

theorem wp_pG (j : Fin 15) {n n' : ℕ} (hn : n = 1 + j.val) (hn' : n' = n + 1) (k : PrgT F) :
    prods X W c q q' n ⊢ iprop((prods X W c q q' n' -∗ WP c k Q) -∗ WP c (pG c j k) Q) := by
  subst hn hn'
  have hj := j.isLt
  unfold prods
  iintro ⟨Hi, Hd, Ht⟩ Hk
  ihave Ht := (Entails.of_eq (bigSep_Ico_succ_bot (show 1 + j.val < 16 by omega) (fun j => (any c (kM (chF 1 j c)) : sProp 𝕄)))) $$ Ht
  icases Ht with ⟨Ho, Ht⟩
  unfold pG
  iapply (wp_gemm X W c q q' (chF 1 (1 + j.val) c) (off5_eq c j).1 (off5_eq c j).2) $$ [Hi Ho]
  · iframe Hi Ho
  iintro ⟨Hi, Ho⟩
  iapply Hk
  iframe Hi Ht
  iapply (Entails.of_eq (bigSep_Ico_succ_top (show 1 ≤ 1 + j.val by omega) (fun j => (owns (c.tc : Thread nD τ) (kM (chF 1 j c)) fullShare (gch X W c (chF 1 j c)) : sProp 𝕄))).symm) $$ [Hd Ho]
  iframe Hd Ho

/-- All products done, as strips in the order of each ring's hops. -/
theorem prods_end :
    (bigSep (Finset.Ico 1 16) fun j => (owns (c.tc : Thread nD τ) (kM (chF 1 j c)) fullShare (gch X W c (chF 1 j c)) : sProp 𝕄)) ⊢ four fun r => sums X W c r 0 := by
  have h1 : (bigSep (Finset.Ico 1 16) fun j => (owns (c.tc : Thread nD τ) (kM (chF 1 j c)) fullShare (gch X W c (chF 1 j c)) : sProp 𝕄))
      ⊢ bigSep ((Finset.univ : Finset (Fin 16)).erase (chF 0 0 c)) fun k => bigSep Finset.univ fun r : Fin 4 => owns (c.tc : Thread nD τ) (oM.slice (tR r k) (fun _ => rfl)) fullShare (gsk X W r k c) := by
    exact (Entails.of_eq (by_hop c 1 (fun k => (owns (c.tc : Thread nD τ) (kM k) fullShare (gch X W c k) : sProp 𝕄))).symm).trans (bigSep_mono fun k _ => chunk_split X W c k)
  refine h1.trans ?_
  rw [show (fun k => bigSep Finset.univ fun r : Fin 4 => (owns (c.tc : Thread nD τ) (oM.slice (tR r k) (fun _ => rfl)) fullShare (gsk X W r k c) : sProp 𝕄))
      = fun k => four fun r => owns (c.tc : Thread nD τ) (oM.slice (tR r k) (fun _ => rfl)) fullShare (gsk X W r k c) from funext fun k => bigSep_four _]
  unfold four
  rw [bigSep_sep', bigSep_sep', bigSep_sep', by_hop c 0, by_hop c 1, by_hop c 2, by_hop c 3]
  have hs : ∀ r : Fin 4, (bigSep (Finset.Ico 1 16) fun j => (owns (c.tc : Thread nD τ) (oM.slice (tR r (chF r.val j c)) (fun _ => rfl)) fullShare (gsk X W r (chF r.val j c) c) : sProp 𝕄)) ⊢ sums X W c r 0 := by
    intro r
    unfold sums
    iintro H
    isplitr; · rw [Finset.range_zero, bigSep_empty]; iempintro
    iexact H
  iintro ⟨H0, H1, H2, H3⟩
  isplitl [H0]; · iapply (hs 0) $$ H0
  isplitl [H1]; · iapply (hs 1) $$ H1
  isplitl [H2]; · iapply (hs 2) $$ H2
  iapply (hs 3) $$ H3

/-- The result's buffer as its chunks, the first one apart. -/
theorem chunks_start : (any c oM : sProp 𝕄) ⊢ iprop(any c (kM (chF 0 0 c)) ∗ bigSep (Finset.Ico 1 16) fun j => any c (kM (chF 1 j c))) := by
  have h : (bigSep Finset.univ fun k => (any c (kM k) : sProp 𝕄)) = iprop(any c (kM (chF 0 0 c)) ∗ bigSep (Finset.Ico 1 16) fun j => any c (kM (chF 1 j c))) :=
    (bigSep_erase (Finset.mem_univ (chF 0 0 c))).trans (congrArg (fun Z => iprop(any c (kM (chF 0 0 c)) ∗ Z)) (by_hop c 1 fun k => (any c (kM k) : sProp 𝕄)))
  exact BIBase.Entails.trans (any_rects c oM kR (fun _ _ => rfl) kR_disj kR_cov) (Entails.of_eq h)

set_option maxHeartbeats 1000000 in
/-- From the barrier to the first sends and all products. -/
theorem wp_seg1 (k : PrgT F) :
    iprop(env X W K ιs ∗ due c 0 ∗ barR c ∗ (bigSep Finset.univ fun k : Slot => iprop(readerAt ES (c, k) 0 ∗ slotP c k)) ∗ (four fun r => ringR c r) ∗ ins X W c q q' ∗ any c oM)
      ⊢ iprop(((inv1 X W K ιs c 0 ∗ ins X W c q q' ∗ atPos ER (gcell c cBar) 1 ∅ 0 ∗ four fun k => readerAt ES (c, .inr k) 1) -∗ WP c k Q) -∗ WP c (seg1 c k) Q) := by
  have hch : chF 0 0 c = chF 1 0 c := Fin.ext ((ch_zero 0 c).trans (ch_zero 1 c).symm)
  iintro ⟨#He, Ho, Hb, Hsl, Hr, Hi, HO⟩ Hk
  unfold seg1
  iapply (wp_bar X W K ιs c (dev_eq (dev1_eq c)) (dev_eq (dev2_eq c))) $$ [Ho Hb Hsl]
  · iframe He Ho Hb Hsl
  iintro ⟨Ho, Hb, Hrd, #Hf, #Hu, #Hd⟩
  ihave Hr := (rings_start X W K ιs c) $$ [Hr Hrd]
  · iframe He Hf Hu Hd Hr Hrd
  icases Hr with ⟨⟨R0, R1, R2, R3⟩, Hx⟩
  ihave HO := (chunks_start (F := F) c) $$ HO
  icases HO with ⟨HO, HR⟩
  iapply (wp_gemm X W c q q' (chF 0 0 c) (off1_eq c).1 (off1_eq c).2) $$ [Hi HO]
  · iframe Hi HO
  iintro ⟨Hi, HO⟩
  ihave HO := (BIBase.Entails.trans (chunk_split X W c (chF 0 0 c)) (Entails.of_eq (bigSep_four _))) $$ HO
  have hst : ∀ r : Fin 4, (owns (c.tc : Thread nD τ) (oM.slice (tR r (chF 0 0 c)) (fun _ => rfl)) fullShare (gsk X W r (chF 0 0 c) c) : sProp 𝕄) ⊢ owns (c.tc : Thread nD τ) (sO r 0 c) fullShare (psum X W r 0 c) := by
    intro r
    rw [show chF 0 0 c = chF r.val 0 c from Fin.ext ((ch_zero 0 c).trans (ch_zero r.val c).symm)]
    exact .rfl
  icases HO with ⟨O0, O1, O2, O3⟩
  ihave O0 := (hst 0) $$ O0
  ihave O1 := (hst 1) $$ O1
  ihave O2 := (hst 2) $$ O2
  ihave O3 := (hst 3) $$ O3
  unfold pS0
  iapply (wp_send32 X W K ιs c 0 0 (by omega) rfl rfl (dev_eq (devS0_eq c).1) (off3_eq c 0).1 rfl) $$ [Ho R0 O0]
  · isplitr; · iexact He
    isplitl [Ho]; · iexact Ho
    isplitl [R0]; · iexact R0
    iexact O0
  iintro ⟨Ho, F0⟩
  iapply (wp_send32 X W K ιs c 1 0 (by omega) rfl rfl (dev_eq (devS0_eq c).2.1) (off4_eq c 0).1 rfl) $$ [Ho R1 O1]
  · isplitr; · iexact He
    isplitl [Ho]; · iexact Ho
    isplitl [R1]; · iexact R1
    iexact O1
  iintro ⟨Ho, F1⟩
  iapply (wp_send32 X W K ιs c 2 0 (by omega) rfl rfl (dev_eq (devS0_eq c).2.2.1) (off3_eq c 0).2 rfl) $$ [Ho R2 O2]
  · isplitr; · iexact He
    isplitl [Ho]; · iexact Ho
    isplitl [R2]; · iexact R2
    iexact O2
  iintro ⟨Ho, F2⟩
  iapply (wp_send32 X W K ιs c 3 0 (by omega) rfl rfl (dev_eq (devS0_eq c).2.2.2) (off4_eq c 0).2 rfl) $$ [Ho R3 O3]
  · isplitr; · iexact He
    isplitl [Ho]; · iexact Ho
    isplitl [R3]; · iexact R3
    iexact O3
  iintro ⟨Ho, F3⟩
  ihave HP := (show iprop(ins X W c q q' ∗ bigSep (Finset.Ico 1 16) fun j => any c (kM (chF 1 j c))) ⊢ prods X W c q q' 1 from by
    unfold prods
    rw [Finset.Ico_self, bigSep_empty]
    iintro ⟨H1, H2⟩
    iframe H1 H2
    iempintro) $$ [Hi HR]
  · iframe Hi HR
  iapply (wp_pG X W c q q' 0 rfl rfl) $$ HP
  iintro HP
  iapply (wp_pG X W c q q' 1 rfl rfl) $$ HP
  iintro HP
  iapply (wp_pG X W c q q' 2 rfl rfl) $$ HP
  iintro HP
  iapply (wp_pG X W c q q' 3 rfl rfl) $$ HP
  iintro HP
  iapply (wp_pG X W c q q' 4 rfl rfl) $$ HP
  iintro HP
  iapply (wp_pG X W c q q' 5 rfl rfl) $$ HP
  iintro HP
  iapply (wp_pG X W c q q' 6 rfl rfl) $$ HP
  iintro HP
  iapply (wp_pG X W c q q' 7 rfl rfl) $$ HP
  iintro HP
  iapply (wp_pG X W c q q' 8 rfl rfl) $$ HP
  iintro HP
  iapply (wp_pG X W c q q' 9 rfl rfl) $$ HP
  iintro HP
  iapply (wp_pG X W c q q' 10 rfl rfl) $$ HP
  iintro HP
  iapply (wp_pG X W c q q' 11 rfl rfl) $$ HP
  iintro HP
  iapply (wp_pG X W c q q' 12 rfl rfl) $$ HP
  iintro HP
  iapply (wp_pG X W c q q' 13 rfl rfl) $$ HP
  iintro HP
  iapply (wp_pG X W c q q' 14 rfl rfl) $$ HP
  iintro HP
  ihave HP := (show prods X W c q q' 16 ⊢ iprop(ins X W c q q' ∗ four fun r => sums X W c r 0) from by
    unfold prods
    rw [Finset.Ico_self, bigSep_empty]
    iintro ⟨H1, H2, -⟩
    iframe H1
    iapply (prods_end X W c) $$ H2) $$ HP
  icases HP with ⟨Hi, ⟨M0, M1, M2, M3⟩⟩
  iapply Hk
  unfold inv1 four
  iframe He Hi Hb Hx F0 M0 F1 M1 F2 M2 F3 M3
  iexact Ho

end

end Cert.AR
-- ==== Proof.Body.lean ====
/-
The body of a device as a whole.
-/
module

public import proofs.«01_k».proof.Proof.Start

@[expose] public section

set_option maxRecDepth 20000

namespace Cert.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (readerAt released writeTok slotInv)

variable {F : FTy → Type} [FloatOps F]

noncomputable section

local notation "𝕄" => MT nD τ sig ℕ (Elt F) ℕ UU ℕ

variable (X : Dev nD → Vec F S4096x256 .f32) (W : Dev nD → Vec F S256x2048 .f32) (K : Dev nD × Cell → ℕ) (ιs : KS → ℕ) (c : Dev nD)

variable {Q : PUnit → sProp (MT nD τ sig ℕ (Elt F) ℕ UU ℕ)}

/-! ### Buffers and their slots -/

theorem any_squeeze {s s' : Shape} {e : EltTy} (M : Memref sig .tc .vmem s e) (h : s.Squeezes s') :
    (any c (M.squeeze s' h) : sProp 𝕄) ⊣⊢ any c M := by
  constructor
  · iintro ⟨%Y, H⟩
    ihave H := (Entails.of_eq (own_squeeze c M h fullShare Y)) $$ H
    iapply (any_of c M _) $$ H
  · iintro ⟨%Y, H⟩
    ihave H := (Entails.of_eq ((own_squeeze c M h fullShare (fun j => Y (Shape.reshapeEquiv h.numel_eq j))).trans
      (congrArg (fun Z => owns (c.tc : Thread nD τ) M fullShare Z) (funext fun j => congrArg Y (Equiv.apply_symm_apply _ j)))).symm) $$ H
    iapply (any_of c _ _) $$ H

theorem any_slot {e : EltTy} (M : Memref sig .tc .vmem S4x2x64x2048 e) :
    (any c M : sProp 𝕄) ⊣⊢ four fun r => bigSep Finset.univ fun s : Fin 2 => any c (slotM M ![r.val, s.val, 0, 0] (fc _ _ r.isLt s.isLt)) := by
  have hsq : ∀ p : Fin 4 × Fin 2, (any c (slotM M ![p.1.val, p.2.val, 0, 0] (fc _ _ p.1.isLt p.2.isLt)) : sProp 𝕄) ⊣⊢ any c (M.slice (lR p.1 p.2) (fun _ => rfl)) := fun p =>
    any_squeeze c (M.slice (lR p.1 p.2) (fun _ => rfl)) squeezes_S1x1x64x2048_S64x2048
  have he : (bigSep Finset.univ fun p : Fin 4 × Fin 2 => (any c (slotM M ![p.1.val, p.2.val, 0, 0] (fc _ _ p.1.isLt p.2.isLt)) : sProp 𝕄))
      = four fun r => bigSep Finset.univ fun s : Fin 2 => any c (slotM M ![r.val, s.val, 0, 0] (fc _ _ r.isLt s.isLt)) :=
    (bigSep_univ_prod _).trans (bigSep_four _)
  constructor
  · exact (any_rects c M (fun p : Fin 4 × Fin 2 => lR p.1 p.2) (fun _ _ => rfl) lR_disj lR_cov).trans ((bigSep_mono fun p _ => (hsq p).2).trans (Entails.of_eq he))
  · exact (Entails.of_eq he.symm).trans ((bigSep_mono fun p _ => (hsq p).1).trans (any_glue c M (fun p : Fin 4 × Fin 2 => lR p.1 p.2) (fun _ _ => rfl) lR_disj lR_cov))

theorem any_slotB : (any c gM : sProp 𝕄) ⊣⊢ four fun k => any c (slotB k) := by
  have hsq : ∀ k : Fin 4, (any c (slotB k) : sProp 𝕄) ⊣⊢ any c (gM.slice (gR k) (fun _ => rfl)) := fun k =>
    any_squeeze c (gM.slice (gR k) (fun _ => rfl)) squeezes_S1x8x128_S8x128
  constructor
  · exact (any_rects c gM gR (fun _ _ => rfl) gR_disj gR_cov).trans ((bigSep_mono fun p _ => (hsq p).2).trans (Entails.of_eq (bigSep_four _)))
  · exact (Entails.of_eq (bigSep_four _).symm).trans ((bigSep_mono fun p _ => (hsq p).1).trans (any_glue c gM gR (fun _ _ => rfl) gR_disj gR_cov))

theorem any_strips : (any c qM : sProp 𝕄) ⊣⊢ four fun r => bigSep (Finset.range 16) fun j => any c (sQ r j c) := by
  have he : (bigSep Finset.univ fun p : Fin 4 × Fin 16 => (any c (qM.slice (tR p.1 p.2) (fun _ => rfl)) : sProp 𝕄))
      = four fun r => bigSep (Finset.range 16) fun j => any c (sQ r j c) :=
    (bigSep_univ_prod _).trans ((bigSep_four _).trans (by
      show four (fun r => bigSep Finset.univ fun k : Fin 16 => any c (qM.slice (tR r k) (fun _ => rfl))) = _
      rw [show (fun r : Fin 4 => bigSep Finset.univ fun k : Fin 16 => (any c (qM.slice (tR r k) (fun _ => rfl)) : sProp 𝕄)) = fun r => bigSep (Finset.range 16) fun j => any c (sQ r j c) from
        funext fun r => by_hop' c r fun k => any c (qM.slice (tR r k) (fun _ => rfl))]))
  constructor
  · exact (any_rects c qM (fun p : Fin 4 × Fin 16 => tR p.1 p.2) (fun _ _ => rfl) tR_disj tR_cov).trans (Entails.of_eq he)
  · exact (Entails.of_eq he.symm).trans (any_glue c qM (fun p : Fin 4 × Fin 16 => tR p.1 p.2) (fun _ _ => rfl) tR_disj tR_cov)

/-- The strips of the result are the result. -/
theorem out_end : (four fun r => iprop((bigSep (Finset.range 15) fun j => owns (c.tc : Thread nD τ) (sO r j c) fullShare (outS X W r j c)) ∗ owns (c.tc : Thread nD τ) (sO r 15 c) fullShare (outS X W r 15 c)) : sProp 𝕄)
    ⊢ owns (c.tc : Thread nD τ) oM fullShare (outV X W c) := by
  have h1 : ∀ r : Fin 4, (iprop((bigSep (Finset.range 15) fun j => owns (c.tc : Thread nD τ) (sO r j c) fullShare (outS X W r j c)) ∗ owns (c.tc : Thread nD τ) (sO r 15 c) fullShare (outS X W r 15 c)) : sProp 𝕄)
      ⊢ bigSep Finset.univ fun k : Fin 16 => owns (c.tc : Thread nD τ) (oM.slice (tR r k) (fun _ => rfl)) fullShare (outS X W r (hopOf r.val k c) c) := by
    intro r
    rw [by_hop' c r fun k : Fin 16 => (owns (c.tc : Thread nD τ) (oM.slice (tR r k) (fun _ => rfl)) fullShare (outS X W r (hopOf r.val k c) c) : sProp 𝕄)]
    have hc : (bigSep (Finset.range 16) fun j => (owns (c.tc : Thread nD τ) (oM.slice (tR r (chF r.val j c)) (fun _ => rfl)) fullShare (outS X W r (hopOf r.val (chF r.val j c) c) c) : sProp 𝕄))
        = bigSep (Finset.range 16) fun j => owns (c.tc : Thread nD τ) (sO r j c) fullShare (outS X W r j c) :=
      bigSep_congr fun j hj => by rw [hopOf_ch r.val j (Finset.mem_range.mp hj) c]; rfl
    rw [hc, bigSep_range_succ 15]
    exact sep_comm.1
  have h2 := own_glue c oM fullShare (fun p : Fin 4 × Fin 16 => tR p.1 p.2) (fun _ _ => rfl) tR_disj tR_cov (fun p => outS X W p.1 (hopOf p.1.val p.2 c) c)
  refine BIBase.Entails.trans ?_ (BIBase.Entails.trans (Entails.of_eq ((bigSep_univ_prod _).trans (bigSep_four _)).symm) h2)
  iintro ⟨H0, H1, H2, H3⟩
  isplitl [H0]; · iapply (h1 0) $$ H0
  isplitl [H1]; · iapply (h1 1) $$ H1
  isplitl [H2]; · iapply (h1 2) $$ H2
  iapply (h1 3) $$ H3

/-! ### The semaphores at the end -/

theorem cells_split (Φ : Cell → sProp 𝕄) : bigSep Finset.univ Φ = iprop(Φ cBar ∗ (four fun r => bigSep Finset.univ fun s : Fin 2 => Φ (cSnd r s)) ∗ (four fun r => bigSep Finset.univ fun s : Fin 2 => Φ (cRcv r s))
    ∗ (four fun r => Φ (cCrd r)) ∗ (four fun r => Φ (cBfs r)) ∗ four fun r => Φ (cBfr r)) := by
  have hs : ∀ (A B : Type) [Fintype A] [Fintype B] [DecidableEq A] [DecidableEq B] (Ψ : A ⊕ B → sProp 𝕄), bigSep Finset.univ Ψ = iprop((bigSep Finset.univ fun a => Ψ (.inl a)) ∗ bigSep Finset.univ fun b => Ψ (.inr b)) := fun A B _ _ _ _ Ψ => bigSep_univ_sum Ψ
  have hp : ∀ (Ψ : Fin 4 × Fin 2 → sProp 𝕄), bigSep Finset.univ Ψ = four fun r => bigSep Finset.univ fun s : Fin 2 => Ψ (r, s) := fun Ψ => (bigSep_univ_prod Ψ).trans (bigSep_four _)
  rw [hs, hs, hs, hs, hs, hp, hp, bigSep_four, bigSep_four, bigSep_four]
  congr 1
  exact bigSep_singleton

theorem shut (x : Cell) (R : ℕ) (hR : ∀ q, R ≤ q → dutiesOf (some x) q = ∅) :
    iprop(env X W K ιs ∗ atPos ER (gcell c x) R ∅ 0) ⊢ (|={Set.univ}=> semVal (gcell c x) 0 : sProp 𝕄) := by
  iintro ⟨#He, H⟩
  iapply (Rounds.cell_close ER (Rd X W) (Set.mem_univ (K (c, x))) (fun h => h) (R := R) (fun q hq => (duties_eq X W c x q).trans (hR q hq)))
  isplitr
  · iapply (env_cell X W K ιs c x) $$ He
  iexact H

theorem shut_crd (r : Fin 4) : iprop(env X W K ιs ∗ cst c r 28) ⊢ (|={Set.univ}=> semVal (gcell c (cCrd r)) 0 : sProp 𝕄) := by
  unfold cst
  iintro ⟨#He, ⟨%T, %hT, H, -⟩⟩
  imod (fupd_skip ER (Rd X W) (κ := K (c, cCrd r)) (g := gcell c (cCrd r)) (R := 0) (m := 28) (T := T) (by
      rw [duties_eq]
      have h : T = Finset.range 28 := Finset.eq_of_subset_of_card_le hT.1 (by rw [Finset.card_range]; exact hT.2)
      rw [h]; exact Finset.Subset.refl _) (expect_crd X W c r).symm (Set.mem_univ _)) $$ [H] with ⟨H, -⟩
  · isplitr
    · iapply (env_cell X W K ιs c (cCrd r)) $$ He
    iexact H
  iapply (shut X W K ιs c (cCrd r) 1 (fun q hq => if_neg (by omega)))
  iframe He
  iexact H

/-- A ring at the end: its semaphores at zero, its slots back. -/
theorem ring_end (r : Fin 4) : iprop(env X W K ιs ∗ rest c r 30 28) ⊢ (|={Set.univ}=> ((bigSep Finset.univ fun s : Fin 2 => semVal (gcell c (cSnd r s)) 0) ∗ (bigSep Finset.univ fun s : Fin 2 => semVal (gcell c (cRcv r s)) 0)
    ∗ semVal (gcell c (cCrd r)) 0 ∗ (bigSep Finset.univ fun s : Fin 2 => any c (slot32 r s)) ∗ bigSep Finset.univ fun s : Fin 2 => any c (slot8 r s)) : sProp 𝕄) := by
  have hS : ∀ s : Fin 2, iprop(env X W K ιs ∗ atPos ER (gcell c (cSnd r s)) 15 ∅ 0) ⊢ (|={Set.univ}=> semVal (gcell c (cSnd r s)) 0 : sProp 𝕄) := fun s => shut X W K ιs c (cSnd r s) 15 (fun q hq => if_neg (by omega))
  have hR : ∀ s : Fin 2, iprop(env X W K ιs ∗ atPos ER (gcell c (cRcv r s)) 15 ∅ 0) ⊢ (|={Set.univ}=> semVal (gcell c (cRcv r s)) 0 : sProp 𝕄) := fun s => shut X W K ιs c (cRcv r s) 15 (fun q hq => if_neg (by omega))
  have e32 : ∀ k : ℕ, 15 ≤ k → (S32 c r k : sProp 𝕄) ⊢ any c (slot32 r (par k)) := fun k hk => Entails.of_eq (if_neg (by omega))
  have e8 : ∀ k : ℕ, 30 ≤ k → (S8 c r k : sProp 𝕄) ⊢ any c (slot8 r (par k)) := fun k hk => Entails.of_eq (if_neg (by omega))
  rw [bigSep_univ_two, bigSep_univ_two, bigSep_univ_two, bigSep_univ_two]
  unfold rest base sndR rcvR
  iintro ⟨#He, ⟨⟨A0, -⟩, ⟨A1, -⟩, B0, B1, -, -, -, C, -, ⟨D0, E0⟩, ⟨D1, E1⟩, -⟩⟩
  imod (hS 0) $$ [A0] with A0
  · iframe He
    iexact A0
  imod (hS 1) $$ [A1] with A1
  · iframe He
    iexact A1
  imod (hR 0) $$ [B0] with B0
  · iframe He
    iexact B0
  imod (hR 1) $$ [B1] with B1
  · iframe He
    iexact B1
  imod (shut_crd X W K ιs c r) $$ [C] with C
  · iframe He C
  ihave D0 := (e32 30 (by omega)) $$ D0
  ihave D1 := (e32 31 (by omega)) $$ D1
  ihave E0 := (e8 30 (by omega)) $$ E0
  ihave E1 := (e8 31 (by omega)) $$ E1
  imodintro
  isplitl [A0 A1]; · iframe A0 A1
  isplitl [B0 B1]; · iframe B0 B1
  isplitl [C]; · iexact C
  isplitl [D0 D1]
  · isplitl [D0]; · iexact D0
    iexact D1
  isplitl [E0]; · iexact E0
  iexact E1

/-- An exchange's semaphores at the end. -/
theorem bf_end (k : Fin 4) : iprop(env X W K ιs ∗ bfD c k) ⊢ (|={Set.univ}=> (semVal (gcell c (cBfs k)) 0 ∗ semVal (gcell c (cBfr k)) 0 ∗ any c (slotB k)) : sProp 𝕄) := by
  unfold bfD
  iintro ⟨#He, A, B, C⟩
  imod (shut X W K ιs c (cBfs k) 1 (fun q hq => if_neg (by omega))) $$ [A] with A
  · iframe He A
  imod (shut X W K ιs c (cBfr k) 1 (fun q hq => if_neg (by omega))) $$ [B] with B
  · iframe He B
  imodintro
  iframe A B C

/-! ### The whole body -/

/-- What a device starts with, its buffers apart. -/
def begin' : sProp (MT nD τ sig ℕ (Elt F) ℕ UU ℕ) :=
  iprop(barR c ∗ (bigSep Finset.univ fun k : Slot => readerAt ES (c, k) 0) ∗ (four fun r => ringR c r) ∗ four fun k => bfR c k)

/-- The buffers of its own. -/
def bufs : sProp (MT nD τ sig ℕ (Elt F) ℕ UU ℕ) :=
  iprop(any c cM ∗ any c dM ∗ any c qM ∗ any c bM ∗ any c gM)

/-- All its semaphores at zero. -/
def zeros : sProp (MT nD τ sig ℕ (Elt F) ℕ UU ℕ) := bigSep Finset.univ fun x : Cell => semVal (gcell c x) 0

theorem slots_begin : (iprop((bigSep Finset.univ fun k : Slot => readerAt ES (c, k) 0) ∗ any c cM ∗ any c dM ∗ any c gM) : sProp 𝕄)
    ⊢ bigSep Finset.univ fun k : Slot => iprop(readerAt ES (c, k) 0 ∗ slotP c k) := by
  have h : (iprop(any c cM ∗ any c dM ∗ any c gM) : sProp 𝕄) ⊢ bigSep Finset.univ fun k : Slot => slotP c k := by
    rw [slots_split]
    iintro ⟨H1, H2, H3⟩
    ihave H1 := (any_slot (F := F) c cM).1 $$ H1
    ihave H2 := (any_slot (F := F) c dM).1 $$ H2
    ihave H3 := (any_slotB (F := F) c).1 $$ H3
    icases H1 with ⟨A0, A1, A2, A3⟩
    icases H2 with ⟨B0, B1, B2, B3⟩
    isplitr [H3]
    · isplitl [A0 B0]
      · isplitl [A0]; · iexact A0
        iexact B0
      isplitl [A1 B1]
      · isplitl [A1]; · iexact A1
        iexact B1
      isplitl [A2 B2]
      · isplitl [A2]; · iexact A2
        iexact B2
      isplitl [A3]; · iexact A3
      iexact B3
    iexact H3
  rw [bigSep_sep']
  exact sep_mono_right h

theorem mid_facts (d : Dev nD) : (mid X W c 0 : sProp 𝕄) ⊢ facts d := by
  have hf : facts ⟨ch 0 (hopOf 0 ⟨d.val, d.isLt⟩ c) c, ch_lt _ _ _⟩ = (facts d : sProp 𝕄) := congrArg facts (Fin.ext (congrArg Fin.val (ch_hopOf 0 ⟨d.val, d.isLt⟩ c)))
  have h : (heard c 0 15 : sProp 𝕄) ⊢ facts d :=
    (heard_at c 0 15 (hopOf 0 ⟨d.val, d.isLt⟩ c) (by have := hopOf_lt 0 ⟨d.val, d.isLt⟩ c; omega) (by have := hopOf_lt 0 ⟨d.val, d.isLt⟩ c; omega)).trans (Entails.of_eq hf)
  unfold mid rest base
  iintro ⟨⟨-, -, -, -, -, -, -, -, -, -, -, H⟩, -⟩
  iapply h $$ H

set_option maxHeartbeats 1000000 in
/-- The body of a device, from what it starts with to the result. -/
theorem wp_body (q q' : PosShare TreeShare) :
    iprop(env X W K ιs ∗ due c 0 ∗ begin' c ∗ ins X W c q q' ∗ any c oM ∗ bufs c)
      ⊢ WP c theBody (fun _ => iprop(due c 242 ∗ ins X W c q q' ∗ owns (c.tc : Thread nD τ) oM fullShare (outV X W c) ∗ bufs c ∗ zeros c)) := by
  rw [body_eq]
  unfold begin' bufs WP
  rw [wp_deviceId]
  iintro ⟨#He, Ho, ⟨Hbar, Hrd, Hr, Hbf⟩, Hi, HO, ⟨HC, HD, HQ, HB, HG⟩⟩
  ihave Hsl := (slots_begin (F := F) c) $$ [Hrd HC HD HG]
  · iframe Hrd HC HD HG
  iapply (wp_seg1 X W K ιs c q q' _) $$ [Ho Hbar Hsl Hr Hi HO]
  · iframe He Ho Hbar Hsl Hr Hi HO
  iintro ⟨HI, Hi, Hbar, -⟩
  iapply (wp_loop1 X W K ιs c) $$ HI
  iintro HI
  iapply (wp_seg2 X W K ιs c _) $$ HI
  iintro ⟨Ho, ⟨M0, M1, M2, M3⟩⟩
  ihave M0 := (persistent_entails_right (mid_facts X W c (px 0 c))) $$ M0
  icases M0 with ⟨#F0, M0⟩
  ihave M0 := (persistent_entails_right (mid_facts X W c (px 1 c))) $$ M0
  icases M0 with ⟨#F1, M0⟩
  ihave M0 := (persistent_entails_right (mid_facts X W c (px 2 c))) $$ M0
  icases M0 with ⟨#F2, M0⟩
  ihave M0 := (persistent_entails_right (mid_facts X W c (px 3 c))) $$ M0
  icases M0 with ⟨#F3, M0⟩
  icases Hbf with ⟨B0, B1, B2, B3⟩
  iapply (wp_seg3 X W K ιs c _) $$ [Ho M0 M1 M2 M3 B0 B1 B2 B3 HB]
  · isplitr; · iexact He
    isplitl [Ho]; · iexact Ho
    isplitl [M0 M1 M2 M3]; · iframe M0 M1 M2 M3
    isplitl [B0 B1 B2 B3]
    · isplitl [B0]; · iframe B0; iexact F0
      isplitl [B1]; · iframe B1; iexact F1
      isplitl [B2]; · iframe B2; iexact F2
      iframe B3; iexact F3
    iexact HB
  iintro ⟨Ho, ⟨M0, M1, M2, M3⟩, ⟨B0, B1, B2, B3⟩, HB⟩
  ihave HQ := (any_strips (F := F) c).1 $$ HQ
  icases HQ with ⟨Q0, Q1, Q2, Q3⟩
  iapply (wp_seg4 X W K ιs c rfl _) $$ [Ho M0 M1 M2 M3 Q0 Q1 Q2 Q3]
  · iframe He Ho M0 M1 M2 M3 Q0 Q1 Q2 Q3
  iintro ⟨HI, ⟨O0, O1, O2, O3⟩⟩
  iapply (wp_loop2 X W K ιs c rfl) $$ HI
  iintro HI
  iapply (wp_seg5 X W K ιs c rfl _) $$ HI
  unfold fin
  iintro ⟨Ho, ⟨R0, P0, Q0⟩, ⟨R1, P1, Q1⟩, ⟨R2, P2, Q2⟩, ⟨R3, P3, Q3⟩⟩
  unfold WP
  rw [wp_ret]
  imod (ring_end X W K ιs c 0) $$ [R0] with ⟨A0, A0', C0, S0, T0⟩
  · iframe He R0
  imod (ring_end X W K ιs c 1) $$ [R1] with ⟨A1, A1', C1, S1, T1⟩
  · iframe He R1
  imod (ring_end X W K ιs c 2) $$ [R2] with ⟨A2, A2', C2, S2, T2⟩
  · iframe He R2
  imod (ring_end X W K ιs c 3) $$ [R3] with ⟨A3, A3', C3, S3, T3⟩
  · iframe He R3
  imod (bf_end X W K ιs c 0) $$ [B0] with ⟨D0, E0, G0⟩
  · iframe He B0
  imod (bf_end X W K ιs c 1) $$ [B1] with ⟨D1, E1, G1⟩
  · iframe He B1
  imod (bf_end X W K ιs c 2) $$ [B2] with ⟨D2, E2, G2⟩
  · iframe He B2
  imod (bf_end X W K ιs c 3) $$ [B3] with ⟨D3, E3, G3⟩
  · iframe He B3
  imod (shut X W K ιs c cBar 1 (fun q hq => if_neg (by omega))) $$ [Hbar] with Z
  · iframe He Hbar
  imodintro
  isplitl [Ho]; · iexact Ho
  isplitl [Hi]; · iexact Hi
  isplitl [O0 O1 O2 O3 P0 P1 P2 P3]
  · iapply (out_end X W c)
    iframe O0 O1 O2 O3 P0 P1 P2 P3
  isplitl [S0 S1 S2 S3 T0 T1 T2 T3 Q0 Q1 Q2 Q3 HB G0 G1 G2 G3]
  · isplitl [S0 S1 S2 S3]
    · iapply (any_slot (F := F) c cM).2
      iframe S0 S1 S2 S3
    isplitl [T0 T1 T2 T3]
    · iapply (any_slot (F := F) c dM).2
      iframe T0 T1 T2 T3
    isplitl [Q0 Q1 Q2 Q3]
    · iapply (any_strips (F := F) c).2
      iframe Q0 Q1 Q2 Q3
    isplitl [HB]; · iexact HB
    iapply (any_slotB (F := F) c).2
    iframe G0 G1 G2 G3
  unfold zeros
  iapply (Entails.of_eq (cells_split (F := F) fun x : Cell => semVal (gcell c x) 0).symm)
  iframe Z A0 A1 A2 A3 A0' A1' A2' A3' C0 C1 C2 C3 D0 D1 D2 D3 E0 E1 E2 E3

end

end Cert.AR
-- ==== Proof.Deal.lean ====
/-
How the tokens and credits of the launch are dealt to the devices.
-/
module

public import proofs.«01_k».proof.Proof.Body
public import Idealize.ShloMosaic.Lib.Pipeline.Launch
public import Idealize.ShloMosaic.Lib.Pipeline.Kit

@[expose] public section

set_option maxRecDepth 20000

namespace Cert.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (readerAt released writeTok slotInv)

variable {F : FTy → Type} [FloatOps F]

noncomputable section

local notation "𝕄" => MT nD τ sig ℕ (Elt F) ℕ UU ℕ

variable (X : Dev nD → Vec F S4096x256 .f32) (W : Dev nD → Vec F S256x2048 .f32) (K : Dev nD × Cell → ℕ) (ιs : KS → ℕ) (c : Dev nD)

variable {Q : PUnit → sProp (MT nD τ sig ℕ (Elt F) ℕ UU ℕ)}

/-! ### What each device pays with -/

/-- The payments of a device and the landings it pays itself: of its sends, of its exchanges. -/
abbrev Ev' := Ev ⊕ (Fin 4 × Fin 30) ⊕ Fin 4

def toT (c : Dev nD) : Ev' → Dev nD
  | .inl e => evTo c e
  | .inr _ => c
def cellT : Ev' → Cell
  | .inl e => evCell e
  | .inr (.inl p) => cSnd p.1 (par p.2.val)
  | .inr (.inr k) => cBfs k
def rndT : Ev' → ℕ
  | .inl (.inr (.inl p)) => p.2.val / 2
  | .inr (.inl p) => p.2.val / 2
  | _ => 0
def dutT : Ev' → ℕ
  | .inl (.inl i) => 1 - i.val
  | .inl (.inr (.inr (.inl p))) => p.2.val
  | _ => 0

/-- Who pays a device a given payment. -/
def evBack (d : Dev nD) : Ev → Dev nD
  | .inl i => if i.val = 0 then dn 0 d else up 0 d
  | .inr (.inl p) => up p.1.val d
  | .inr (.inr (.inl p)) => dn p.1.val d
  | .inr (.inr (.inr k)) => px k.val d

theorem evTo_back (d : Dev nD) (e : Ev) : evTo (evBack d e) e = d := by
  rcases e with i | p | p | k
  · unfold evTo evBack; fin_cases i
    · exact up_dn 0 d
    · exact dn_up 0 d
  · exact dn_up _ d
  · exact up_dn _ d
  · exact px_px k d
theorem evBack_to (d : Dev nD) (e : Ev) : evBack (evTo d e) e = d := by
  rcases e with i | p | p | k
  · unfold evTo evBack; fin_cases i
    · exact dn_up 0 d
    · exact up_dn 0 d
  · exact up_dn _ d
  · exact dn_up _ d
  · exact px_px k d

theorem toT_inj (e : Ev') {c c' : Dev nD} (h : toT c e = toT c' e) : c = c' := by
  rcases e with e | e
  · have h : evTo c e = evTo c' e := h
    rw [← evBack_to c e, h, evBack_to]
  · exact h

/-- A number for each semaphore. -/
def num : Cell → ℕ
  | .inl _ => 0
  | .inr (.inl p) => 1 + 2 * p.1.val + p.2.val
  | .inr (.inr (.inl p)) => 9 + 2 * p.1.val + p.2.val
  | .inr (.inr (.inr (.inl r))) => 17 + r.val
  | .inr (.inr (.inr (.inr (.inl r)))) => 21 + r.val
  | .inr (.inr (.inr (.inr (.inr r)))) => 25 + r.val
def codeT (e : Ev') : ℕ := (num (cellT e) * 64 + rndT e) * 64 + dutT e
theorem codeT_inj : Function.Injective codeT := by decide +kernel

abbrev tokOf (x : Dev nD × Ev') : GSem nD τ sig × ℕ × ℕ := (gcell (toT x.1 x.2) (cellT x.2), rndT x.2, dutT x.2)

theorem gcell_inj {d d' : Dev nD} {x x' : Cell} (h : gcell d x = gcell d' x') : d = d' ∧ x = x' :=
  ⟨congrArg (fun g : GSem nD τ sig => g.1.1) h, csem_inj (congrArg Prod.snd h)⟩

theorem tokOf_inj : Function.Injective tokOf := by
  rintro ⟨c, e⟩ ⟨c', e'⟩ h
  have h1 := gcell_inj (congrArg (fun x : GSem nD τ sig × ℕ × ℕ => x.1) h)
  have h2 : rndT e = rndT e' := congrArg (fun x : GSem nD τ sig × ℕ × ℕ => x.2.1) h
  have h3 : dutT e = dutT e' := congrArg (fun x : GSem nD τ sig × ℕ × ℕ => x.2.2) h
  have he : e = e' := codeT_inj (by unfold codeT; rw [h1.2, h2, h3])
  subst he
  have hc : c = c' := toT_inj e h1.1
  rw [hc]

def allToks : Finset (GSem nD τ sig × ℕ × ℕ) := Finset.univ.map ⟨tokOf, tokOf_inj⟩

abbrev cellOf' (x : Dev nD × Cell) : GSem nD τ sig := gcell x.1 x.2
theorem cellOf'_inj : Function.Injective cellOf' := fun ⟨c, x⟩ ⟨c', x'⟩ h => by
  have h1 : c = c' := (gcell_inj h).1
  have h2 : x = x' := (gcell_inj h).2
  rw [h1, h2]
def allCells : Finset (GSem nD τ sig) := Finset.univ.map ⟨cellOf', cellOf'_inj⟩

/-! ### The writes each device makes -/

abbrev Wr := (Fin 4 × Fin 30) ⊕ Fin 4

def wTo (c : Dev nD) : Wr → Dev nD
  | .inl p => dn p.1.val c
  | .inr k => px k.val c
def wKey : Wr → Slot
  | .inl p => key p.1 p.2.val
  | .inr k => .inr k
def wNum : Wr → ℕ
  | .inl p => wno p.2.val - 1
  | .inr _ => 0

theorem wno_pos (h : ℕ) : wno h - 1 + 1 = wno h := by unfold wno; split_ifs <;> omega
theorem wNum_lt (e : Wr) : wNum e < 8 := by
  rcases e with p | k
  · have := p.2.isLt; show wno p.2.val - 1 < 8; unfold wno; split_ifs <;> omega
  · show 0 < 8; omega

def numS : Slot → ℕ
  | .inl (b, r, s) => (if b then 8 else 0) + 2 * r.val + s.val
  | .inr k => 16 + k.val
def codeW (e : Wr) : ℕ := numS (wKey e) * 64 + wNum e
theorem codeW_inj : Function.Injective codeW := by decide +kernel

theorem wTo_inj (e : Wr) {c c' : Dev nD} (h : wTo c e = wTo c' e) : c = c' := by
  rcases e with p | k
  · have h : dn p.1.val c = dn p.1.val c' := h
    rw [← up_dn p.1.val c, h, up_dn]
  · have h : px k.val c = px k.val c' := h
    rw [← px_px k c, h, px_px]

abbrev wrOf (x : Dev nD × Wr) : KS × ℕ := ((wTo x.1 x.2, wKey x.2), wNum x.2)
theorem wrOf_inj : Function.Injective wrOf := by
  rintro ⟨c, e⟩ ⟨c', e'⟩ h
  have h1 : wTo c e = wTo c' e' := congrArg (fun x : KS × ℕ => x.1.1) h
  have h2 : wKey e = wKey e' := congrArg (fun x : KS × ℕ => x.1.2) h
  have h3 : wNum e = wNum e' := congrArg (fun x : KS × ℕ => x.2) h
  have he : e = e' := codeW_inj (by unfold codeW; rw [h2, h3])
  subst he
  rw [wTo_inj e h1]

/-! ### A device's share -/

def payT : sProp (MT nD τ sig ℕ (Elt F) ℕ UU ℕ) := bigSep Finset.univ fun e : Ev' => dutyTok ER (gcell (toT c e) (cellT e)) (rndT e) (dutT e)
def wrT : sProp (MT nD τ sig ℕ (Elt F) ℕ UU ℕ) := bigSep Finset.univ fun e : Wr => writeTok ES (wTo c e, wKey e) (wNum e + 1)
def credT : sProp (MT nD τ sig ℕ (Elt F) ℕ UU ℕ) := bigSep Finset.univ fun e : Ev => cred (tallyAt (gcell c (evCell e)) (evIx e) (evAmt e))
def posT : sProp (MT nD τ sig ℕ (Elt F) ℕ UU ℕ) := bigSep Finset.univ fun x : Cell => atPos ER (gcell c x) 0 ∅ 0

theorem toks_deal : (bigSep allToks fun x => (dutyTok ER x.1 x.2.1 x.2.2 : sProp 𝕄)) = bigSep Finset.univ fun c : Dev nD => payT c := by
  unfold allToks payT; rw [bigSep_map, bigSep_univ_prod]; rfl

theorem cells_deal (Φ : GSem nD τ sig → sProp 𝕄) : bigSep allCells Φ = bigSep Finset.univ fun c : Dev nD => bigSep Finset.univ fun x : Cell => Φ (gcell c x) := by
  unfold allCells; rw [bigSep_map, bigSep_univ_prod]; rfl

theorem writes_deal : (bigSep ((Finset.univ : Finset KS) ×ˢ Finset.range 8) fun x => (writeTok ES x.1 (x.2 + 1) : sProp 𝕄)) ⊢ bigSep Finset.univ fun c : Dev nD => wrT c := by
  have hs : Finset.univ.map ⟨wrOf, wrOf_inj⟩ ⊆ (Finset.univ : Finset KS) ×ˢ Finset.range 8 := by
    intro x hx
    obtain ⟨y, -, rfl⟩ := Finset.mem_map.mp hx
    exact Finset.mem_product.mpr ⟨Finset.mem_univ _, Finset.mem_range.mpr (wNum_lt y.2)⟩
  refine BIBase.Entails.trans (bigSep_subset hs) (Entails.of_eq ?_)
  unfold wrT; rw [bigSep_map, bigSep_univ_prod]; rfl

theorem creds_deal : (Pipeline.launchCred (fun d => owed d 0) c : sProp 𝕄) ⊢ credT c := by
  have h0 : (fun d : Dev nD => owed d 0) = fun d => ∑ e ∈ (Finset.univ : Finset Ev), pay d e := funext fun d => by
    unfold owed; rw [Finset.filter_true_of_mem (fun e _ => Nat.zero_le _)]
  rw [h0, Pipeline.launchCred_sum]
  unfold credT
  exact bigSep_mono fun e _ => Pipeline.launchCred_tallyAt (csem (evCell e)) (fun d => evTo d e) (fun d => evBack d e) (fun d => evTo_back d e) (fun d => evBack_to d e) (evIx e) (evAmt e) c

theorem fin_Ico (n : ℕ) (f : ℕ → sProp 𝕄) : (bigSep Finset.univ fun i : Fin n => f i.val) = bigSep (Finset.Ico 0 n) f := by
  have h : Finset.Ico 0 n = Finset.univ.map (Fin.valEmbedding : Fin n ↪ ℕ) := by
    ext i
    simp only [Finset.mem_Ico, Nat.zero_le, true_and, Finset.mem_map, Finset.mem_univ, Fin.valEmbedding_apply]
    exact ⟨fun h => ⟨⟨i, h⟩, rfl⟩, fun ⟨j, hj⟩ => hj ▸ j.isLt⟩
  rw [h, bigSep_map]; rfl

theorem prod_Ico (n : ℕ) (f : Fin 4 → ℕ → sProp 𝕄) : (bigSep Finset.univ fun p : Fin 4 × Fin n => f p.1 p.2.val) = four fun r => bigSep (Finset.Ico 0 n) (f r) :=
  (bigSep_univ_prod _).trans ((bigSep_four _).trans (congrArg four (funext fun r => fin_Ico n (f r))))

theorem sum_split (A B : Type) [Fintype A] [Fintype B] [DecidableEq A] [DecidableEq B] (Ψ : A ⊕ B → sProp 𝕄) :
    bigSep Finset.univ Ψ = iprop((bigSep Finset.univ fun a => Ψ (.inl a)) ∗ bigSep Finset.univ fun b => Ψ (.inr b)) := bigSep_univ_sum Ψ

theorem pay_split : (payT c : sProp 𝕄) ⊢ iprop((dutyTok ER (gcell (up 0 c) cBar) 0 1 ∗ dutyTok ER (gcell (dn 0 c) cBar) 0 0)
    ∗ (four fun r => bigSep (Finset.Ico 0 30) fun h => dutyTok ER (gcell (dn r.val c) (cRcv r (par h))) (h / 2) 0)
    ∗ (four fun r => bigSep (Finset.Ico 0 28) (ctok c r))
    ∗ (four fun k => dutyTok ER (gcell (px k.val c) (cBfr k)) 0 0)
    ∗ (four fun r => bigSep (Finset.Ico 0 30) fun h => dutyTok ER (gcell c (cSnd r (par h))) (h / 2) 0)
    ∗ four fun k => dutyTok ER (gcell c (cBfs k)) 0 0) := by
  unfold payT
  rw [sum_split, sum_split, sum_split, sum_split, sum_split, bigSep_univ_two]
  show iprop(((dutyTok ER (gcell (up 0 c) cBar) 0 1 ∗ dutyTok ER (gcell (dn 0 c) cBar) 0 0)
    ∗ (bigSep Finset.univ fun p : Fin 4 × Fin 30 => dutyTok ER (gcell (dn p.1.val c) (cRcv p.1 (par p.2.val))) (p.2.val / 2) 0)
    ∗ (bigSep Finset.univ fun p : Fin 4 × Fin 28 => ctok c p.1 p.2.val)
    ∗ (bigSep Finset.univ fun k : Fin 4 => dutyTok ER (gcell (px k.val c) (cBfr k)) 0 0))
    ∗ (bigSep Finset.univ fun p : Fin 4 × Fin 30 => dutyTok ER (gcell c (cSnd p.1 (par p.2.val))) (p.2.val / 2) 0)
    ∗ (bigSep Finset.univ fun k : Fin 4 => dutyTok ER (gcell c (cBfs k)) 0 0)) ⊢ _
  iintro ⟨⟨H1, H2, H3, H4⟩, H5, H6⟩
  isplitl [H1]; · iexact H1
  isplitl [H2]; · iapply (Entails.of_eq (prod_Ico 30 fun r h => (dutyTok ER (gcell (dn r.val c) (cRcv r (par h))) (h / 2) 0 : sProp 𝕄))) $$ H2
  isplitl [H3]; · iapply (Entails.of_eq (prod_Ico 28 fun r h => (ctok c r h : sProp 𝕄))) $$ H3
  isplitl [H4]; · iapply (Entails.of_eq (bigSep_four fun k => (dutyTok ER (gcell (px k.val c) (cBfr k)) 0 0 : sProp 𝕄))) $$ H4
  isplitl [H5]; · iapply (Entails.of_eq (prod_Ico 30 fun r h => (dutyTok ER (gcell c (cSnd r (par h))) (h / 2) 0 : sProp 𝕄))) $$ H5
  iapply (Entails.of_eq (bigSep_four fun k => (dutyTok ER (gcell c (cBfs k)) 0 0 : sProp 𝕄))) $$ H6

theorem wr_split : (wrT c : sProp 𝕄) ⊢ iprop((four fun r => bigSep (Finset.Ico 0 30) fun h => writeTok ES (dn r.val c, key r h) (wno h))
    ∗ four fun k => writeTok ES (px k.val c, .inr k) 1) := by
  have h1 : (bigSep Finset.univ fun p : Fin 4 × Fin 30 => (writeTok ES (wTo c (.inl p), wKey (.inl p)) (wNum (.inl p) + 1) : sProp 𝕄)) = bigSep Finset.univ fun p : Fin 4 × Fin 30 => writeTok ES (dn p.1.val c, key p.1 p.2.val) (wno p.2.val) :=
    bigSep_congr fun p _ => congrArg (fun n => (writeTok ES (dn p.1.val c, key p.1 p.2.val) n : sProp 𝕄)) (wno_pos p.2.val)
  unfold wrT
  rw [sum_split, h1]
  show iprop((bigSep Finset.univ fun p : Fin 4 × Fin 30 => writeTok ES (dn p.1.val c, key p.1 p.2.val) (wno p.2.val)) ∗ bigSep Finset.univ fun k : Fin 4 => writeTok ES (px k.val c, .inr k) 1) ⊢ _
  iintro ⟨H1, H2⟩
  isplitl [H1]; · iapply (Entails.of_eq (prod_Ico 30 fun r h => (writeTok ES (dn r.val c, key r h) (wno h) : sProp 𝕄))) $$ H1
  iapply (Entails.of_eq (bigSep_four fun k => (writeTok ES (px k.val c, .inr k) 1 : sProp 𝕄))) $$ H2

theorem cred_split : (credT c : sProp 𝕄) ⊢ iprop(cred (tallyAt (gcell c cBar) 0 2)
    ∗ (four fun r => bigSep (Finset.Ico 0 30) (rcr c r)) ∗ (four fun r => bigSep (Finset.Ico 0 28) (ccr c r)) ∗ four fun k => cred (tallyAt (gcell c (cBfr k)) 0 nB)) := by
  have h2 : (iprop(cred (tallyAt (gcell c cBar) 0 1) ∗ cred (tallyAt (gcell c cBar) 0 1)) : sProp 𝕄) ⊢ cred (tallyAt (gcell c cBar) 0 2) :=
    (cred_add _ _).2.trans (Entails.of_eq (congrArg cred (tallyAt_add _ _ 1 1)))
  unfold credT
  rw [sum_split, sum_split, sum_split, bigSep_univ_two]
  show iprop((cred (tallyAt (gcell c cBar) 0 1) ∗ cred (tallyAt (gcell c cBar) 0 1)) ∗ (bigSep Finset.univ fun p : Fin 4 × Fin 30 => rcr c p.1 p.2.val)
    ∗ (bigSep Finset.univ fun p : Fin 4 × Fin 28 => ccr c p.1 p.2.val) ∗ bigSep Finset.univ fun k : Fin 4 => cred (tallyAt (gcell c (cBfr k)) 0 nB)) ⊢ _
  iintro ⟨H1, H2, H3, H4⟩
  isplitl [H1]; · iapply h2 $$ H1
  isplitl [H2]; · iapply (Entails.of_eq (prod_Ico 30 fun r h => (rcr c r h : sProp 𝕄))) $$ H2
  isplitl [H3]; · iapply (Entails.of_eq (prod_Ico 28 fun r h => (ccr c r h : sProp 𝕄))) $$ H3
  iapply (Entails.of_eq (bigSep_four fun k => (cred (tallyAt (gcell c (cBfr k)) 0 nB) : sProp 𝕄))) $$ H4

theorem tok_join (r : Fin 4) : (iprop((bigSep (Finset.Ico 0 30) fun h => dutyTok ER (gcell c (cSnd r (par h))) (h / 2) 0) ∗ (bigSep (Finset.Ico 0 30) fun h => dutyTok ER (gcell (dn r.val c) (cRcv r (par h))) (h / 2) 0)
    ∗ bigSep (Finset.Ico 0 30) fun h => writeTok ES (dn r.val c, key r h) (wno h)) : sProp 𝕄) ⊢ bigSep (Finset.Ico 0 30) (tok c r) := by
  rw [show (bigSep (Finset.Ico 0 30) (tok c r) : sProp 𝕄) = _ from bigSep_sep' (Finset.Ico 0 30) (fun h => (dutyTok ER (gcell c (cSnd r (par h))) (h / 2) 0 : sProp 𝕄))
    (fun h => iprop(dutyTok ER (gcell (dn r.val c) (cRcv r (par h))) (h / 2) 0 ∗ writeTok ES (dn r.val c, key r h) (wno h))), bigSep_sep']

set_option maxHeartbeats 1000000 in
/-- A device's share of everything is what it begins with. -/
theorem begin_intro : (iprop(posT c ∗ (bigSep Finset.univ fun k : Slot => readerAt ES (c, k) 0) ∗ payT c ∗ wrT c ∗ credT c) : sProp 𝕄) ⊢ begin' c := by
  have hp : (posT c : sProp 𝕄) = _ := cells_split (F := F) fun x : Cell => atPos ER (gcell c x) 0 ∅ 0
  rw [hp]
  unfold begin' barR ringR bfR
  iintro ⟨⟨A, ⟨S0, S1, S2, S3⟩, ⟨R0, R1, R2, R3⟩, ⟨C0, C1, C2, C3⟩, ⟨D0, D1, D2, D3⟩, E0, E1, E2, E3⟩, Hrd, Hp, Hw, Hc⟩
  ihave Hp := (pay_split (F := F) c) $$ Hp
  icases Hp with ⟨⟨P, P'⟩, ⟨V0, V1, V2, V3⟩, ⟨T0, T1, T2, T3⟩, ⟨B0, B1, B2, B3⟩, ⟨U0, U1, U2, U3⟩, G0, G1, G2, G3⟩
  ihave Hw := (wr_split (F := F) c) $$ Hw
  icases Hw with ⟨⟨W0, W1, W2, W3⟩, Y0, Y1, Y2, Y3⟩
  ihave Hc := (cred_split (F := F) c) $$ Hc
  icases Hc with ⟨Z, ⟨M0, M1, M2, M3⟩, ⟨N0, N1, N2, N3⟩, O0, O1, O2, O3⟩
  ihave K0 := (tok_join (F := F) c 0) $$ [U0 V0 W0]
  · iframe U0 V0 W0
  ihave K1 := (tok_join (F := F) c 1) $$ [U1 V1 W1]
  · iframe U1 V1 W1
  ihave K2 := (tok_join (F := F) c 2) $$ [U2 V2 W2]
  · iframe U2 V2 W2
  ihave K3 := (tok_join (F := F) c 3) $$ [U3 V3 W3]
  · iframe U3 V3 W3
  isplitl [P P' A Z]; · iframe P P' A Z
  isplitl [Hrd]; · iexact Hrd
  isplitr [D0 D1 D2 D3 E0 E1 E2 E3 G0 G1 G2 G3 B0 B1 B2 B3 Y0 Y1 Y2 Y3 O0 O1 O2 O3]
  · isplitl [S0 R0 C0 M0 K0 T0 N0]; · iframe S0 R0 C0 M0 K0 T0 N0
    isplitl [S1 R1 C1 M1 K1 T1 N1]; · iframe S1 R1 C1 M1 K1 T1 N1
    isplitl [S2 R2 C2 M2 K2 T2 N2]; · iframe S2 R2 C2 M2 K2 T2 N2
    iframe S3 R3 C3 M3 K3 T3 N3
  isplitl [D0 E0 G0 B0 Y0 O0]; · iframe D0 E0 G0 B0 Y0 O0
  isplitl [D1 E1 G1 B1 Y1 O1]; · iframe D1 E1 G1 B1 Y1 O1
  isplitl [D2 E2 G2 B2 Y2 O2]; · iframe D2 E2 G2 B2 Y2 O2
  iframe D3 E3 G3 B3 Y3 O3

end

end Cert.AR
-- ==== Proof.Launch.lean ====
/-
The launch: every device runs its body, and the arrays hold what it computes.
-/
module

public import proofs.«01_k».proof.Proof.Deal
public import proofs.«01_k».proof.Proof.Gen.KernelIdeal.Frame
public import Idealize.ShloMosaic.Lib.Pipeline.CollectiveSegs

@[expose] public section

set_option maxRecDepth 20000

namespace Cert.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (readerAt released writeTok slotInv)

variable {F : FTy → Type} [FloatOps F]

noncomputable section

local notation "𝕄" => MT nD τ sig ℕ (Elt F) ℕ UU ℕ

variable (X : Dev nD → Vec F S4096x256 .f32) (W : Dev nD → Vec F S256x2048 .f32) (K : Dev nD × Cell → ℕ) (ιs : KS → ℕ) (c : Dev nD)

variable {Q : PUnit → sProp (MT nD τ sig ℕ (Elt F) ℕ UU ℕ)}

open Idealize.ShloMosaic.Pipeline (Dat Cfg Window BodyObligation cellOf kernel pipe)

variable (m : (ℓ : Loc nD τ sig) → Buf (Elt F) ℓ) (ρ : Dev nD → PrngReg)

/-! ### The data of the region -/

/-- A device's columns of the left matrix, and its rows of the right one. -/
def xin (c : Dev nD) : Vec F S4096x256 .f32 := iblk m c (0 : Fin 3) t0_0
def win (c : Dev nD) : Vec F S256x2048 .f32 := iblk m c (1 : Fin 3) t0_0

/-- What a device begins with, its buffers apart. -/
def start : sProp (MT nD τ sig ℕ (Elt F) ℕ UU ℕ) := iprop(∃ K ιs, env (xin m) (win m) K ιs ∗ begin' c)

def Φ₀ : sProp (MT nD τ sig ℕ (Elt F) ℕ UU ℕ) := iprop(start c m ∗ bufs c)
def Φ₁ : sProp (MT nD τ sig ℕ (Elt F) ℕ UU ℕ) := iprop(bufs c ∗ zeros c)

def dats (_ : Fin 1) (c : Dev nD) : Dat τ (Elt F) ℕ ℕ UU ℕ cfg0 c where
  A w := V m c (Pipeline.arrRef spec0 w)
  after w _ := match w with
    | ⟨0, _⟩ => xin m c
    | ⟨1, _⟩ => win m c
    | ⟨2, _⟩ => outV (xin m) (win m) c
  Φ t := match t with
    | ⟨0, _⟩ => Φ₀ c m
    | ⟨_ + 1, _⟩ => Φ₁ c
  q _ := fullShare
  owed t := match t with
    | ⟨0, _⟩ => owed c 0
    | ⟨_ + 1, _⟩ => 0

theorem owed_last : owed c 242 = 0 := owed_end c 242 (by decide +kernel)

theorem before_0 (d) : (dats m 0 c).before (0 : Fin 3) t0_0 d = xin m c := by
  unfold Dat.before; rw [if_pos (fetch0_0 t0_0)]; rfl
theorem before_1 (d) : (dats m 0 c).before (1 : Fin 3) t0_0 d = win m c := by
  unfold Dat.before; rw [if_pos (fetch0_1 t0_0)]; rfl

def bodyPre : sProp (MT nD τ sig ℕ (Elt F) ℕ UU ℕ) :=
  iprop(Φ₀ c m ∗ (dats m 0 c).owesAt 0 t0_0.castSucc
    ∗ (∃ d, owns (c.tc : Thread nD τ) xM fullShare ((dats m 0 c).before (0 : Fin 3) t0_0 d))
    ∗ (∃ d, owns (c.tc : Thread nD τ) wM fullShare ((dats m 0 c).before (1 : Fin 3) t0_0 d))
    ∗ (∃ d, owns (c.tc : Thread nD τ) oM fullShare ((dats m 0 c).before (2 : Fin 3) t0_0 d)))
def bodyPost : sProp (MT nD τ sig ℕ (Elt F) ℕ UU ℕ) :=
  iprop(Φ₁ c ∗ (dats m 0 c).owesAt 0 t0_0.succ
    ∗ owns (c.tc : Thread nD τ) xM fullShare (xin m c)
    ∗ owns (c.tc : Thread nD τ) wM fullShare (win m c)
    ∗ owns (c.tc : Thread nD τ) oM fullShare (outV (xin m) (win m) c))

theorem owes_start : ((dats m 0 c).owesAt 0 t0_0.castSucc : sProp 𝕄) ⊢ due c 0 := by
  unfold Dat.owesAt Pipeline.owesWithin due
  iintro ⟨%V', %hV, H⟩
  iexists V'
  iexact H

theorem owes_end : (due c 242 : sProp 𝕄) ⊢ (dats m 0 c).owesAt 0 t0_0.succ := by
  have h : (due c 242 : sProp 𝕄) = iprop(∃ V, owes (c.tc : Thread nD τ) 0 V) := by unfold due; rw [owed_last]
  rw [h]
  unfold Dat.owesAt Pipeline.owesWithin
  iintro ⟨%V', H⟩
  iexists V'
  isplitr
  · ipureintro; exact fun _ _ => Or.inl trivial
  iexact H

theorem wp_all : (bodyPre c m : sProp 𝕄) ⊢ WP c theBody (fun _ => bodyPost c m) := by
  have h : ∀ K ιs, iprop(env (xin m) (win m) K ιs ∗ due c 0 ∗ begin' c ∗ ins (xin m) (win m) c fullShare fullShare ∗ any c oM ∗ bufs c) ⊢ WP c theBody (fun _ => bodyPost c m) := by
    intro K ιs
    refine (wp_body (xin m) (win m) K ιs c fullShare fullShare).trans (wp_mono frame (wpE (defs₀ (F := F)) 𝒱₀ (c.tc : Thread nD τ) none) Set.univ fun _ => ?_)
    unfold bodyPost Φ₁ ins
    iintro ⟨Ho, ⟨Hx, Hw⟩, HO, Hb, Hz⟩
    isplitl [Hb Hz]; · iframe Hb Hz
    isplitl [Ho]; · iapply (owes_end c m) $$ Ho
    iframe Hx Hw HO
  unfold bodyPre Φ₀ start
  iintro ⟨⟨⟨%K, %ιs, He, Hb⟩, Hbufs⟩, Ho, ⟨%d0, Hx⟩, ⟨%d1, Hw⟩, ⟨%d2, HO⟩⟩
  ihave Hx := (Entails.of_eq (congrArg (fun Z => (owns (c.tc : Thread nD τ) xM fullShare Z : sProp 𝕄)) (before_0 c m d0))) $$ Hx
  ihave Hw := (Entails.of_eq (congrArg (fun Z => (owns (c.tc : Thread nD τ) wM fullShare Z : sProp 𝕄)) (before_1 c m d1))) $$ Hw
  ihave Ho := (owes_start c m) $$ Ho
  iapply (h K ιs)
  unfold ins
  isplitl [He]; · iexact He
  isplitl [Ho]; · iexact Ho
  isplitl [Hb]; · iexact Hb
  isplitl [Hx Hw]; · iframe Hx Hw
  isplitl [HO]; · iapply (any_of c oM _) $$ HO
  iexact Hbufs

theorem body_obligation (c : Dev nD) : BodyObligation (dats m 0 c) (defs₀ (F := F)) 𝒱₀ 0 Set.univ := fun t => by
  rw [fin_N0 t]
  have hW : ∀ Φ : Fin cfg0.W → sProp 𝕄, bigSep Finset.univ Φ = iprop(Φ (0 : Fin 3) ∗ Φ (1 : Fin 3) ∗ Φ (2 : Fin 3)) := fun Φ => bigSep_W0 Φ
  rw [hW, hW]
  exact wp_all c m

/-! ### The launch -/

abbrev osem : (Fin 4 × Fin 2) ⊕ (Fin 4 × Fin 2) ⊕ Fin 4 ⊕ Fin 4 ⊕ Fin 4 → SemLoc sig := fun x => csem (.inr x)

theorem ownSemFacts : Pipeline.OwnSemFacts cfg0.spec osem := by decide

theorem share_eq (c : Dev nD) (w : Fin cfg0.W) : (dats m 0 c).share w = fullShare := by unfold Dat.share; split <;> rfl

def u₀ : UU :=
  (initOf (Pipeline.cells cfgs cellOf_inj) (Pipeline.launchToks cfgs cellOf_inj), initOf allCells allToks, Release.initSlots Finset.univ 8)

/-- The slots' invariants at some names, with a device's counts and writes. -/
def slotT : sProp (MT nD τ sig ℕ (Elt F) ℕ UU ℕ) :=
  iprop(∃ ιs : KS → ℕ, (bigSep Finset.univ fun k : KS => slotInv ES (ιs k) k (slotP k.1 k.2)) ∗ (bigSep Finset.univ fun k : Slot => readerAt ES (c, k) 0) ∗ wrT c)

def G : sProp (MT nD τ sig ℕ (Elt F) ℕ UU ℕ) :=
  iprop((bigSep Finset.univ fun x : Cell => roundState ER (Rd (xin m) (win m)) (gcell c x) 0) ∗ posT c ∗ (bigSep Finset.univ fun x : Cell => reached ER (gcell c x) 0) ∗ payT c ∗ slotT c)

/-- What is known of all semaphores. -/
def known (K : Dev nD × Cell → ℕ) : sProp (MT nD τ sig ℕ (Elt F) ℕ UU ℕ) :=
  iprop((bigSep Finset.univ fun p : Dev nD × Cell => cellInv ER (Rd (xin m) (win m)) (K p) (gcell p.1 p.2)) ∗ bigSep Finset.univ fun p : Dev nD × Cell => reached ER (gcell p.1 p.2) 0)
instance known_pers (K : Dev nD × Cell → ℕ) : BI.Persistent (known m K) := by unfold known; infer_instance

def G' : sProp (MT nD τ sig ℕ (Elt F) ℕ UU ℕ) := iprop(∃ K, known m K ∗ posT c ∗ payT c ∗ slotT c)

theorem slots_fund : BI.own (ES (Release.initSlots (Finset.univ : Finset KS) 8)) ⊢ (|={Set.univ}=> bigSep Finset.univ fun c : Dev nD => slotT c : sProp 𝕄) := by
  iintro H
  imod (Release.slots_init ES (Finset.univ : Finset KS) 8 (fun k : KS => slotP k.1 k.2)) $$ H with ⟨%ιs, -, #Hi, Hr, Hw⟩
  imodintro
  ihave Hw := (writes_deal (F := F)) $$ Hw
  ihave Hr := (Entails.of_eq (show (bigSep (Finset.univ : Finset KS) fun k => (readerAt ES k 0 : sProp 𝕄)) = bigSep Finset.univ fun c : Dev nD => bigSep Finset.univ fun k : Slot => readerAt ES (c, k) 0 from bigSep_univ_prod _)) $$ Hr
  iapply (bigSep_with_persistent (R := bigSep Finset.univ fun k : KS => (slotInv ES (ιs k) k (slotP k.1 k.2) : sProp 𝕄)) (S := (Finset.univ : Finset (Dev nD)))
    (Φ := fun c => iprop((bigSep Finset.univ fun k : Slot => readerAt ES (c, k) 0) ∗ wrT c)) (Ψ := fun c => slotT c) (fun c _ => by
      unfold slotT
      iintro ⟨#Hi, Hr, Hw⟩
      iexists ιs
      iframe Hi Hr Hw))
  isplitr; · iexact Hi
  iapply (Entails.of_eq (bigSep_sep' Finset.univ (fun c : Dev nD => (bigSep Finset.univ fun k : Slot => readerAt ES (c, k) 0 : sProp 𝕄)) (fun c => wrT c)).symm)
  iframe Hr Hw

theorem fund_all : iprop(BI.own (ER (initOf allCells allToks)) ∗ BI.own (ES (Release.initSlots (Finset.univ : Finset KS) 8))) ⊢ (|={Set.univ}=> bigSep Finset.univ fun c : Dev nD => G c m : sProp 𝕄) := by
  iintro ⟨HX, HS⟩
  imod (slots_fund (F := F)) $$ HS with HS
  imod (Rounds.fund ER (Rd (xin m) (win m)) allCells allToks) $$ HX with ⟨Hst, Hr, Hat, Htok⟩
  imodintro
  ihave Hst := (Entails.of_eq (cells_deal (F := F) fun g => roundState ER (Rd (xin m) (win m)) g 0)) $$ Hst
  ihave Hat := (Entails.of_eq (cells_deal (F := F) fun g => atPos ER g 0 ∅ 0)) $$ Hat
  ihave Hr := (Entails.of_eq (cells_deal (F := F) fun g => reached ER g 0)) $$ Hr
  ihave Htok := (Entails.of_eq (toks_deal (F := F))) $$ Htok
  unfold G posT
  simp only [bigSep_sep']
  isplitl [Hst]; · iexact Hst
  isplitl [Hat]; · iexact Hat
  isplitl [Hr]; · iexact Hr
  isplitl [Htok]; · iexact Htok
  iexact HS

theorem unscoped_eq (c : Dev nD) : (unscopedSems0 c : sProp 𝕄) = semVal (gcell c cBar) 0 := by
  unfold unscopedSems0; rw [bigSep_eq_bigSepL_of_eq [SemLoc.reg barS] (by decide) (by decide)]; rfl

theorem zeros_eq (c : Dev nD) : (zeros c : sProp 𝕄) = iprop(unscopedSems0 c ∗ Pipeline.ownSems0 (Ix := ℕ) (Name := ℕ) (U := UU) (Lvl := ℕ) (Val := Elt F) (τ := τ) osem c) := by
  rw [unscoped_eq]
  unfold zeros Pipeline.ownSems0
  rw [sum_split]
  exact congrArg (fun Z => iprop(Z ∗ bigSep Finset.univ fun x => semVal (gcell c (.inr x)) 0)) bigSep_singleton

theorem core_alloc (c : Dev nD) :
    iprop(Pipeline.ownSems0 (Ix := ℕ) (Name := ℕ) (U := UU) (Lvl := ℕ) (Val := Elt F) (τ := τ) osem c ∗ unscopedSems0 c ∗ G c m)
      ⊢ (|={Set.univ}=> ((bigSep Finset.univ fun x : Cell => iprop(∃ κ : ℕ, cellInv ER (Rd (xin m) (win m)) κ (gcell c x)))
          ∗ (bigSep Finset.univ fun x : Cell => reached ER (gcell c x) 0) ∗ posT c ∗ payT c ∗ slotT c) : sProp 𝕄) := by
  have h : iprop(zeros c ∗ bigSep Finset.univ fun x : Cell => roundState ER (Rd (xin m) (win m)) (gcell c x) 0)
      ⊢ (|={Set.univ}=> bigSep Finset.univ fun x : Cell => iprop(∃ κ : ℕ, cellInv ER (Rd (xin m) (win m)) κ (gcell c x)) : sProp 𝕄) := by
    unfold zeros
    rw [← bigSep_sep']
    exact (bigSep_mono fun x _ => (Rounds.body_intro ER (Rd (xin m) (win m)) (gcell c x)).trans inv_alloc).trans (bigSep_fupd _ _)
  rw [zeros_eq] at h
  unfold G
  iintro ⟨Hos, Hus, Hst, Hat, Hr, Htok, HS⟩
  imod h $$ [Hos Hus Hst] with Hinv
  · iframe Hos Hus Hst
  imodintro
  iframe Hinv Hat Hr Htok HS

theorem regroup :
    (bigSep Finset.univ fun c : Dev nD => iprop((bigSep Finset.univ fun x : Cell => iprop(∃ κ : ℕ, cellInv ER (Rd (xin m) (win m)) κ (gcell c x)))
          ∗ (bigSep Finset.univ fun x : Cell => reached ER (gcell c x) 0) ∗ posT c ∗ payT c ∗ slotT c) : sProp 𝕄)
      ⊢ bigSep Finset.univ fun c => G' c m := by
  rw [bigSep_sep', bigSep_sep']
  rw [← bigSep_univ_prod (fun p : Dev nD × Cell => iprop(∃ κ : ℕ, cellInv ER (Rd (xin m) (win m)) κ (gcell p.1 p.2))),
    ← bigSep_univ_prod (fun p : Dev nD × Cell => (reached ER (gcell p.1 p.2) 0 : sProp 𝕄))]
  iintro ⟨HI, #HR, H⟩
  ihave HK := (BI.bigSep_exists_pi Finset.univ (fun (p : Dev nD × Cell) (κ : ℕ) => (cellInv ER (Rd (xin m) (win m)) κ (gcell p.1 p.2) : sProp 𝕄))) $$ HI
  icases HK with ⟨%K, #HI⟩
  iapply (bigSep_with_persistent (R := known m K) (S := (Finset.univ : Finset (Dev nD))) (Φ := fun c => iprop(posT c ∗ payT c ∗ slotT c)) (Ψ := fun c => G' c m) (fun c _ => by
    unfold G'
    iintro ⟨#Hk, H⟩
    iexists K
    iframe Hk H))
  isplitr
  · unfold known
    iframe HI HR
  iexact H

theorem glob : (bigSep Finset.univ fun c => iprop(Pipeline.ownSems0 (Ix := ℕ) (Name := ℕ) (U := UU) (Lvl := ℕ) (Val := Elt F) (τ := τ) osem c ∗ unscopedSems0 c ∗ G c m) : sProp 𝕄)
    ⊢ |={Set.univ}=> bigSep Finset.univ fun c => G' c m :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts Lset lv
        ∗ Pipeline.launchCred (fun d => owed d 0) c ∗ prngReg c (ρ c) ∗ G' c m)
      ⊢ (|={Set.univ}=> (start c m ∗ emp) : sProp 𝕄) := by
  unfold G' slotT start
  unfold known
  iintro ⟨-, Hlev, Hcr, -, ⟨%K, ⟨HI, HR⟩, Hat, Htok, ⟨%ιs, Hs, Hrd, Hw⟩⟩⟩
  ihave Hc := (creds_deal (F := F) c) $$ Hcr
  imodintro
  isplitl
  · iexists K
    iexists ιs
    isplitl [HI HR Hs Hlev]
    · unfold env
      iframe HI HR Hs Hlev
    iapply (begin_intro (F := F) c)
    iframe Hat Hrd Htok Hw Hc
  iempintro

theorem any_whole (c : Dev nD) (b : Ref sig .tc) :
    (iprop(∃ f : Buf (Elt F) ((c : Thread nD τ).loc b), ((c : Thread nD τ).loc b) ↦{fullShare} f) : sProp 𝕄) ⊣⊢ any c (Memref.whole b) := by
  constructor
  · iintro ⟨%f, H⟩
    unfold any owns
    iexists f
    iexists f
    simp only [Memref.view_whole, View.read_whole, View.set_whole]
    isplitr
    · ipureintro; trivial
    iexact H
  · unfold any owns
    simp only [Memref.view_whole, View.read_whole, View.set_whole]
    iintro ⟨%Y, ⟨%f, -, H⟩⟩
    iexists f
    iexact H

theorem rest_bufs (c : Dev nD) : (Pipeline.scopedRest (Ix := ℕ) (Name := ℕ) (U := UU) (Lvl := ℕ) (Val := Elt F) spec0 c : sProp 𝕄) ⊣⊢ bufs c := by
  rw [scopedRest0_eq]
  unfold bufs
  constructor
  · iintro ⟨H0, H1, H2, H3, H4⟩
    isplitl [H0]; · iapply (any_whole c cc0_scratch0).1 $$ H0
    isplitl [H1]; · iapply (any_whole c cc0_scratch1).1 $$ H1
    isplitl [H2]; · iapply (any_whole c cc0_scratch2).1 $$ H2
    isplitl [H3]; · iapply (any_whole c cc0_scratch3).1 $$ H3
    iapply (any_whole c cc0_scratch4).1 $$ H4
  · iintro ⟨H0, H1, H2, H3, H4⟩
    isplitl [H0]; · iapply (any_whole c cc0_scratch0).2 $$ H0
    isplitl [H1]; · iapply (any_whole c cc0_scratch1).2 $$ H1
    isplitl [H2]; · iapply (any_whole c cc0_scratch2).2 $$ H2
    isplitl [H3]; · iapply (any_whole c cc0_scratch3).2 $$ H3
    iapply (any_whole c cc0_scratch4).2 $$ H4

theorem phi0_intro (c : Dev nD) :
    iprop(start c m ∗ Pipeline.prefHeld Pipeline.Prefetch.none c (fun _ => fullShare.right) (fun k => k.elim0) ∗ Pipeline.scopedRest cfg0.spec c)
      ⊢ ((dats m 0 c).Φ 0 : sProp 𝕄) := by
  rw [show (dats m 0 c).Φ 0 = Φ₀ c m from rfl]
  unfold Φ₀
  iintro ⟨Hs, -, Hr⟩
  isplitl [Hs]; · iexact Hs
  iapply (rest_bufs c).1 $$ Hr

theorem phi1_exit (c : Dev nD) :
    ((dats m 0 c).Φ (Fin.last cfg0.N) : sProp 𝕄) ⊢ iprop(unscopedSems0 c ∗ Pipeline.ownSems0 osem c ∗ Pipeline.scopedRest cfg0.spec c) := by
  rw [show (dats m 0 c).Φ (Fin.last cfg0.N) = Φ₁ c from rfl]
  unfold Φ₁
  rw [zeros_eq]
  iintro ⟨Hb, Hu, Ho⟩
  isplitl [Hu]; · iexact Hu
  isplitl [Ho]; · iexact Ho
  iapply (rest_bufs c).2 $$ Hb

theorem stage_lv : ∀ (w : Fin 3) (s : Fin (spec0 w).nbuf) (x : Cell), csem x ≠ .dma ((spec0 w).sem s) := by decide +kernel

theorem waits (c : Dev nD) : (levAts Lset lv : sProp 𝕄) ⊢ Pipeline.cellsWaits cfgs (dats m) 0 0 c :=
  Pipeline.cellsWaits_intro cfgs (dats m) 0 0 c fun w s t => by
    have hlv : lv ((c.tc : Thread nD τ), .dma ((spec0 w).sem s)) 0 = 0 := by
      show lvOf (dec _) 0 = 0
      have : dec (.dma ((spec0 w).sem s)) = none := dif_neg (by rintro ⟨x, hx⟩; exact stage_lv w s x hx)
      rw [this]; rfl
    rcases t with ⟨_ | _, ht⟩
    · exact mayWait c _ 0 0 (by omega) (le_of_eq hlv)
    · show _ ⊢ MayWait _ _ _ 0
      rw [MayWait_zero]; iintro -; iempintro

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- From any memory with all semaphores at zero every execution ends, the arrays as computed and all semaphores at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owed d 0) (howed₀ := fun _ => rfl) (howedN := fun _ => rfl)
    (L := Lset) (lv := lv) (hL := Lset_ne) (hwaits := waits m)
    (G := fun c => G c m) (G' := fun c => G' c m) (u₀ := u₀)
    (hu₀ := by
      unfold u₀
      iintro Hu
      ihave H := (ownU_pair _ _) $$ Hu
      icases H with ⟨HP, HX⟩
      ihave HX := (own_pair_emb _ _ _) $$ HX
      imod (fund_all m) $$ HX with HG
      imodintro
      isplitl [HP] <;> iassumption)
    (hglob := glob m)
    (hA := fun _ _ => rfl) (hpf := fun _ k => k.elim0)
    (X := fun c => start c m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m c (0 : Fin 3) = V m c main_arg0 :=
  (dats m 0 c).arrAt_in (0 : Fin 3) rfl _
theorem finalA_w (c : Dev nD) : finalA m c (1 : Fin 3) = V m c main_arg1 :=
  (dats m 0 c).arrAt_in (1 : Fin 3) rfl _

end

end Cert.AR
-- ==== Proof.Sum.lean ====
/-
The partial sums around a ring, at the exact values: the strip a device is left with is the strip of the whole product.
-/
module

public import proofs.«01_k».proof.Proof.Contents
public import Idealize.ShloMosaic.Lib.ValueIdx
public import Idealize.ShloMosaic.Lib.Pipeline.Value
public import Idealize.ShloMosaic.PureOps.Ideal.Laws

@[expose] public section

set_option maxRecDepth 4000

namespace Cert.AR

open Cert.KernelIdeal Cert.KernelIdeal.Gen
open Idealize.ShloMosaic Idealize.ShloMosaic.TcCoe Idealize.ShloMosaic.ValueIdx

noncomputable section

variable (X : Dev nD → S4096x256.Idx → EReal) (W : Dev nD → S256x2048.Idx → EReal)

/-- A device's product, at an index. -/
def yv (d : Dev nD) (j : S4096x2048.Idx) : EReal :=
  ∑ q : Fin 256, X d (ix2 (j 0) q) * W d (ix2 q (j 1))
/-- The whole product. -/
def yy (j : S4096x2048.Idx) : EReal := ∑ d : Dev nD, yv X W d j

abbrev D1 := dot_S256x256_S256x2048_S256x2048_1_0_0_1_n_n

theorem D1_l0 (j : S256x2048.Idx) (k : D1.contr.Idx) : (D1.lhsIdx j k 0 : ℕ) = j 0 := by
  simp [DotDims.lhsIdx, D1, dot_S256x256_S256x2048_S256x2048_1_0_0_1_n_n]; rfl
theorem D1_l1 (j : S256x2048.Idx) (k : D1.contr.Idx) : (D1.lhsIdx j k 1 : ℕ) = k ⟨0, by decide⟩ := by
  simp [DotDims.lhsIdx, D1, dot_S256x256_S256x2048_S256x2048_1_0_0_1_n_n]; rfl
theorem D1_r0 (j : S256x2048.Idx) (k : D1.contr.Idx) : (D1.rhsIdx j k 0 : ℕ) = k ⟨0, by decide⟩ := by
  simp [DotDims.rhsIdx, D1, dot_S256x256_S256x2048_S256x2048_1_0_0_1_n_n]; rfl
theorem D1_r1 (j : S256x2048.Idx) (k : D1.contr.Idx) : (D1.rhsIdx j k 1 : ℕ) = j 1 := by
  simp [DotDims.rhsIdx, D1, dot_S256x256_S256x2048_S256x2048_1_0_0_1_n_n]; rfl

/-- A product of a chunk, at an index. -/
theorem pay20_apply (a : S256x256.Idx → EReal) (b : S256x2048.Idx → EReal) (i : S256x2048.Idx) :
    (k0_pay20 (F := Ideal) a b i : EReal) = ∑ q : Fin 256, a (ix2 (i 0) q) * b (ix2 q (i 1)) := by
  unfold k0_pay20
  rw [shapeCast_self, shapeCast_self]
  refine (Ideal.matmul_constant_zero_apply D1 none a b i).trans ?_
  rw [← Equiv.sum_comp (contrEquiv1 D1 256 rfl rfl).symm]
  refine Finset.sum_congr rfl fun q _ => ?_
  have e := contrEquiv1_symm_val D1 256 rfl rfl q
  congr 2
  · apply Shape.idx_ext₂
    · exact D1_l0 _ _
    · exact (D1_l1 _ _).trans e
  · apply Shape.idx_ext₂
    · exact (D1_r0 _ _).trans e
    · exact D1_r1 _ _

theorem gch_apply (c : Dev nD) (k : Fin 16) (i : S256x2048.Idx) : (gch (F := Ideal) X W c k i : EReal) = yv X W c ((kR k).emb i) := by
  unfold gch
  rw [pay20_apply]
  refine Finset.sum_congr rfl fun q _ => ?_
  refine congrArg₂ (· * ·) (congrArg (X c) ?_) (congrArg (W c) ?_)
  · apply Shape.idx_ext₂
    · rfl
    · show 0 + 1 * q.val = q.val; omega
  · apply Shape.idx_ext₂
    · rfl
    · show (i 1).val = 0 + 1 * (i 1).val; omega

theorem gsk_apply (r : Fin 4) (k : Fin 16) (c : Dev nD) (i : S64x2048.Idx) : (gsk (F := Ideal) X W r k c i : EReal) = yv X W c ((tR r k).emb i) := by
  unfold gsk
  rw [gch_apply]
  congr 1
  apply Shape.idx_ext₂
  · show 256 * k.val + 1 * (ofs r.val + 1 * (i 0).val) = 256 * k.val + ofs r.val + 1 * (i 0).val; omega
  · show 0 + 1 * (0 + 1 * (i 1).val) = 0 + 1 * (i 1).val; omega

/-- A strip put in a slot's shape and taken back out. -/
theorem cast_uns {F : FTy → Type} {e : EltTy} (Y : Vec F S64x2048 e) : shapeCast S64x2048 (uns Y) shapeCasts_S1x1x64x2048_S64x2048 = Y :=
  funext fun i => congrArg Y (Equiv.symm_apply_apply _ i)

theorem pay2_apply (a b : S64x2048.Idx → EReal) (i : S64x2048.Idx) :
    (k0_pay2 (F := Ideal) a (uns (F := Ideal) (e := .f32) b) i : EReal) = a i + b i := by
  unfold k0_pay2
  rw [shapeCast_self, cast_uns]
  rfl

/-- The sum so far, over the devices already passed. -/
theorem psum_apply (r : Fin 4) (h : ℕ) : ∀ (c : Dev nD) (hh : h ≤ 31) (i : S64x2048.Idx), (psum (F := Ideal) X W r h c i : EReal)
    = ∑ n ∈ Finset.range (h + 1), yv X W ((up r.val)^[n] c) ((tR r (chF r.val h c)).emb i) := by
  induction h with
  | zero => intro c _ i; rw [Finset.sum_range_one]; exact gsk_apply X W r _ c i
  | succ h ih =>
    intro c hh i
    refine (pay2_apply _ _ i).trans ?_
    have e : chF r.val h (up r.val c) = chF r.val (h + 1) c := Fin.ext (ch_up _ _ _ (by omega))
    refine (congrArg₂ (· + ·) (gsk_apply X W r (chF r.val (h + 1) c) c i) (ih (up r.val c) (by omega) i)).trans ?_
    rw [e, Finset.sum_range_succ' _ (h + 1), add_comm]
    rfl

theorem up_all : ∀ (r : Fin 4) (c : Dev nD), Function.Injective fun n : Fin 16 => (up r.val)^[n.val] c := by decide +kernel

/-- The strip a device is left with is the whole product's. -/
theorem psum_last (r : Fin 4) (c : Dev nD) (i : S64x2048.Idx) : (psum (F := Ideal) X W r 15 c i : EReal) = yy X W ((tR r (chF r.val 15 c)).emb i) := by
  rw [psum_apply X W r 15 c (by omega) i, Finset.sum_range]
  have hb : Function.Bijective fun n : Fin 16 => (up r.val)^[n.val] c := Finite.injective_iff_bijective.mp (up_all r c)
  exact hb.sum_comp fun d => yv X W d ((tR r (chF r.val 15 c)).emb i)

end

end Cert.AR
-- ==== Proof.Max.lean ====
/-
The scale, at the exact values: the largest magnitude of the whole product over 127, on every device.
-/
module

public import proofs.«01_k».proof.Proof.Sum

@[expose] public section

set_option maxRecDepth 4000

namespace Cert.AR

open Cert.KernelIdeal Cert.KernelIdeal.Gen
open Idealize.ShloMosaic Idealize.ShloMosaic.TcCoe Idealize.ShloMosaic.ValueIdx

noncomputable section

variable (X : Dev nD → S4096x256.Idx → EReal) (W : Dev nD → S256x2048.Idx → EReal)

/-- The magnitude. -/
def ab (x : EReal) : EReal := max x (-x)

/-- The bottom the maximum starts at. -/
theorem word_bot : Ideal.ofBits .f32 0xFF800000#32 = ⊥ := by simp [Ideal.ofBits, Ideal.ieee]

/-- The scalar unit's maximum and quotient are the exact ones. -/
theorem smax (x y : EReal) : (Scalar.maximumf (F := Ideal) (φ := .f32) x y : EReal) = max x y := rfl
theorem sdiv (x y : EReal) : (Scalar.divf (F := Ideal) (φ := .f32) x y : EReal) = Ideal.div x y := rfl

/-- The largest magnitude of a half. -/
def red (h : S128x2048.Idx → EReal) (i : S1.Idx) : EReal :=
  multiReduction (F := Ideal) (φ := .f32) .maximumf [1, 2] S1 (shapeCast S1x128x2048 (absf (F := Ideal) (φ := .f32) h) shapeCasts_S128x2048_S1x128x2048)
      0xFF800000#32 reduces_S1x128x2048_S1 (.inl rfl) rfl i

theorem red_le (h : S128x2048.Idx → EReal) (i : S1.Idx) (a : EReal) : red h i ≤ a ↔ ∀ j, ab (h j) ≤ a := by
  have e : red h i = Finset.fold (FloatOps.maximumf (F := Ideal) (φ := .f32)) (FloatOps.ofBits (F := Ideal) .f32 0xFF800000#32)
      (shapeCast S1x128x2048 (absf (F := Ideal) (φ := .f32) h) shapeCasts_S128x2048_S1x128x2048)
      (Finset.univ.filter fun j => reduces_S1x128x2048_S1.drop j = i) := multiReduction_maximumf_eq_fold _ _ _ _ _ _
  rw [Finset.filter_true_of_mem fun j _ => funext fun b => Fin.ext (by
    have h1 := (reduces_S1x128x2048_S1.drop j b).isLt; have h2 := (i b).isLt
    have h3 : S1.size b = 1 := by fin_cases b; rfl
    omega)] at e
  rw [e]
  change Finset.fold (max : EReal → EReal → EReal) (Ideal.ofBits .f32 0xFF800000#32)
      (shapeCast S1x128x2048 (absf (F := Ideal) (φ := .f32) h) shapeCasts_S128x2048_S1x128x2048) Finset.univ ≤ a ↔ _
  refine (Finset.fold_max_le (β := EReal) a).trans ?_
  constructor
  · rintro ⟨_, hj⟩ j
    have := hj ((Shape.reshapeEquiv shapeCasts_S128x2048_S1x128x2048).symm j) (Finset.mem_univ _)
    have e2 : shapeCast S1x128x2048 (absf (F := Ideal) (φ := .f32) h) shapeCasts_S128x2048_S1x128x2048 ((Shape.reshapeEquiv shapeCasts_S128x2048_S1x128x2048).symm j)
        = absf (F := Ideal) (φ := .f32) h j := congrArg (absf (F := Ideal) (φ := .f32) h) (Equiv.apply_symm_apply _ j)
    rw [e2] at this
    exact this
  · intro hj
    refine ⟨?_, fun x _ => hj _⟩
    show Ideal.ofBits .f32 0xFF800000#32 ≤ a
    rw [word_bot]; exact bot_le

theorem pay40_eq (h k : S128x2048.Idx → EReal) : ∃ i j, (k0_pay40 (F := Ideal) h k : EReal) = max (red h i) (red k j) := by
  unfold k0_pay40
  rw [shapeCast_self, shapeCast_self]
  exact ⟨_, _, smax _ _⟩

theorem pay40_le (h k : S128x2048.Idx → EReal) (a : EReal) :
    (k0_pay40 (F := Ideal) h k : EReal) ≤ a ↔ (∀ j, ab (h j) ≤ a) ∧ ∀ j, ab (k j) ≤ a := by
  obtain ⟨i, j, e⟩ := pay40_eq h k
  rw [e, max_le_iff, red_le, red_le]

theorem pay42_eq (x : EReal) (g : S1x1x1.Idx → EReal) : ∃ i, (k0_pay42 (F := Ideal) x g : EReal) = max x (g i) := by
  unfold k0_pay42
  exact ⟨_, smax _ _⟩

theorem pay48_eq (x : EReal) (g : S1x1x1.Idx → EReal) : ∃ i, (k0_pay48 (F := Ideal) x g : EReal) = Ideal.div (max x (g i)) (Ideal.ofBits .f32 0x42FE0000#32) := by
  unfold k0_pay48
  exact ⟨_, (sdiv _ _).trans (congrArg (fun y => Ideal.div y (Ideal.ofBits .f32 0x42FE0000#32)) (smax _ _))⟩

theorem half_all (Y Z : S64x2048.Idx → EReal) (p : EReal → Prop) :
    (∀ j, p (half (F := Ideal) Y Z j)) ↔ (∀ i, p (Y i)) ∧ ∀ i, p (Z i) := by
  constructor
  · intro h
    refine ⟨fun i => ?_, fun i => ?_⟩
    · have h0 := (i (0 : Fin 2)).isLt
      change (i (0 : Fin 2)).val < 64 at h0
      have := h (ix2 (n0 := 128) (n1 := 2048) ⟨(i 0).val, by omega⟩ (i 1))
      unfold half at this
      rw [dif_pos (show (i 0).val < 64 from h0)] at this
      convert this using 2
      apply Shape.idx_ext₂
      · rfl
      · rfl
    · have h0 := (i (0 : Fin 2)).isLt
      change (i (0 : Fin 2)).val < 64 at h0
      have := h (ix2 (n0 := 128) (n1 := 2048) ⟨(i 0).val + 64, by omega⟩ (i 1))
      unfold half at this
      rw [dif_neg (show ¬ (i 0).val + 64 < 64 by omega)] at this
      convert this using 2
      apply Shape.idx_ext₂
      · show (i 0).val = (i 0).val + 64 - 64; omega
      · rfl
  · rintro ⟨hY, hZ⟩ j
    unfold half
    split
    · exact hY _
    · exact hZ _

/-- Every magnitude a device is left with is below a bound. -/
def Bd (c : Dev nD) (a : EReal) : Prop := ∀ (r : Fin 4) (i : S64x2048.Idx), ab (psum (F := Ideal) X W r 15 c i) ≤ a

theorem amx0_le (c : Dev nD) (a : EReal) : (amx (F := Ideal) X W 0 c : EReal) ≤ a ↔ Bd X W c a := by
  refine (pay40_le _ _ a).trans ?_
  rw [half_all _ _ fun y => ab y ≤ a, half_all _ _ fun y => ab y ≤ a]
  constructor
  · rintro ⟨⟨h0, h2⟩, h1, h3⟩ r
    fin_cases r
    · exact h0
    · exact h1
    · exact h2
    · exact h3
  · exact fun h => ⟨⟨h 0, h 2⟩, h 1, h 3⟩

theorem near : ∀ (k : Fin 4) (c d : Dev nD), d.val / 2 ^ (k.val + 1) = c.val / 2 ^ (k.val + 1) ↔
    (d.val / 2 ^ k.val = c.val / 2 ^ k.val ∨ d.val / 2 ^ k.val = (px k.val c).val / 2 ^ k.val) := by decide +kernel

theorem amx_le (k : ℕ) : ∀ (hk : k ≤ 3) (c : Dev nD) (a : EReal), (amx (F := Ideal) X W k c : EReal) ≤ a ↔
    ∀ d : Dev nD, d.val / 2 ^ k = c.val / 2 ^ k → Bd X W d a := by
  induction k with
  | zero =>
    intro _ c a
    refine (amx0_le X W c a).trans ⟨fun h d e => ?_, fun h => h c rfl⟩
    rw [show d = c from Fin.ext (by simpa using e)]; exact h
  | succ k ih =>
    intro hk c a
    obtain ⟨_, e0⟩ := pay42_eq (amx (F := Ideal) X W k c) fun _ => amx (F := Ideal) X W k (px k c)
    rw [show (amx (F := Ideal) X W (k + 1) c : EReal) = _ from e0, max_le_iff, ih (by omega) c a, ih (by omega) (px k c) a]
    have e := near ⟨k, by omega⟩ c
    constructor
    · rintro ⟨h1, h2⟩ d hd
      rcases (e d).mp hd with h | h
      · exact h1 d h
      · exact h2 d h
    · exact fun h => ⟨fun d hd => h d ((e d).mpr (.inl hd)), fun d hd => h d ((e d).mpr (.inr hd))⟩

theorem far : ∀ (c d : Dev nD), d.val / 2 ^ 3 = c.val / 2 ^ 3 ∨ d.val / 2 ^ 3 = (px 3 c).val / 2 ^ 3 := by decide +kernel
theorem owner : ∀ (r : Fin 4) (k : Fin 16), ∃ d : Dev nD, chF r.val 15 d = k := by decide +kernel

/-- Every index of the result is in some ring's strip of some chunk. -/
theorem in_strip (j : S4096x2048.Idx) : ∃ (r : Fin 4) (k : Fin 16) (i : S64x2048.Idx), (tR r k).emb i = j := by
  have hj : j ∈ (Finset.univ : Finset (Fin 4 × Fin 16)).biUnion (fun t => (tR t.1 t.2).set) := tR_cov ▸ Finset.mem_univ j
  obtain ⟨t, -, ht⟩ := Finset.mem_biUnion.mp hj
  obtain ⟨i, hi⟩ := (tR t.1 t.2).exists_idx_of_mem ht
  exact ⟨t.1, t.2, i, hi⟩

theorem all_Bd (a : EReal) : (∀ d, Bd X W d a) ↔ ∀ j, ab (yy X W j) ≤ a := by
  constructor
  · intro h j
    obtain ⟨r, k, i, rfl⟩ := in_strip j
    obtain ⟨d, rfl⟩ := owner r k
    rw [← psum_last]; exact h d r i
  · intro h d r i
    rw [psum_last]; exact h _

/-- The largest magnitude of the whole product. -/
def mag : EReal := Finset.univ.sup fun j => ab (yy X W j)
/-- The scale. -/
def sc : EReal := Ideal.div (mag X W) (Ideal.ofBits .f32 0x42FE0000#32)

theorem scl_eq (c : Dev nD) : (scl (F := Ideal) X W c : EReal) = sc X W := by
  obtain ⟨_, e0⟩ := pay48_eq (amx (F := Ideal) X W 3 c) fun _ => amx (F := Ideal) X W 3 (px 3 c)
  refine Eq.trans e0 (congrArg (fun y => Ideal.div y (Ideal.ofBits .f32 0x42FE0000#32)) ?_)
  refine eq_of_forall_ge_iff fun a => ?_
  unfold mag
  rw [max_le_iff, amx_le X W 3 (le_refl _), amx_le X W 3 (le_refl _), Finset.sup_le_iff]
  refine Iff.trans ⟨?_, ?_⟩ ((all_Bd X W a).trans ⟨fun h j _ => h j, fun h j => h j (Finset.mem_univ j)⟩)
  · rintro ⟨h1, h2⟩ d
    rcases far c d with h | h
    · exact h1 d h
    · exact h2 d h
  · exact fun h => ⟨fun d _ => h d, fun d _ => h d⟩

end

end Cert.AR
-- ==== Proof.Round.lean ====
/-
Every strip of the result, at the exact values: the quotient by the scale, rounded, clamped and scaled again, of the whole product.
-/
module

public import proofs.«01_k».proof.Proof.Max

@[expose] public section

set_option maxRecDepth 4000

namespace Cert.AR

open Cert.KernelIdeal Cert.KernelIdeal.Gen
open Idealize.ShloMosaic Idealize.ShloMosaic.TcCoe Idealize.ShloMosaic.ValueIdx

noncomputable section

variable (X : Dev nD → S4096x256.Idx → EReal) (W : Dev nD → S256x2048.Idx → EReal)

abbrev hi : EReal := Ideal.ofBits .f32 0x42FE0000#32
abbrev lo : EReal := Ideal.ofBits .f32 0xC2FE0000#32

theorem hi_eq : hi = ((127 : ℝ) : EReal) := by
  simp [hi, Ideal.ofBits, Ideal.ieee, -EReal.coe_mul]; norm_num
theorem lo_eq : lo = ((-127 : ℝ) : EReal) := by
  simp [lo, Ideal.ofBits, Ideal.ieee, -EReal.coe_mul]; norm_num

/-- A value over a scale, rounded to an integer and clamped. -/
def cl (s y : EReal) : EReal := min hi (max lo (Ideal.liftRound Ideal.roundHalfEven (Ideal.div y s)))

/-- It is an integer between the clamps. -/
theorem cl_int (s y : EReal) : ∃ n : ℤ, -127 ≤ n ∧ n ≤ 127 ∧ cl s y = ((n : ℝ) : EReal) := by
  unfold cl
  rw [hi_eq, lo_eq]
  generalize Ideal.div y s = w
  induction w using EReal.rec with
  | bot =>
    refine ⟨-127, by omega, by omega, ?_⟩
    show min _ (max _ (⊥ : EReal)) = _
    rw [max_eq_left bot_le, min_eq_right (EReal.coe_le_coe_iff.mpr (by norm_num))]
    norm_num
  | top =>
    refine ⟨127, by omega, by omega, ?_⟩
    show min _ (max _ (⊤ : EReal)) = _
    rw [max_eq_right le_top, min_eq_left le_top]
    norm_num
  | coe r =>
    refine ⟨min 127 (max (-127) (Ideal.roundHalfEven r)), by omega, by omega, ?_⟩
    show min _ (max _ (((Ideal.roundHalfEven r : ℤ) : ℝ) : EReal)) = _
    rw [← EReal.coe_strictMono.monotone.map_max, ← EReal.coe_strictMono.monotone.map_min]
    push_cast
    rfl

/-- So it comes back from the eight-bit integer it is sent as. -/
theorem cl_back (s y : EReal) : (((Ideal.fptosi 8 (cl s y)).toInt : ℝ) : EReal) = cl s y := by
  obtain ⟨n, h1, h2, e⟩ := cl_int s y
  rw [e]
  have : (Ideal.fptosi 8 ((n : ℝ) : EReal)).toInt = n := by
    unfold Ideal.fptosi
    rw [Ideal.toIntClamped_coe, Int.floor_intCast, Int.ceil_intCast, ite_self, BitVec.toInt_ofInt]
    have : max (-(2 ^ (8 - 1) : ℕ) : ℤ) (min ((2 ^ (8 - 1) : ℕ) - 1) n) = n := by norm_num; omega
    rw [this]
    unfold Int.bmod
    norm_num
    omega
  rw [this]

/-- The result, at an index. -/
def gg (j : S4096x2048.Idx) : EReal := cl (sc X W) (yy X W j) * sc X W

theorem pay56_apply (s : EReal) (y : S64x2048.Idx → EReal) (i : S64x2048.Idx) : (k0_pay56 (F := Ideal) s y i : EReal) = cl s (y i) := by
  unfold k0_pay56
  rw [shapeCast_self]
  rfl
theorem pay57_apply (s : EReal) (y : S64x2048.Idx → EReal) (i : S64x2048.Idx) : k0_pay57 (F := Ideal) s y i = Ideal.fptosi 8 (cl s (y i)) := by
  unfold k0_pay57
  rw [shapeCast_self]
  exact congrArg (Ideal.fptosi 8) (pay56_apply s y i)
theorem pay58_apply (s : EReal) (y : S64x2048.Idx → EReal) (i : S64x2048.Idx) : (k0_pay58 (F := Ideal) s y i : EReal) = cl s (y i) * s :=
  congrArg (fun z : EReal => z * s) (pay56_apply s y i)
theorem pay9_uns (q : Vec Ideal S64x2048 .i8) : k0_pay9 (F := Ideal) (uns q) = q := by
  unfold k0_pay9 k0_pay8
  rw [shapeCast_self]
  exact cast_uns q
theorem pay10_apply (s : EReal) (q : Vec Ideal S64x2048 .i8) (i : S64x2048.Idx) :
    (k0_pay10 (F := Ideal) s (uns q) i : EReal) = (((show BitVec 8 from q i).toInt : ℝ) : EReal) * s := by
  unfold k0_pay10 k0_pay8
  rw [cast_uns]
  rfl

/-- The integers that go round are the ones their owner sent. -/
theorem qnt_apply (r : Fin 4) (n : ℕ) : ∀ (c : Dev nD) (hn : n ≤ 15) (i : S64x2048.Idx),
    qnt (F := Ideal) X W r n c i = Ideal.fptosi 8 (cl (sc X W) (yy X W ((tR r (chF r.val (15 + n) c)).emb i))) := by
  induction n with
  | zero =>
    intro c _ i
    refine (pay57_apply (scl (F := Ideal) X W c) (psum (F := Ideal) X W r 15 c) i).trans ?_
    rw [scl_eq, psum_last]
  | succ n ih =>
    intro c hn i
    refine (congrFun (pay9_uns (qnt (F := Ideal) X W r n (up r.val c))) i).trans ((ih (up r.val c) (by omega) i).trans ?_)
    have e : chF r.val (15 + n) (up r.val c) = chF r.val (15 + (n + 1)) c := Fin.ext (ch_up _ _ _ (by omega))
    rw [e]

theorem outS_apply (r : Fin 4) (j : ℕ) (c : Dev nD) (hj : j < 16) (i : S64x2048.Idx) :
    (outS (F := Ideal) X W r j c i : EReal) = gg X W ((tR r (chF r.val j c)).emb i) := by
  unfold outS
  split
  · next h =>
    subst h
    refine (pay58_apply (scl (F := Ideal) X W c) (psum (F := Ideal) X W r 15 c) i).trans ?_
    rw [scl_eq, psum_last]
    rfl
  · next h =>
    refine (pay10_apply (scl (F := Ideal) X W c) (qnt (F := Ideal) X W r j (up r.val c)) i).trans ?_
    rw [qnt_apply X W r j (up r.val c) (by omega) i, scl_eq]
    have e : chF r.val (15 + j) (up r.val c) = chF r.val j c :=
      Fin.ext ((ch_up _ _ _ (by omega)).trans ((congrArg (fun n => ch r.val n c) (by omega : 15 + j + 1 = j + 16)).trans (ch_add _ _ _ hj)))
    rw [e]
    exact congrArg (fun z : EReal => z * sc X W) (cl_back _ _)

/-- Every device's result. -/
theorem outV_eq (c : Dev nD) : outV (F := Ideal) X W c = gg X W := by
  funext j
  obtain ⟨r, k, i, rfl⟩ := in_strip j
  refine (glue_emb (fun t : Fin 4 × Fin 16 => tR t.1 t.2) tR_disj tR_cov (fun t => outS (F := Ideal) X W t.1 (hopOf t.1.val t.2 c) c) (r, k) i).trans ?_
  refine (outS_apply X W r (hopOf r.val k c) c (hopOf_lt _ _ _) i).trans ?_
  rw [ch_hopOf]

end

end Cert.AR
-- ==== Proof.Value.lean ====
/-
The arrays of the run, at the exact values: the inputs are the arguments, and every device's result is the one of `Proof/Round.lean`.
-/
module

public import proofs.«01_k».proof.Proof.Round
public import proofs.«01_k».proof.Proof.Launch
public import Idealize.ShloMosaic.Lib.Pipeline.ValueKit

@[expose] public section

set_option maxRecDepth 4000

namespace Cert.AR

open Cert.KernelIdeal Cert.KernelIdeal.Gen
open Idealize.ShloMosaic Idealize.ShloMosaic.TcCoe Idealize.ShloMosaic.ValueIdx

noncomputable section

variable (m : (ℓ : Loc nD τ sig) → Buf (Elt Ideal) ℓ)

theorem idx0 : ∀ (t : Fin cfg0.N) (a : Fin 2), win0_0.index t a = 0 := by decide +kernel
theorem idx1 : ∀ (t : Fin cfg0.N) (a : Fin 2), win0_1.index t a = 0 := by decide +kernel
theorem idx2 : ∀ (t : Fin cfg0.N) (a : Fin 2), win0_2.index t a = 0 := by decide +kernel

theorem xin_eq (c : Dev nD) : xin m c = V m c main_arg0 := by
  funext i
  unfold xin iblk
  blk_simp
  refine congrArg (V m c main_arg0) (Shape.idx_ext₂ ?_ ?_)
  all_goals blk_simp
  · have := idx0 t0_0 0; omega
  · have := idx0 t0_0 1; omega

theorem win_eq (c : Dev nD) : win m c = V m c main_arg1 := by
  funext i
  unfold win iblk
  blk_simp
  refine congrArg (V m c main_arg1) (Shape.idx_ext₂ ?_ ?_)
  all_goals blk_simp
  · have := idx1 t0_0 0; omega
  · have := idx1 t0_0 1; omega

theorem finalA_out (c : Dev nD) : finalA m c (2 : Fin 3) = gg (fun d => V m d main_arg0) (fun d => V m d main_arg1) := by
  unfold finalA
  refine (dats m 0 c).arrAt_eq_of_covers (2 : Fin 3) _ (by decide +kernel) fun t hf y => ?_
  have e : outV (xin m) (win m) c = gg (fun d => V m d main_arg0) (fun d => V m d main_arg1) := by
    rw [show xin m = fun d => V m d main_arg0 from funext (xin_eq m), show win m = fun d => V m d main_arg1 from funext (win_eq m)]
    exact outV_eq _ _ c
  blk_simp
  show outV (xin m) (win m) c y = _
  rw [e]
  refine congrArg (gg _ _) (Shape.idx_ext₂ ?_ ?_)
  all_goals blk_simp
  · have := idx2 t 0; omega
  · have := idx2 t 1; omega

end

end Cert.AR
-- ==== Proof.RefValue.lean ====
/-
The reference's result, at the exact values: of blocks of its arguments it is the result of `Proof/Round.lean`.
-/
module

public import proofs.«01_k».proof.Proof.Round
public import proofs.«01_k».proof.Proof.Gen.ReferenceIdeal.Run
public import Idealize.ShloMosaic.Lib.Layout

@[expose] public section

set_option maxRecDepth 4000

namespace Cert.AR

open Cert.KernelIdeal Cert.KernelIdeal.Gen
open Idealize.ShloMosaic Idealize.ShloMosaic.TcCoe Idealize.ShloMosaic.ValueIdx

noncomputable section

open Cert.ReferenceIdeal.Gen in
abbrev D2 := Cert.ReferenceIdeal.dot_S4096x4096_S4096x2048_S4096x2048_1_0_0_1_n_n

theorem D2_l0 (j : S4096x2048.Idx) (k : D2.contr.Idx) : (D2.lhsIdx j k 0 : ℕ) = j 0 := by
  simp [DotDims.lhsIdx, D2, Cert.ReferenceIdeal.dot_S4096x4096_S4096x2048_S4096x2048_1_0_0_1_n_n]; rfl
theorem D2_l1 (j : S4096x2048.Idx) (k : D2.contr.Idx) : (D2.lhsIdx j k 1 : ℕ) = k ⟨0, by decide⟩ := by
  simp [DotDims.lhsIdx, D2, Cert.ReferenceIdeal.dot_S4096x4096_S4096x2048_S4096x2048_1_0_0_1_n_n]; rfl
theorem D2_r0 (j : S4096x2048.Idx) (k : D2.contr.Idx) : (D2.rhsIdx j k 0 : ℕ) = k ⟨0, by decide⟩ := by
  simp [DotDims.rhsIdx, D2, Cert.ReferenceIdeal.dot_S4096x4096_S4096x2048_S4096x2048_1_0_0_1_n_n]; rfl
theorem D2_r1 (j : S4096x2048.Idx) (k : D2.contr.Idx) : (D2.rhsIdx j k 1 : ℕ) = j 1 := by
  simp [DotDims.rhsIdx, D2, Cert.ReferenceIdeal.dot_S4096x4096_S4096x2048_S4096x2048_1_0_0_1_n_n]; rfl

variable (A : Cert.ReferenceIdeal.S4096x4096.Idx → EReal) (B : Cert.ReferenceIdeal.S4096x2048.Idx → EReal)

/-- The devices' blocks of the reference's arguments. -/
abbrev bX (d : Dev nD) : S4096x256.Idx → EReal := Layout.block ⟨2, ![4096, 256]⟩ ⟨2, ![4096, 4096]⟩ 1 16 d A
abbrev bW (d : Dev nD) : S256x2048.Idx → EReal := Layout.block ⟨2, ![256, 2048]⟩ ⟨2, ![4096, 2048]⟩ 0 16 d B

/-- The reference's product. -/
abbrev rY : Cert.ReferenceIdeal.S4096x2048.Idx → EReal := Host.dotGeneral (F := Ideal) (φ₁ := .f32) (φ₂ := .f32) D2 none A B

theorem rY_eq (j : S4096x2048.Idx) : rY A B j = yy (bX A) (bW B) j := by
  refine (Ideal.dotGeneral_apply D2 none _ A B j).trans ?_
  rw [← Equiv.sum_comp (contrEquiv1 D2 4096 rfl rfl).symm, ← Equiv.sum_comp (finProdFinEquiv (m := 16) (n := 256)), Fintype.sum_prod_type]
  unfold yy yv
  refine Finset.sum_congr rfl fun d _ => Finset.sum_congr rfl fun q _ => ?_
  have e := contrEquiv1_symm_val D2 4096 rfl rfl (finProdFinEquiv (m := 16) (n := 256) (d, q))
  have e2 : (finProdFinEquiv (m := 16) (n := 256) (d, q)).val = d.val * 256 + q.val := by
    show q.val + 256 * d.val = _; omega
  refine congrArg₂ (· * ·) (congrArg A ?_) (congrArg B ?_)
  · apply Shape.idx_ext₂
    · exact D2_l0 _ _
    · exact (D2_l1 _ _).trans (e.trans e2)
  · apply Shape.idx_ext₂
    · exact (D2_r0 _ _).trans (e.trans e2)
    · exact D2_r1 _ _

/-- The reference's scale. -/
abbrev rS : Cert.ReferenceIdeal.S_.Idx → EReal :=
  Host.divf (F := Ideal) (φ := .f32) (Host.reduce (FloatOps.maximumf (F := Ideal) (φ := .f32)) (Host.absf (F := Ideal) (φ := .f32) (rY A B)) (constant (F := Ideal) Cert.ReferenceIdeal.S_ .f32 0xFF800000#32)
    Cert.ReferenceIdeal.Gen.reducesTo_S4096x2048_S_d0_1 Cert.ReferenceIdeal.Gen.h_S_) (constant (F := Ideal) Cert.ReferenceIdeal.S_ .f32 0x42FE0000#32)

theorem rS_eq (i : Cert.ReferenceIdeal.S_.Idx) : rS A B i = sc (bX A) (bW B) := by
  have e := Host.reduce_eq_fold (FloatOps.maximumf (F := Ideal) (φ := .f32)) (Host.absf (F := Ideal) (φ := .f32) (rY A B)) (constant (F := Ideal) Cert.ReferenceIdeal.S_ .f32 0xFF800000#32)
    Cert.ReferenceIdeal.Gen.reducesTo_S4096x2048_S_d0_1 Cert.ReferenceIdeal.Gen.h_S_ i
  rw [Finset.filter_true_of_mem fun j _ => funext fun b => b.elim0] at e
  refine congrArg (fun y => Ideal.div y (Ideal.ofBits .f32 0x42FE0000#32)) (e.trans ?_)
  change Finset.fold (max : EReal → EReal → EReal) (Ideal.ofBits .f32 0xFF800000#32) (fun j => ab (rY A B j)) Finset.univ = _
  rw [word_bot]
  unfold mag
  rw [show (fun j => ab (rY A B j)) = fun j => ab (yy (bX A) (bW B) j) from funext fun j => congrArg ab (rY_eq A B j)]
  rfl

/-- The reference's result. -/
theorem ref_eq : (mulf (F := Ideal) (φ := .f32) (minimumf (broadcastInDim Cert.ReferenceIdeal.S4096x2048 ![] Cert.ReferenceIdeal.Gen.bcast_S_S4096x2048 (id (constant (F := Ideal) Cert.ReferenceIdeal.S_ .f32 0x42FE0000#32)))
      (maximumf (broadcastInDim Cert.ReferenceIdeal.S4096x2048 ![] Cert.ReferenceIdeal.Gen.bcast_S_S4096x2048 (id (constant (F := Ideal) Cert.ReferenceIdeal.S_ .f32 0xC2FE0000#32)))
        (Host.roundeven (Host.divf (rY A B) (broadcastInDim Cert.ReferenceIdeal.S4096x2048 ![] Cert.ReferenceIdeal.Gen.bcast_S_S4096x2048 (rS A B))))))
      (broadcastInDim Cert.ReferenceIdeal.S4096x2048 ![] Cert.ReferenceIdeal.Gen.bcast_S_S4096x2048 (rS A B)) : Cert.ReferenceIdeal.S4096x2048.Idx → EReal)
    = gg (bX A) (bW B) := by
  rw [show rS A B = fun _ => sc (bX A) (bW B) from funext (rS_eq A B), show rY A B = yy (bX A) (bW B) from funext (rY_eq A B)]
  rfl

end

end Cert.AR
-- ==== Proof.lean ====
/- The proof of the certificate's claim: the two frames of the kernel from the one run of `Proof/Launch.lean`, the
   reference's from its straight-line run, and the equality of the two results from that run's arrays. -/
module

public import proofs.«01_k».proof.Defs
public import proofs.«01_k».proof.Proof.Launch
public import proofs.«01_k».proof.Proof.Value
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 20000

noncomputable section

namespace Cert.Proof

open Idealize.ShloMosaic Idealize.ShloMosaic.TcCoe Idealize.SL.Sem

/-- The arguments are kept by the kernel's run, read at any instance of the float operations. -/
theorem kept {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : Cert.AR.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  ⟨(h c 0).trans (Cert.AR.finalA_x m c), (h c 1).trans (Cert.AR.finalA_w m c)⟩

theorem frame_KernelIdeal : Cert.quiescent_KernelIdeal := fun m ρ _ =>
  (θ_run Cert.KernelIdeal.defs _ _).mono (fun r h => ⟨kept m r h.1, h.2⟩) (Cert.AR.run_main (F := Ideal) m ρ)

/-- The run with its arguments kept, at any instance of the float operations. -/
theorem run_kept {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun r h => ⟨kept m r h.1, h.2⟩) (Cert.AR.run_main (F := F) m ρ)

/-- The kernel's body is the same text in the two programs. -/
theorem body_same : @Cert.KernelIdeal.cc0_body Bits _ _ = @Cert.Kernel.cc0_body Bits _ _ := rfl

theorem defs₀_same : Cert.KernelIdeal.defs₀ (F := Bits) = Cert.Kernel.defs₀ (F := Bits) := by
  unfold Cert.KernelIdeal.defs₀ Cert.Kernel.defs₀
  refine congrArg Defs.onTc ?_
  funext k x
  match k, x with
  | 0, (t, s) => dsimp only; rw [body_same]

theorem defs_same : Cert.KernelIdeal.defs (F := Bits) = Cert.Kernel.defs (F := Bits) := congrArg (Pipeline.defs _) defs₀_same

/-- The program as printed has the idealized program's text, so the same run at words is its frame. -/
theorem frame_Kernel : Cert.quiescent_Kernel := fun m ρ _ => by
  have h := run_kept (F := Bits) m ρ
  rw [defs_same] at h
  exact h

theorem frame_ReferenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two programs' results are the same array: from blocks of the reference's arguments every device ends with the
    reference's result. -/
theorem equal : Cert.algebraic_KernelIdeal_ReferenceIdeal := fun m ρ m' ρ' _ hb => by
  refine ⟨_, ?_, (θ_run Cert.ReferenceIdeal.defs _ _).mono (fun r h => ⟨((h 0).1).trans (Cert.AR.ref_eq _ _), (h 0).2⟩)
    (Cert.ReferenceIdeal.Value.run (F := Ideal) m' ρ')⟩
  refine (θ_run Cert.KernelIdeal.defs _ _).mono (fun r h c => ⟨?_, kept m r h.1 c⟩) (Cert.AR.run_main (F := Ideal) m ρ)
  refine ((h.1 c 2).trans (Cert.AR.finalA_out m c)).trans ?_
  exact congrArg₂ Cert.AR.gg (funext fun d => (hb d).1) (funext fun d => (hb d).2)

theorem claim : Cert.Claim :=
  ⟨Cert.Kernel.Gen.facts, Cert.KernelIdeal.Gen.facts, Cert.ReferenceIdeal.Gen.facts,
    frame_Kernel, frame_KernelIdeal, frame_ReferenceIdeal, trivial, equal⟩

end Cert.Proof

end
